-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_gate [hPre_finite_gate : Cert.Pre_finite_gate.Facts] (m : (ℓ : Loc Cert.FfnIdeal.nD Cert.FfnIdeal.τ Cert.FfnIdeal.sig) → Buf (Elt Ideal) ℓ) : Prop :=
  ∀ c : Dev Cert.FfnIdeal.nD,
    (Cert.Pre_finite_gate.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_gate [hPre_finite_gate : Cert.Pre_finite_gate.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_gate.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_gate [hFfnIdeal : Cert.FfnIdeal.Facts] [hPre_finite_gate : Cert.Pre_finite_gate.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_gate m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_finite_gate [hFfnReferenceIdeal : Cert.FfnReferenceIdeal.Facts] [hPre_finite_gate : Cert.Pre_finite_gate.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_gate m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal_pre_finite_gate [hFfnIdeal : Cert.FfnIdeal.Facts] [hFfnReferenceIdeal : Cert.FfnReferenceIdeal.Facts] [hPre_finite_gate : Cert.Pre_finite_gate.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite_gate m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v31) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_finite_gate (hFfnIdeal := hFfnIdeal) (hPre_finite_gate := hPre_finite_gate)
    ∧ quiescent_FfnReferenceIdeal (hFfnReferenceIdeal := hFfnReferenceIdeal)
    ∧ quiescent_FfnReferenceIdeal_pre_finite_gate (hFfnReferenceIdeal := hFfnReferenceIdeal) (hPre_finite_gate := hPre_finite_gate)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal_pre_finite_gate (hFfnIdeal := hFfnIdeal) (hFfnReferenceIdeal := hFfnReferenceIdeal) (hPre_finite_gate := hPre_finite_gate)
-- ==== Pre_finite.lean ====
abbrev S8x4096x8x128 : Shape := ⟨4, ![8, 4096, 8, 128]⟩
abbrev S8x4096x8x64 : Shape := ⟨4, ![8, 4096, 8, 64]⟩
abbrev S8x4096x64 : Shape := ⟨3, ![8, 4096, 64]⟩
abbrev S_ : Shape := ⟨0, ![]⟩

class Facts : Prop where
  bcast_S_S8x4096x8x128 : S_.BroadcastsInDim S8x4096x8x128 (![] : Fin 0 → Fin S8x4096x8x128.rank)
  reducesTo_S8x4096x8x128_S_d0_1_2_3 : S8x4096x8x128.ReducesTo [0, 1, 2, 3] S_
  h_S_ : 0 < S_.numel
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_
  bcast_S_S8x4096x64 : S_.BroadcastsInDim S8x4096x64 (![] : Fin 0 → Fin S8x4096x64.rank)
  reducesTo_S8x4096x64_S_d0_1_2 : S8x4096x64.ReducesTo [0, 1, 2] S_

variable [Facts]

def fn_part1 {F : FTy → Type} [FloatOps F] (main_v13 : IVec S_ 1) (main_v16 : IVec S8x4096x64 1) : IVec S_ 1 :=
  let main_c_5 : IVec S_ 1 := constantI S_ 1 1#1
  let main_v17 : IVec S_ 1 := (fun x v => Host.reduce IntOp.andi x v reducesTo_S8x4096x64_S_d0_1_2 h_S_) main_v16 main_c_5
  let main_v18 : IVec S_ 1 := andi main_v13 main_v17
  main_v18

def fn {F : FTy → Type} [FloatOps F] (main_arg0 : FVec F S8x4096x8x128 .f32) (main_arg1 : FVec F S8x4096x8x64 .f32) (main_arg2 : FVec F S8x4096x8x128 .f32) (main_arg3 : FVec F S8x4096x64 .f32) (main_arg4 : FVec F S8x4096x8x128 .f32) : IVec S_ 1 :=
  let main_v0 : FVec F S8x4096x8x128 .f32 := Host.absf main_arg0
  let main_cst : FVec F S_ .f32 := constant S_ .f32 0x7F800000#32
  let main_v1 : FVec F S8x4096x8x128 .f32 := broadcastInDim S8x4096x8x128 ![] bcast_S_S8x4096x8x128 main_cst
  let main_v2 : IVec S8x4096x8x128 1 := cmpf .olt main_v0 main_v1
  let main_c : IVec S_ 1 := constantI S_ 1 1#1
  let main_v3 : IVec S_ 1 := (fun x v => Host.reduce IntOp.andi x v reducesTo_S8x4096x8x128_S_d0_1_2_3 h_S_) main_v2 main_c
  let main_v4 : FVec F S8x4096x8x64 .f32 := Host.absf main_arg1
  let main_cst_0 : FVec F S_ .f32 := constant S_ .f32 0x7F800000#32
  let main_v5 : FVec F S8x4096x8x64 .f32 := broadcastInDim S8x4096x8x64 ![] bcast_S_S8x4096x8x64 main_cst_0
  let main_v6 : IVec S8x4096x8x64 1 := cmpf .olt main_v4 main_v5
  let main_c_1 : IVec S_ 1 := constantI S_ 1 1#1
  let main_v7 : IVec S_ 1 := (fun x v => Host.reduce IntOp.andi x v reducesTo_S8x4096x8x64_S_d0_1_2_3 h_S_) main_v6 main_c_1
  let main_v8 : IVec S_ 1 := andi main_v3 main_v7
  let main_v9 : FVec F S8x4096x8x128 .f32 := Host.absf main_arg2
  let main_cst_2 : FVec F S_ .f32 := constant S_ .f32 0x7F800000#32
  let main_v10 : FVec F S8x4096x8x128 .f32 := broadcastInDim S8x4096x8x128 ![] bcast_S_S8x4096x8x128 main_cst_2
  let main_v11 : IVec S8x4096x8x128 1 := cmpf .olt main_v9 main_v10
  let main_c_3 : IVec S_ 1 := constantI S_ 1 1#1
  let main_v12 : IVec S_ 1 := (fun x v => Host.reduce IntOp.andi x v reducesTo_S8x4096x8x128_S_d0_1_2_3 h_S_) main_v11 main_c_3
  let main_v13 : IVec S_ 1 := andi main_v8 main_v12
  let main_v14 : FVec F S8x4096x64 .f32 := Host.absf main_arg3
  let main_cst_4 : FVec F S_ .f32 := constant S_ .f32 0x7F800000#32
  let main_v15 : FVec F S8x4096x64 .f32 := broadcastInDim S8x4096x64 ![] bcast_S_S8x4096x64 main_cst_4
  let main_v16 : IVec S8x4096x64 1 := cmpf .olt main_v14 main_v15
  fn_part1 (F := F) main_v13 main_v16
-- ==== Pre_finite_gate.lean ====
abbrev S32768x2048 : Shape := ⟨2, ![32768, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S32768x2048 .f32) (main_arg1 : FVec F S2048 .f32) (main_arg2 : FVec F S2048x5632 .f32) (main_arg3 : FVec F S2048x5632 .f32) (main_arg4 : FVec F S5632x2048 .f32) (main_arg5 : FVec F S2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x5632 .f32 := Host.absf main_arg2
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  main_v13
-- ==== Kernel.lean ====
abbrev S8x4096x8x128 : Shape := ⟨4, ![8, 4096, 8, 128]⟩
abbrev S8x4096x8x64 : Shape := ⟨4, ![8, 4096, 8, 64]⟩
abbrev S8x4096x64 : Shape := ⟨3, ![8, 4096, 64]⟩
abbrev S_ : Shape := ⟨0, ![]⟩
abbrev S8x4096x8x32 : Shape := ⟨4, ![8, 4096, 8, 32]⟩
abbrev S8x4096x8x256 : Shape := ⟨4, ![8, 4096, 8, 256]⟩
abbrev S64x512x2048 : Shape := ⟨3, ![64, 512, 2048]⟩
abbrev S64x2048x512 : Shape := ⟨3, ![64, 2048, 512]⟩
abbrev S8x4096x32 : Shape := ⟨3, ![8, 4096, 32]⟩
abbrev S8x4096x128 : Shape := ⟨3, ![8, 4096, 128]⟩
abbrev S8x4096x1x128 : Shape := ⟨4, ![8, 4096, 1, 128]⟩
abbrev S32768x2048 : Shape := ⟨2, ![32768, 2048]⟩
abbrev S8x4096x8x16 : Shape := ⟨4, ![8, 4096, 8, 16]⟩
abbrev S8x4096x8x144 : Shape := ⟨4, ![8, 4096, 8, 144]⟩
abbrev S64x512x1152 : Shape := ⟨3, ![64, 512, 1152]⟩
abbrev S64x1152x512 : Shape := ⟨3, ![64, 1152, 512]⟩
abbrev S8x4096x2048 : Shape := ⟨3, ![8, 4096, 2048]⟩
abbrev S8x8x1152x512 : Shape := ⟨4, ![8, 8, 1152, 512]⟩
abbrev S64x1024x512 : Shape := ⟨3, ![64, 1024, 512]⟩
abbrev S2x1024x512 : Shape := ⟨3, ![2, 1024, 512]⟩
abbrev S1x4096x1024 : Shape := ⟨3, ![1, 4096, 1024]⟩
abbrev S1x8x576x512 : Shape := ⟨4, ![1, 8, 576, 512]⟩
abbrev S2x512x512 : Shape := ⟨3, ![2, 512, 512]⟩
abbrev S8x512x512 : Shape := ⟨3, ![8, 512, 512]⟩
abbrev S8x1x512 : Shape := ⟨3, ![8, 1, 512]⟩
abbrev S8x144x512 : Shape := ⟨3, ![8, 144, 512]⟩
abbrev S1x512x256 : Shape := ⟨3, ![1, 512, 256]⟩
abbrev S512x256 : Shape := ⟨2, ![512, 256]⟩
abbrev S1x256x512 : Shape := ⟨3, ![1, 256, 512]⟩
abbrev S256x512 : Shape := ⟨2, ![256, 512]⟩
abbrev S512x512 : Shape := ⟨2, ![512, 512]⟩
abbrev S1x512x512 : Shape := ⟨3, ![1, 512, 512]⟩
abbrev S1x1x512 : Shape := ⟨3, ![1, 1, 512]⟩
abbrev S1x512 : Shape := ⟨2, ![1, 512]⟩
abbrev S512 : Shape := ⟨1, ![512]⟩
abbrev S1x144x512 : Shape := ⟨3, ![1, 144, 512]⟩
abbrev S144x512 : Shape := ⟨2, ![144, 512]⟩
abbrev S1x1x144x512 : Shape := ⟨4, ![1, 1, 144, 512]⟩
abbrev S1x128x512 : Shape := ⟨3, ![1, 128, 512]⟩
abbrev S128x512 : Shape := ⟨2, ![128, 512]⟩

abbrev nBuf : Space → Nat
  | .hbm => 47
  | .vmem => 12
  | .smem => 0
  | _ => 0

abbrev bufTy : (tb : Table) → Fin (tcTables nBuf tb) → BufTy
  | .hbm, ⟨0, _⟩ => ⟨S8x4096x8x128, .f32⟩
  | .hbm, ⟨1, _⟩ => ⟨S8x4096x8x64, .f32⟩
  | .hbm, ⟨2, _⟩ => ⟨S8x4096x8x128, .f32⟩
  | .hbm, ⟨3, _⟩ => ⟨S8x4096x64, .f32⟩
  | .hbm, ⟨4, _⟩ => ⟨S8x4096x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x4096x8x32, .f32⟩
  | .hbm, ⟨10, _⟩ => ⟨S_, .i32⟩
  | .hbm, ⟨11, _⟩ => ⟨S_, .f32⟩
  | .hbm, ⟨12, _⟩ => ⟨S8x4096x8x64, .f32⟩
  | .hbm, ⟨13, _⟩ => ⟨S8x4096x8x32, .f32⟩
  | .hbm, ⟨14, _⟩ => ⟨S_, .i32⟩
  | .hbm, ⟨15, _⟩ => ⟨S_, .f32⟩
  | .hbm, ⟨16, _⟩ => ⟨S8x4096x8x64, .f32⟩
  | .hbm, ⟨17, _⟩ => ⟨S8x4096x8x128, .f32⟩
  | .hbm, ⟨18, _⟩ => ⟨S8x4096x8x256, .f32⟩
  | .hbm, ⟨19, _⟩ => ⟨S8x4096x8x256, .f32⟩
  | .hbm, ⟨20, _⟩ => ⟨S8x4096x8x256, .f32⟩
  | .hbm, ⟨21, _⟩ => ⟨S8x4096x8x256, .bf16⟩
  | .hbm, ⟨22, _⟩ => ⟨S64x512x2048, .bf16⟩
  | .hbm, ⟨23, _⟩ => ⟨S64x2048x512, .bf16⟩
  | .hbm, ⟨24, _⟩ => ⟨S8x4096x32, .f32⟩
  | .hbm, ⟨25, _⟩ => ⟨S_, .i32⟩
  | .hbm, ⟨26, _⟩ => ⟨S_, .f32⟩
  | .hbm, ⟨27, _⟩ => ⟨S8x4096x64, .f32⟩
  | .hbm, ⟨28, _⟩ => ⟨S8x4096x32, .f32⟩
  | .hbm, ⟨29, _⟩ => ⟨S_, .i32⟩
  | .hbm, ⟨30, _⟩ => ⟨S_, .f32⟩
  | .hbm, ⟨31, _⟩ => ⟨S8x4096x64, .f32⟩
  | .hbm, ⟨32, _⟩ => ⟨S8x4096x128, .f32⟩
  | .hbm, ⟨33, _⟩ => ⟨S8x4096x1x128, .f32⟩
  | .hbm, ⟨34, _⟩ => ⟨S8x4096x8x128, .f32⟩
  | .hbm, ⟨35, _⟩ => ⟨S8x4096x8x256, .f32⟩
  | .hbm, ⟨36, _⟩ => ⟨S8x4096x8x256, .bf16⟩
  | .hbm, ⟨37, _⟩ => ⟨S32768x2048, .bf16⟩
  | .hbm, ⟨38, _⟩ => ⟨S_, .f32⟩
  | .hbm, ⟨39, _⟩ => ⟨S8x4096x8x16, .f32⟩
  | .hbm, ⟨40, _⟩ => ⟨S8x4096x8x144, .f32⟩
  | .hbm, ⟨41, _⟩ => ⟨S8x4096x8x144, .bf16⟩
  | .hbm, ⟨42, _⟩ => ⟨S64x512x1152, .bf16⟩
  | .hbm, ⟨43, _⟩ => ⟨S64x1152x512, .bf16⟩
  | .hbm, ⟨44, _⟩ => ⟨S8x4096x2048, .bf16⟩
  | .hbm, ⟨45, _⟩ => ⟨S8x8x1152x512, .bf16⟩
  | .hbm, ⟨46, _⟩ => ⟨S64x1024x512, .bf16⟩
  | .local _ .vmem, ⟨0, _⟩ => ⟨S2x1024x512, .bf16⟩
  | .local _ .vmem, ⟨1, _⟩ => ⟨S2x1024x512, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x8x576x512, .bf16⟩
  | .local _ .vmem, ⟨5, _⟩ => ⟨S1x8x576x512, .bf16⟩
  | .local _ .vmem, ⟨6, _⟩ => ⟨S2x512x512, .bf16⟩
  | .local _ .vmem, ⟨7, _⟩ => ⟨S2x512x512, .bf16⟩
  | .local _ .vmem, ⟨8, _⟩ => ⟨S8x512x512, .f32⟩
  | .local _ .vmem, ⟨9, _⟩ => ⟨S8x512x512, .f32⟩
  | .local _ .vmem, ⟨10, _⟩ => ⟨S8x1x512, .f32⟩
  | .local _ .vmem, ⟨11, _⟩ => ⟨S8x144x512, .f32⟩
  | _, _ => ⟨S8x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_call3_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_mult1 : BitVec 32 :=
  let c0_i32 : BitVec 32 := 0#32
  c0_i32
@[reducible] def k0_t1_loop (i : grid0.Coords) : Scf.Loop 32 :=
  let c0_i32_69 : BitVec 32 := 0#32
  let arg2 : BitVec 32 := BitVec.ofNat 32 (i 2).val
  let v81 : BitVec 32 := Scalar.subi arg2 c0_i32_69
  let c1_i32 : BitVec 32 := 1#32
  let v83 : BitVec 32 := Scalar.divsi v81 c1_i32
  let v84 : BitVec 32 := Scalar.muli v83 c1_i32
  let v85 : BitVec 32 := Scalar.addi c0_i32_69 v84
  let c1_i32_70 : BitVec 32 := 1#32
  ⟨c0_i32_69, v85, c1_i32_70⟩
def k0_mult2 (i : grid0.Coords) (k0_t1 : Fin (k0_t1_loop i).trips) : BitVec 32 :=
  let c2_i32_427 : BitVec 32 := 2#32
  let c0_i32_69 : BitVec 32 := 0#32
  let c1_i32_70 : BitVec 32 := 1#32
  let arg11 : BitVec 32 := Scf.iv c0_i32_69 c1_i32_70 k0_t1
  let v585 : BitVec 32 := Scalar.muli c2_i32_427 arg11
  let c1_i32_428 : BitVec 32 := 1#32
  let v586 : BitVec 32 := Scalar.addi v585 c1_i32_428
  let c512_i32_429 : BitVec 32 := 512#32
  let v587 : BitVec 32 := Scalar.muli v586 c512_i32_429
  v587
def k0_off1 (i : grid0.Coords) (k0_t1 : Fin (k0_t1_loop i).trips) (c1_i32_428 : BitVec 32) : Fin 3 → Nat :=
  let c0_430 : Index := 0#32
  let c2_i32_427 : BitVec 32 := 2#32
  let c0_i32_69 : BitVec 32 := 0#32
  let c1_i32_70 : BitVec 32 := 1#32
  let arg11 : BitVec 32 := Scf.iv c0_i32_69 c1_i32_70 k0_t1
  let v585 : BitVec 32 := Scalar.muli c2_i32_427 arg11
  let v586 : BitVec 32 := Scalar.addi v585 c1_i32_428
  let c512_i32_429 : BitVec 32 := 512#32
  let v587 : BitVec 32 := Scalar.muli v586 c512_i32_429
  let v588 : BitVec 32 := v587
  let v589 : Index := Scalar.indexCast v588
  let c0_431 : Index := 0#32
  ![0, v589.toNat, 0]
def k0_off2 (i : grid0.Coords) (k0_t1 : Fin (k0_t1_loop i).trips) (c1_i32_428 : BitVec 32) : Fin 3 → Nat :=
  let c0_448 : Index := 0#32
  let c2_i32_427 : BitVec 32 := 2#32
  let c0_i32_69 : BitVec 32 := 0#32
  let c1_i32_70 : BitVec 32 := 1#32
  let arg11 : BitVec 32 := Scf.iv c0_i32_69 c1_i32_70 k0_t1
  let v585 : BitVec 32 := Scalar.muli c2_i32_427 arg11
  let v586 : BitVec 32 := Scalar.addi v585 c1_i32_428
  let c512_i32_429 : BitVec 32 := 512#32
  let v587 : BitVec 32 := Scalar.muli v586 c512_i32_429
  let v588 : BitVec 32 := v587
  let v607 : Index := Scalar.indexCast v588
  let c256_449 : Index := 256#32
  ![0, v607.toNat, 256]
def k0_off3 (i : grid0.Coords) (k0_t1 : Fin (k0_t1_loop i).trips) (c1_i32_428 : BitVec 32) : Fin 3 → Nat :=
  let c0_466 : Index := 0#32
  let c2_i32_427 : BitVec 32 := 2#32
  let c0_i32_69 : BitVec 32 := 0#32
  let c1_i32_70 : BitVec 32 := 1#32
  let arg11 : BitVec 32 := Scf.iv c0_i32_69 c1_i32_70 k0_t1
  let v585 : BitVec 32 := Scalar.muli c2_i32_427 arg11
  let v586 : BitVec 32 := Scalar.addi v585 c1_i32_428
  let c512_i32_429 : BitVec 32 := 512#32
  let v587 : BitVec 32 := Scalar.muli v586 c512_i32_429
  let v588 : BitVec 32 := v587
  let v625 : Index := Scalar.indexCast v588
  let c512_467 : Index := 512#32
  ![0, v625.toNat, 512]
def k0_off4 (i : grid0.Coords) (k0_t1 : Fin (k0_t1_loop i).trips) (c1_i32_428 : BitVec 32) : Fin 3 → Nat :=
  let c0_484 : Index := 0#32
  let c2_i32_427 : BitVec 32 := 2#32
  let c0_i32_69 : BitVec 32 := 0#32
  let c1_i32_70 : BitVec 32 := 1#32
  let arg11 : BitVec 32 := Scf.iv c0_i32_69 c1_i32_70 k0_t1
  let v585 : BitVec 32 := Scalar.muli c2_i32_427 arg11
  let v586 : BitVec 32 := Scalar.addi v585 c1_i32_428
  let c512_i32_429 : BitVec 32 := 512#32
  let v587 : BitVec 32 := Scalar.muli v586 c512_i32_429
  let v588 : BitVec 32 := v587
  let v643 : Index := Scalar.indexCast v588
  let c768_485 : Index := 768#32
  ![0, v643.toNat, 768]
def k0_off5 (i : grid0.Coords) (k0_t1 : Fin (k0_t1_loop i).trips) : Fin 4 → Nat :=
  let c0_512 : Index := 0#32
  let c2_i32_427 : BitVec 32 := 2#32
  let c0_i32_69 : BitVec 32 := 0#32
  let c1_i32_70 : BitVec 32 := 1#32
  let arg11 : BitVec 32 := Scf.iv c0_i32_69 c1_i32_70 k0_t1
  let v585 : BitVec 32 := Scalar.muli c2_i32_427 arg11
  let v677 : Index := Scalar.indexCast v585
  let c0_513 : Index := 0#32
  let c0_514 : Index := 0#32
  ![0, v677.toNat, 0, 0]
def k0_off6 (i : grid0.Coords) (k0_t1 : Fin (k0_t1_loop i).trips) : Fin 4 → Nat :=
  let c0_552 : Index := 0#32
  let c2_i32_427 : BitVec 32 := 2#32
  let c0_i32_69 : BitVec 32 := 0#32
  let c1_i32_70 : BitVec 32 := 1#32
  let arg11 : BitVec 32 := Scf.iv c0_i32_69 c1_i32_70 k0_t1
  let v585 : BitVec 32 := Scalar.muli c2_i32_427 arg11
  let v733 : Index := Scalar.indexCast v585
  let c144_553 : Index := 144#32
  let c0_554 : Index := 0#32
  ![0, v733.toNat, 144, 0]
def k0_off7 (i : grid0.Coords) (k0_t1 : Fin (k0_t1_loop i).trips) : Fin 4 → Nat :=
  let c0_592 : Index := 0#32
  let c2_i32_427 : BitVec 32 := 2#32
  let c0_i32_69 : BitVec 32 := 0#32
  let c1_i32_70 : BitVec 32 := 1#32
  let arg11 : BitVec 32 := Scf.iv c0_i32_69 c1_i32_70 k0_t1
  let v585 : BitVec 32 := Scalar.muli c2_i32_427 arg11
  let v789 : Index := Scalar.indexCast v585
  let c288_593 : Index := 288#32
  let c0_594 : Index := 0#32
  ![0, v789.toNat, 288, 0]
def k0_off8 (i : grid0.Coords) (k0_t1 : Fin (k0_t1_loop i).trips) : Fin 4 → Nat :=
  let c0_632 : Index := 0#32
  let c2_i32_427 : BitVec 32 := 2#32
  let c0_i32_69 : BitVec 32 := 0#32
  let c1_i32_70 : BitVec 32 := 1#32
  let arg11 : BitVec 32 := Scf.iv c0_i32_69 c1_i32_70 k0_t1
  let v585 : BitVec 32 := Scalar.muli c2_i32_427 arg11
  let v845 : Index := Scalar.indexCast v585
  let c432_633 : Index := 432#32
  let c0_634 : Index := 0#32
  ![0, v845.toNat, 432, 0]
def k0_mult3 (i : grid0.Coords) (k0_t1 : Fin (k0_t1_loop i).trips) : BitVec 32 :=
  let c2_i32_427 : BitVec 32 := 2#32
  let c0_i32_69 : BitVec 32 := 0#32
  let c1_i32_70 : BitVec 32 := 1#32
  let arg11 : BitVec 32 := Scf.iv c0_i32_69 c1_i32_70 k0_t1
  let v585 : BitVec 32 := Scalar.muli c2_i32_427 arg11
  let c2_i32_662 : BitVec 32 := 2#32
  let v885 : BitVec 32 := Scalar.addi v585 c2_i32_662
  let c512_i32_663 : BitVec 32 := 512#32
  let v886 : BitVec 32 := Scalar.muli v885 c512_i32_663
  v886
def k0_off9 (i : grid0.Coords) (k0_t1 : Fin (k0_t1_loop i).trips) : Fin 4 → Nat :=
  let c0_747 : Index := 0#32
  let c2_i32_427 : BitVec 32 := 2#32
  let c0_i32_69 : BitVec 32 := 0#32
  let c1_i32_70 : BitVec 32 := 1#32
  let arg11 : BitVec 32 := Scf.iv c0_i32_69 c1_i32_70 k0_t1
  let v585 : BitVec 32 := Scalar.muli c2_i32_427 arg11
  let c1_i32_736 : BitVec 32 := 1#32
  let v960 : BitVec 32 := Scalar.addi v585 c1_i32_736
  let v977 : Index := Scalar.indexCast v960
  let c0_748 : Index := 0#32
  let c0_749 : Index := 0#32
  ![0, v977.toNat, 0, 0]
def k0_off10 (i : grid0.Coords) (k0_t1 : Fin (k0_t1_loop i).trips) : Fin 4 → Nat :=
  let c0_787 : Index := 0#32
  let c2_i32_427 : BitVec 32 := 2#32
  let c0_i32_69 : BitVec 32 := 0#32
  let c1_i32_70 : BitVec 32 := 1#32
  let arg11 : BitVec 32 := Scf.iv c0_i32_69 c1_i32_70 k0_t1
  let v585 : BitVec 32 := Scalar.muli c2_i32_427 arg11
  let c1_i32_736 : BitVec 32 := 1#32
  let v960 : BitVec 32 := Scalar.addi v585 c1_i32_736
  let v1033 : Index := Scalar.indexCast v960
  let c144_788 : Index := 144#32
  let c0_789 : Index := 0#32
  ![0, v1033.toNat, 144, 0]
def k0_off11 (i : grid0.Coords) (k0_t1 : Fin (k0_t1_loop i).trips) : Fin 4 → Nat :=
  let c0_827 : Index := 0#32
  let c2_i32_427 : BitVec 32 := 2#32
  let c0_i32_69 : BitVec 32 := 0#32
  let c1_i32_70 : BitVec 32 := 1#32
  let arg11 : BitVec 32 := Scf.iv c0_i32_69 c1_i32_70 k0_t1
  let v585 : BitVec 32 := Scalar.muli c2_i32_427 arg11
  let c1_i32_736 : BitVec 32 := 1#32
  let v960 : BitVec 32 := Scalar.addi v585 c1_i32_736
  let v1089 : Index := Scalar.indexCast v960
  let c288_828 : Index := 288#32
  let c0_829 : Index := 0#32
  ![0, v1089.toNat, 288, 0]
def k0_off12 (i : grid0.Coords) (k0_t1 : Fin (k0_t1_loop i).trips) : Fin 4 → Nat :=
  let c0_867 : Index := 0#32
  let c2_i32_427 : BitVec 32 := 2#32
  let c0_i32_69 : BitVec 32 := 0#32
  let c1_i32_70 : BitVec 32 := 1#32
  let arg11 : BitVec 32 := Scf.iv c0_i32_69 c1_i32_70 k0_t1
  let v585 : BitVec 32 := Scalar.muli c2_i32_427 arg11
  let c1_i32_736 : BitVec 32 := 1#32
  let v960 : BitVec 32 := Scalar.addi v585 c1_i32_736
  let v1145 : Index := Scalar.indexCast v960
  let c432_868 : Index := 432#32
  let c0_869 : Index := 0#32
  ![0, v1145.toNat, 432, 0]
@[reducible] def k0_t2_loop (i : grid0.Coords) : Scf.Loop 32 :=
  let c0_i32_69 : BitVec 32 := 0#32
  let arg2 : BitVec 32 := BitVec.ofNat 32 (i 2).val
  let v81 : BitVec 32 := Scalar.subi arg2 c0_i32_69
  let c1_i32 : BitVec 32 := 1#32
  let v83 : BitVec 32 := Scalar.divsi v81 c1_i32
  let v84 : BitVec 32 := Scalar.muli v83 c1_i32
  let v85 : BitVec 32 := Scalar.addi c0_i32_69 v84
  let v82 : BitVec 32 := Scalar.addi c0_i32_69 v81
  let c1_i32_71 : BitVec 32 := 1#32
  ⟨v85, v82, c1_i32_71⟩
def k0_mult4 (i : grid0.Coords) (k0_t2 : Fin (k0_t2_loop i).trips) : BitVec 32 :=
  let c2_i32_427 : BitVec 32 := 2#32
  let c0_i32_69 : BitVec 32 := 0#32
  let arg2 : BitVec 32 := BitVec.ofNat 32 (i 2).val
  let v81 : BitVec 32 := Scalar.subi arg2 c0_i32_69
  let c1_i32 : BitVec 32 := 1#32
  let v83 : BitVec 32 := Scalar.divsi v81 c1_i32
  let v84 : BitVec 32 := Scalar.muli v83 c1_i32
  let v85 : BitVec 32 := Scalar.addi c0_i32_69 v84
  let c1_i32_71 : BitVec 32 := 1#32
  let arg11 : BitVec 32 := Scf.iv v85 c1_i32_71 k0_t2
  let v585 : BitVec 32 := Scalar.muli c2_i32_427 arg11
  let c1_i32_428 : BitVec 32 := 1#32
  let v586 : BitVec 32 := Scalar.addi v585 c1_i32_428
  let c512_i32_429 : BitVec 32 := 512#32
  let v587 : BitVec 32 := Scalar.muli v586 c512_i32_429
  v587
def k0_off13 (i : grid0.Coords) (k0_t2 : Fin (k0_t2_loop i).trips) (c1_i32_428 : BitVec 32) : Fin 3 → Nat :=
  let c0_430 : Index := 0#32
  let c2_i32_427 : BitVec 32 := 2#32
  let c0_i32_69 : BitVec 32 := 0#32
  let arg2 : BitVec 32 := BitVec.ofNat 32 (i 2).val
  let v81 : BitVec 32 := Scalar.subi arg2 c0_i32_69
  let c1_i32 : BitVec 32 := 1#32
  let v83 : BitVec 32 := Scalar.divsi v81 c1_i32
  let v84 : BitVec 32 := Scalar.muli v83 c1_i32
  let v85 : BitVec 32 := Scalar.addi c0_i32_69 v84
  let c1_i32_71 : BitVec 32 := 1#32
  let arg11 : BitVec 32 := Scf.iv v85 c1_i32_71 k0_t2
  let v585 : BitVec 32 := Scalar.muli c2_i32_427 arg11
  let v586 : BitVec 32 := Scalar.addi v585 c1_i32_428
  let c512_i32_429 : BitVec 32 := 512#32
  let v587 : BitVec 32 := Scalar.muli v586 c512_i32_429
  let v588 : BitVec 32 := v587
  let v589 : Index := Scalar.indexCast v588
  let c0_431 : Index := 0#32
  ![0, v589.toNat, 0]
def k0_off14 (i : grid0.Coords) (k0_t2 : Fin (k0_t2_loop i).trips) (c1_i32_428 : BitVec 32) : Fin 3 → Nat :=
  let c0_448 : Index := 0#32
  let c2_i32_427 : BitVec 32 := 2#32
  let c0_i32_69 : BitVec 32 := 0#32
  let arg2 : BitVec 32 := BitVec.ofNat 32 (i 2).val
  let v81 : BitVec 32 := Scalar.subi arg2 c0_i32_69
  let c1_i32 : BitVec 32 := 1#32
  let v83 : BitVec 32 := Scalar.divsi v81 c1_i32
  let v84 : BitVec 32 := Scalar.muli v83 c1_i32
  let v85 : BitVec 32 := Scalar.addi c0_i32_69 v84
  let c1_i32_71 : BitVec 32 := 1#32
  let arg11 : BitVec 32 := Scf.iv v85 c1_i32_71 k0_t2
  let v585 : BitVec 32 := Scalar.muli c2_i32_427 arg11
  let v586 : BitVec 32 := Scalar.addi v585 c1_i32_428
  let c512_i32_429 : BitVec 32 := 512#32
  let v587 : BitVec 32 := Scalar.muli v586 c512_i32_429
  let v588 : BitVec 32 := v587
  let v607 : Index := Scalar.indexCast v588
  let c256_449 : Index := 256#32
  ![0, v607.toNat, 256]
def k0_off15 (i : grid0.Coords) (k0_t2 : Fin (k0_t2_loop i).trips) (c1_i32_428 : BitVec 32) : Fin 3 → Nat :=
  let c0_466 : Index := 0#32
  let c2_i32_427 : BitVec 32 := 2#32
  let c0_i32_69 : BitVec 32 := 0#32
  let arg2 : BitVec 32 := BitVec.ofNat 32 (i 2).val
  let v81 : BitVec 32 := Scalar.subi arg2 c0_i32_69
  let c1_i32 : BitVec 32 := 1#32
  let v83 : BitVec 32 := Scalar.divsi v81 c1_i32
  let v84 : BitVec 32 := Scalar.muli v83 c1_i32
  let v85 : BitVec 32 := Scalar.addi c0_i32_69 v84
  let c1_i32_71 : BitVec 32 := 1#32
  let arg11 : BitVec 32 := Scf.iv v85 c1_i32_71 k0_t2
  let v585 : BitVec 32 := Scalar.muli c2_i32_427 arg11
  let v586 : BitVec 32 := Scalar.addi v585 c1_i32_428
  let c512_i32_429 : BitVec 32 := 512#32
  let v587 : BitVec 32 := Scalar.muli v586 c512_i32_429
  let v588 : BitVec 32 := v587
  let v625 : Index := Scalar.indexCast v588
  let c512_467 : Index := 512#32
  ![0, v625.toNat, 512]
def k0_off16 (i : grid0.Coords) (k0_t2 : Fin (k0_t2_loop i).trips) (c1_i32_428 : BitVec 32) : Fin 3 → Nat :=
  let c0_484 : Index := 0#32
  let c2_i32_427 : BitVec 32 := 2#32
  let c0_i32_69 : BitVec 32 := 0#32
  let arg2 : BitVec 32 := BitVec.ofNat 32 (i 2).val
  let v81 : BitVec 32 := Scalar.subi arg2 c0_i32_69
  let c1_i32 : BitVec 32 := 1#32
  let v83 : BitVec 32 := Scalar.divsi v81 c1_i32
  let v84 : BitVec 32 := Scalar.muli v83 c1_i32
  let v85 : BitVec 32 := Scalar.addi c0_i32_69 v84
  let c1_i32_71 : BitVec 32 := 1#32
  let arg11 : BitVec 32 := Scf.iv v85 c1_i32_71 k0_t2
  let v585 : BitVec 32 := Scalar.muli c2_i32_427 arg11
  let v586 : BitVec 32 := Scalar.addi v585 c1_i32_428
  let c512_i32_429 : BitVec 32 := 512#32
  let v587 : BitVec 32 := Scalar.muli v586 c512_i32_429
  let v588 : BitVec 32 := v587
  let v643 : Index := Scalar.indexCast v588
  let c768_485 : Index := 768#32
  ![0, v643.toNat, 768]
def k0_off17 (i : grid0.Coords) (k0_t2 : Fin (k0_t2_loop i).trips) : Fin 4 → Nat :=
  let c0_512 : Index := 0#32
  let c2_i32_427 : BitVec 32 := 2#32
  let c0_i32_69 : BitVec 32 := 0#32
  let arg2 : BitVec 32 := BitVec.ofNat 32 (i 2).val
  let v81 : BitVec 32 := Scalar.subi arg2 c0_i32_69
  let c1_i32 : BitVec 32 := 1#32
  let v83 : BitVec 32 := Scalar.divsi v81 c1_i32
  let v84 : BitVec 32 := Scalar.muli v83 c1_i32
  let v85 : BitVec 32 := Scalar.addi c0_i32_69 v84
  let c1_i32_71 : BitVec 32 := 1#32
  let arg11 : BitVec 32 := Scf.iv v85 c1_i32_71 k0_t2
  let v585 : BitVec 32 := Scalar.muli c2_i32_427 arg11
  let v677 : Index := Scalar.indexCast v585
  let c0_513 : Index := 0#32
  let c0_514 : Index := 0#32
  ![0, v677.toNat, 0, 0]
def k0_off18 (i : grid0.Coords) (k0_t2 : Fin (k0_t2_loop i).trips) : Fin 4 → Nat :=
  let c0_552 : Index := 0#32
  let c2_i32_427 : BitVec 32 := 2#32
  let c0_i32_69 : BitVec 32 := 0#32
  let arg2 : BitVec 32 := BitVec.ofNat 32 (i 2).val
  let v81 : BitVec 32 := Scalar.subi arg2 c0_i32_69
  let c1_i32 : BitVec 32 := 1#32
  let v83 : BitVec 32 := Scalar.divsi v81 c1_i32
  let v84 : BitVec 32 := Scalar.muli v83 c1_i32
  let v85 : BitVec 32 := Scalar.addi c0_i32_69 v84
  let c1_i32_71 : BitVec 32 := 1#32
  let arg11 : BitVec 32 := Scf.iv v85 c1_i32_71 k0_t2
  let v585 : BitVec 32 := Scalar.muli c2_i32_427 arg11
  let v733 : Index := Scalar.indexCast v585
  let c144_553 : Index := 144#32
  let c0_554 : Index := 0#32
  ![0, v733.toNat, 144, 0]
def k0_off19 (i : grid0.Coords) (k0_t2 : Fin (k0_t2_loop i).trips) : Fin 4 → Nat :=
  let c0_592 : Index := 0#32
  let c2_i32_427 : BitVec 32 := 2#32
  let c0_i32_69 : BitVec 32 := 0#32
  let arg2 : BitVec 32 := BitVec.ofNat 32 (i 2).val
  let v81 : BitVec 32 := Scalar.subi arg2 c0_i32_69
  let c1_i32 : BitVec 32 := 1#32
  let v83 : BitVec 32 := Scalar.divsi v81 c1_i32
  let v84 : BitVec 32 := Scalar.muli v83 c1_i32
  let v85 : BitVec 32 := Scalar.addi c0_i32_69 v84
  let c1_i32_71 : BitVec 32 := 1#32
  let arg11 : BitVec 32 := Scf.iv v85 c1_i32_71 k0_t2
  let v585 : BitVec 32 := Scalar.muli c2_i32_427 arg11
  let v789 : Index := Scalar.indexCast v585
  let c288_593 : Index := 288#32
  let c0_594 : Index := 0#32
  ![0, v789.toNat, 288, 0]
def k0_off20 (i : grid0.Coords) (k0_t2 : Fin (k0_t2_loop i).trips) : Fin 4 → Nat :=
  let c0_632 : Index := 0#32
  let c2_i32_427 : BitVec 32 := 2#32
  let c0_i32_69 : BitVec 32 := 0#32
  let arg2 : BitVec 32 := BitVec.ofNat 32 (i 2).val
  let v81 : BitVec 32 := Scalar.subi arg2 c0_i32_69
  let c1_i32 : BitVec 32 := 1#32
  let v83 : BitVec 32 := Scalar.divsi v81 c1_i32
  let v84 : BitVec 32 := Scalar.muli v83 c1_i32
  let v85 : BitVec 32 := Scalar.addi c0_i32_69 v84
  let c1_i32_71 : BitVec 32 := 1#32
  let arg11 : BitVec 32 := Scf.iv v85 c1_i32_71 k0_t2
  let v585 : BitVec 32 := Scalar.muli c2_i32_427 arg11
  let v845 : Index := Scalar.indexCast v585
  let c432_633 : Index := 432#32
  let c0_634 : Index := 0#32
  ![0, v845.toNat, 432, 0]
def k0_mult5 (i : grid0.Coords) (k0_t2 : Fin (k0_t2_loop i).trips) : BitVec 32 :=
  let c2_i32_427 : BitVec 32 := 2#32
  let c0_i32_69 : BitVec 32 := 0#32
  let arg2 : BitVec 32 := BitVec.ofNat 32 (i 2).val
  let v81 : BitVec 32 := Scalar.subi arg2 c0_i32_69
  let c1_i32 : BitVec 32 := 1#32
  let v83 : BitVec 32 := Scalar.divsi v81 c1_i32
  let v84 : BitVec 32 := Scalar.muli v83 c1_i32
  let v85 : BitVec 32 := Scalar.addi c0_i32_69 v84
  let c1_i32_71 : BitVec 32 := 1#32
  let arg11 : BitVec 32 := Scf.iv v85 c1_i32_71 k0_t2
  let v585 : BitVec 32 := Scalar.muli c2_i32_427 arg11
  let c2_i32_662 : BitVec 32 := 2#32
  let v885 : BitVec 32 := Scalar.addi v585 c2_i32_662
  let c512_i32_663 : BitVec 32 := 512#32
  let v886 : BitVec 32 := Scalar.muli v885 c512_i32_663
  v886
def k0_off21 (i : grid0.Coords) (k0_t2 : Fin (k0_t2_loop i).trips) : Fin 4 → Nat :=
  let c0_747 : Index := 0#32
  let c2_i32_427 : BitVec 32 := 2#32
  let c0_i32_69 : BitVec 32 := 0#32
  let arg2 : BitVec 32 := BitVec.ofNat 32 (i 2).val
  let v81 : BitVec 32 := Scalar.subi arg2 c0_i32_69
  let c1_i32 : BitVec 32 := 1#32
  let v83 : BitVec 32 := Scalar.divsi v81 c1_i32
  let v84 : BitVec 32 := Scalar.muli v83 c1_i32
  let v85 : BitVec 32 := Scalar.addi c0_i32_69 v84
  let c1_i32_71 : BitVec 32 := 1#32
  let arg11 : BitVec 32 := Scf.iv v85 c1_i32_71 k0_t2
  let v585 : BitVec 32 := Scalar.muli c2_i32_427 arg11
  let c1_i32_736 : BitVec 32 := 1#32
  let v960 : BitVec 32 := Scalar.addi v585 c1_i32_736
  let v977 : Index := Scalar.indexCast v960
  let c0_748 : Index := 0#32
  let c0_749 : Index := 0#32
  ![0, v977.toNat, 0, 0]
def k0_off22 (i : grid0.Coords) (k0_t2 : Fin (k0_t2_loop i).trips) : Fin 4 → Nat :=
  let c0_787 : Index := 0#32
  let c2_i32_427 : BitVec 32 := 2#32
  let c0_i32_69 : BitVec 32 := 0#32
  let arg2 : BitVec 32 := BitVec.ofNat 32 (i 2).val
  let v81 : BitVec 32 := Scalar.subi arg2 c0_i32_69
  let c1_i32 : BitVec 32 := 1#32
  let v83 : BitVec 32 := Scalar.divsi v81 c1_i32
  let v84 : BitVec 32 := Scalar.muli v83 c1_i32
  let v85 : BitVec 32 := Scalar.addi c0_i32_69 v84
  let c1_i32_71 : BitVec 32 := 1#32
  let arg11 : BitVec 32 := Scf.iv v85 c1_i32_71 k0_t2
  let v585 : BitVec 32 := Scalar.muli c2_i32_427 arg11
  let c1_i32_736 : BitVec 32 := 1#32
  let v960 : BitVec 32 := Scalar.addi v585 c1_i32_736
  let v1033 : Index := Scalar.indexCast v960
  let c144_788 : Index := 144#32
  let c0_789 : Index := 0#32
  ![0, v1033.toNat, 144, 0]
def k0_off23 (i : grid0.Coords) (k0_t2 : Fin (k0_t2_loop i).trips) : Fin 4 → Nat :=
  let c0_827 : Index := 0#32
  let c2_i32_427 : BitVec 32 := 2#32
  let c0_i32_69 : BitVec 32 := 0#32
  let arg2 : BitVec 32 := BitVec.ofNat 32 (i 2).val
  let v81 : BitVec 32 := Scalar.subi arg2 c0_i32_69
  let c1_i32 : BitVec 32 := 1#32
  let v83 : BitVec 32 := Scalar.divsi v81 c1_i32
  let v84 : BitVec 32 := Scalar.muli v83 c1_i32
  let v85 : BitVec 32 := Scalar.addi c0_i32_69 v84
  let c1_i32_71 : BitVec 32 := 1#32
  let arg11 : BitVec 32 := Scf.iv v85 c1_i32_71 k0_t2
  let v585 : BitVec 32 := Scalar.muli c2_i32_427 arg11
  let c1_i32_736 : BitVec 32 := 1#32
  let v960 : BitVec 32 := Scalar.addi v585 c1_i32_736
  let v1089 : Index := Scalar.indexCast v960
  let c288_828 : Index := 288#32
  let c0_829 : Index := 0#32
  ![0, v1089.toNat, 288, 0]
def k0_off24 (i : grid0.Coords) (k0_t2 : Fin (k0_t2_loop i).trips) : Fin 4 → Nat :=
  let c0_867 : Index := 0#32
  let c2_i32_427 : BitVec 32 := 2#32
  let c0_i32_69 : BitVec 32 := 0#32
  let arg2 : BitVec 32 := BitVec.ofNat 32 (i 2).val
  let v81 : BitVec 32 := Scalar.subi arg2 c0_i32_69
  let c1_i32 : BitVec 32 := 1#32
  let v83 : BitVec 32 := Scalar.divsi v81 c1_i32
  let v84 : BitVec 32 := Scalar.muli v83 c1_i32
  let v85 : BitVec 32 := Scalar.addi c0_i32_69 v84
  let c1_i32_71 : BitVec 32 := 1#32
  let arg11 : BitVec 32 := Scf.iv v85 c1_i32_71 k0_t2
  let v585 : BitVec 32 := Scalar.muli c2_i32_427 arg11
  let c1_i32_736 : BitVec 32 := 1#32
  let v960 : BitVec 32 := Scalar.addi v585 c1_i32_736
  let v1145 : Index := Scalar.indexCast v960
  let c432_868 : Index := 432#32
  let c0_869 : Index := 0#32
  ![0, v1145.toNat, 432, 0]
def k0_mult6 (i : grid0.Coords) : BitVec 32 :=
  let c2_i32 : BitVec 32 := 2#32
  let arg2 : BitVec 32 := BitVec.ofNat 32 (i 2).val
  let v86 : BitVec 32 := Scalar.muli c2_i32 arg2
  let c1_i32_72 : BitVec 32 := 1#32
  let v87 : BitVec 32 := Scalar.addi v86 c1_i32_72
  let c512_i32 : BitVec 32 := 512#32
  let v88 : BitVec 32 := Scalar.muli v87 c512_i32
  v88
def k0_off25 (i : grid0.Coords) : Fin 3 → Nat :=
  let c0_73 : Index := 0#32
  let c2_i32 : BitVec 32 := 2#32
  let arg2 : BitVec 32 := BitVec.ofNat 32 (i 2).val
  let v86 : BitVec 32 := Scalar.muli c2_i32 arg2
  let c1_i32_72 : BitVec 32 := 1#32
  let v87 : BitVec 32 := Scalar.addi v86 c1_i32_72
  let c512_i32 : BitVec 32 := 512#32
  let v88 : BitVec 32 := Scalar.muli v87 c512_i32
  let v89 : BitVec 32 := v88
  let v90 : Index := Scalar.indexCast v89
  let c0_74 : Index := 0#32
  ![0, v90.toNat, 0]
def k0_off26 (i : grid0.Coords) : Fin 3 → Nat :=
  let c0_82 : Index := 0#32
  let c2_i32 : BitVec 32 := 2#32
  let arg2 : BitVec 32 := BitVec.ofNat 32 (i 2).val
  let v86 : BitVec 32 := Scalar.muli c2_i32 arg2
  let c1_i32_72 : BitVec 32 := 1#32
  let v87 : BitVec 32 := Scalar.addi v86 c1_i32_72
  let c512_i32 : BitVec 32 := 512#32
  let v88 : BitVec 32 := Scalar.muli v87 c512_i32
  let v89 : BitVec 32 := v88
  let v99 : Index := Scalar.indexCast v89
  let c256_83 : Index := 256#32
  ![0, v99.toNat, 256]
def k0_off27 (i : grid0.Coords) : Fin 3 → Nat :=
  let c0_91 : Index := 0#32
  let c2_i32 : BitVec 32 := 2#32
  let arg2 : BitVec 32 := BitVec.ofNat 32 (i 2).val
  let v86 : BitVec 32 := Scalar.muli c2_i32 arg2
  let c1_i32_72 : BitVec 32 := 1#32
  let v87 : BitVec 32 := Scalar.addi v86 c1_i32_72
  let c512_i32 : BitVec 32 := 512#32
  let v88 : BitVec 32 := Scalar.muli v87 c512_i32
  let v89 : BitVec 32 := v88
  let v108 : Index := Scalar.indexCast v89
  let c512_92 : Index := 512#32
  ![0, v108.toNat, 512]
def k0_off28 (i : grid0.Coords) : Fin 3 → Nat :=
  let c0_100 : Index := 0#32
  let c2_i32 : BitVec 32 := 2#32
  let arg2 : BitVec 32 := BitVec.ofNat 32 (i 2).val
  let v86 : BitVec 32 := Scalar.muli c2_i32 arg2
  let c1_i32_72 : BitVec 32 := 1#32
  let v87 : BitVec 32 := Scalar.addi v86 c1_i32_72
  let c512_i32 : BitVec 32 := 512#32
  let v88 : BitVec 32 := Scalar.muli v87 c512_i32
  let v89 : BitVec 32 := v88
  let v117 : Index := Scalar.indexCast v89
  let c768_101 : Index := 768#32
  ![0, v117.toNat, 768]
def k0_off29 (i : grid0.Coords) : Fin 4 → Nat :=
  let c0_121 : Index := 0#32
  let c2_i32_109 : BitVec 32 := 2#32
  let arg2 : BitVec 32 := BitVec.ofNat 32 (i 2).val
  let v126 : BitVec 32 := Scalar.muli c2_i32_109 arg2
  let v148 : Index := Scalar.indexCast v126
  let c0_122 : Index := 0#32
  let c0_123 : Index := 0#32
  ![0, v148.toNat, 0, 0]
def k0_off30 (i : grid0.Coords) : Fin 4 → Nat :=
  let c0_162 : Index := 0#32
  let c2_i32_109 : BitVec 32 := 2#32
  let arg2 : BitVec 32 := BitVec.ofNat 32 (i 2).val
  let v126 : BitVec 32 := Scalar.muli c2_i32_109 arg2
  let v209 : Index := Scalar.indexCast v126
  let c144 : Index := 144#32
  let c0_163 : Index := 0#32
  ![0, v209.toNat, 144, 0]
def k0_off31 (i : grid0.Coords) : Fin 4 → Nat :=
  let c0_202 : Index := 0#32
  let c2_i32_109 : BitVec 32 := 2#32
  let arg2 : BitVec 32 := BitVec.ofNat 32 (i 2).val
  let v126 : BitVec 32 := Scalar.muli c2_i32_109 arg2
  let v270 : Index := Scalar.indexCast v126
  let c288 : Index := 288#32
  let c0_203 : Index := 0#32
  ![0, v270.toNat, 288, 0]
def k0_off32 (i : grid0.Coords) : Fin 4 → Nat :=
  let c0_242 : Index := 0#32
  let c2_i32_109 : BitVec 32 := 2#32
  let arg2 : BitVec 32 := BitVec.ofNat 32 (i 2).val
  let v126 : BitVec 32 := Scalar.muli c2_i32_109 arg2
  let v331 : Index := Scalar.indexCast v126
  let c432 : Index := 432#32
  let c0_243 : Index := 0#32
  ![0, v331.toNat, 432, 0]
def k0_off33 (i : grid0.Coords) : Fin 4 → Nat :=
  let c0_284 : Index := 0#32
  let c2_i32_271 : BitVec 32 := 2#32
  let arg2 : BitVec 32 := BitVec.ofNat 32 (i 2).val
  let v371 : BitVec 32 := Scalar.muli c2_i32_271 arg2
  let c1_i32_272 : BitVec 32 := 1#32
  let v372 : BitVec 32 := Scalar.addi v371 c1_i32_272
  let v394 : Index := Scalar.indexCast v372
  let c0_285 : Index := 0#32
  let c0_286 : Index := 0#32
  ![0, v394.toNat, 0, 0]
def k0_off34 (i : grid0.Coords) : Fin 4 → Nat :=
  let c0_305 : Index := 0#32
  let c2_i32_271 : BitVec 32 := 2#32
  let arg2 : BitVec 32 := BitVec.ofNat 32 (i 2).val
  let v371 : BitVec 32 := Scalar.muli c2_i32_271 arg2
  let c1_i32_272 : BitVec 32 := 1#32
  let v372 : BitVec 32 := Scalar.addi v371 c1_i32_272
  let v427 : Index := Scalar.indexCast v372
  let c144_306 : Index := 144#32
  let c0_307 : Index := 0#32
  ![0, v427.toNat, 144, 0]
def k0_off35 (i : grid0.Coords) : Fin 4 → Nat :=
  let c0_326 : Index := 0#32
  let c2_i32_271 : BitVec 32 := 2#32
  let arg2 : BitVec 32 := BitVec.ofNat 32 (i 2).val
  let v371 : BitVec 32 := Scalar.muli c2_i32_271 arg2
  let c1_i32_272 : BitVec 32 := 1#32
  let v372 : BitVec 32 := Scalar.addi v371 c1_i32_272
  let v460 : Index := Scalar.indexCast v372
  let c288_327 : Index := 288#32
  let c0_328 : Index := 0#32
  ![0, v460.toNat, 288, 0]
def k0_off36 (i : grid0.Coords) : Fin 4 → Nat :=
  let c0_347 : Index := 0#32
  let c2_i32_271 : BitVec 32 := 2#32
  let arg2 : BitVec 32 := BitVec.ofNat 32 (i 2).val
  let v371 : BitVec 32 := Scalar.muli c2_i32_271 arg2
  let c1_i32_272 : BitVec 32 := 1#32
  let v372 : BitVec 32 := Scalar.addi v371 c1_i32_272
  let v493 : Index := Scalar.indexCast v372
  let c432_348 : Index := 432#32
  let c0_349 : Index := 0#32
  ![0, v493.toNat, 432, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, arg1.toNat, c0_i32.toNat]

abbrev stage0_0 : Fin 2 → Memref sig .tc .vmem S2x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x576x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4096x8x128 : Shape := ⟨4, ![8, 4096, 8, 128]⟩
abbrev S8x4096x8x64 : Shape := ⟨4, ![8, 4096, 8, 64]⟩
abbrev S8x4096x64 : Shape := ⟨3, ![8, 4096, 64]⟩
abbrev S8x8x4096x4096 : Shape := ⟨4, ![8, 8, 4096, 4096]⟩
abbrev S8x4096x4096x8 : Shape := ⟨4, ![8, 4096, 4096, 8]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩
abbrev S64x512x1024 : Shape := ⟨3, ![64, 512, 1024]⟩
abbrev S64x1024x512 : Shape := ⟨3, ![64, 1024, 512]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x8x128, .f32⟩
  | .hbm, ⟨1, _⟩ => ⟨S8x4096x8x64, .f32⟩
  | .hbm, ⟨2, _⟩ => ⟨S8x4096x8x128, .f32⟩
  | .hbm, ⟨3, _⟩ => ⟨S8x4096x64, .f32⟩
  | .hbm, ⟨4, _⟩ => ⟨S8x4096x8x128, .f32⟩
  | .hbm, ⟨5, _⟩ => ⟨S8x8x4096x4096, .f32⟩
  | .hbm, ⟨6, _⟩ => ⟨S8x4096x4096x8, .f32⟩
  | .hbm, ⟨7, _⟩ => ⟨S8x8x4096x4096, .f32⟩
  | .hbm, ⟨8, _⟩ => ⟨S8x8x4096x4096, .f32⟩
  | .hbm, ⟨9, _⟩ => ⟨S_, .f32⟩
  | .hbm, ⟨10, _⟩ => ⟨S8x8x4096x4096, .f32⟩
  | .hbm, ⟨11, _⟩ => ⟨S8x8x4096x4096, .f32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S8x8x4096x4096, .i1⟩
  | .hbm, ⟨21, _⟩ => ⟨S8x8x4096x4096, .f32⟩
  | .hbm, ⟨22, _⟩ => ⟨S8x8x4096x4096, .f32⟩
  | .hbm, ⟨23, _⟩ => ⟨S_, .f32⟩
  | .hbm, ⟨24, _⟩ => ⟨S8x8x4096, .f32⟩
  | .hbm, ⟨25, _⟩ => ⟨S_, .f32⟩
  | .hbm, ⟨26, _⟩ => ⟨S8x8x4096, .f32⟩
  | .hbm, ⟨27, _⟩ => ⟨S8x8x4096, .f32⟩
  | .hbm, ⟨28, _⟩ => ⟨S8x8x4096x1, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S_, .f32⟩
  | .hbm, ⟨33, _⟩ => ⟨S8x8x4096, .f32⟩
  | .hbm, ⟨34, _⟩ => ⟨S8x8x4096x1, .f32⟩
  | .hbm, ⟨35, _⟩ => ⟨S8x8x4096x4096, .f32⟩
  | .hbm, ⟨36, _⟩ => ⟨S8x8x4096x4096, .f32⟩
  | .hbm, ⟨37, _⟩ => ⟨S8x8x128x4096, .f32⟩
  | .hbm, ⟨38, _⟩ => ⟨S8x4096x8x128, .f32⟩
  | .hbm, ⟨39, _⟩ => ⟨S64x512x1024, .f32⟩
  | .hbm, ⟨40, _⟩ => ⟨S64x1024x512, .f32⟩
  | .hbm, ⟨41, _⟩ => ⟨S64x1024x512, .bf16⟩
  | _, _ => ⟨S8x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Ffn.lean ====
abbrev S32768x2048 : Shape := ⟨2, ![32768, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S512x512 : Shape := ⟨2, ![512, 512]⟩
abbrev S1024x256 : Shape := ⟨2, ![1024, 256]⟩
abbrev S1024x512 : Shape := ⟨2, ![1024, 512]⟩

abbrev nBuf : Space → Nat
  | .hbm => 11
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S1x2048, .f32⟩
  | .hbm, ⟨7, _⟩ => ⟨S2048x5632, .bf16⟩
  | .hbm, ⟨8, _⟩ => ⟨S2048x5632, .bf16⟩
  | .hbm, ⟨9, _⟩ => ⟨S1x2048, .f32⟩
  | .hbm, ⟨10, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnReferenceIdeal.lean ====
abbrev S32768x2048 : Shape := ⟨2, ![32768, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x5632 : Shape := ⟨2, ![32768, 5632]⟩

abbrev nBuf : Space → Nat
  | .hbm => 52
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S32768x5632, .f32⟩
  | .hbm, ⟨23, _⟩ => ⟨S32768x5632, .f32⟩
  | .hbm, ⟨24, _⟩ => ⟨S32768x5632, .f32⟩
  | .hbm, ⟨25, _⟩ => ⟨S_, .f32⟩
  | .hbm, ⟨26, _⟩ => ⟨S32768x5632, .f32⟩
  | .hbm, ⟨27, _⟩ => ⟨S32768x5632, .f32⟩
  | .hbm, ⟨28, _⟩ => ⟨S_, .f32⟩
  | .hbm, ⟨29, _⟩ => ⟨S32768x5632, .f32⟩
  | .hbm, ⟨30, _⟩ => ⟨S32768x5632, .f32⟩
  | .hbm, ⟨31, _⟩ => ⟨S32768x5632, .f32⟩
  | .hbm, ⟨32, _⟩ => ⟨S32768x5632, .f32⟩
  | .hbm, ⟨33, _⟩ => ⟨S32768x5632, .f32⟩
  | .hbm, ⟨34, _⟩ => ⟨S32768x2048, .f32⟩
  | .hbm, ⟨35, _⟩ => ⟨S32768x2048, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x2048, .f32⟩
  | .hbm, ⟨47, _⟩ => ⟨S32768x2048, .f32⟩
  | .hbm, ⟨48, _⟩ => ⟨S1x2048, .f32⟩
  | .hbm, ⟨49, _⟩ => ⟨S32768x2048, .f32⟩
  | .hbm, ⟨50, _⟩ => ⟨S32768x2048, .f32⟩
  | .hbm, ⟨51, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Proof.Attn.Stack.lean ====
/- Eight blocks, one above another, in one buffer: loads and stores of one block. -/
module

public import proofs.«01_k».proof.Proof.Gen.KernelIdeal.Frame.Runs
public import Idealize.ShloMosaic.Lib.WholeRead
public import Idealize.ShloMosaic.Lib.WritesUnit

@[expose] public section

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The place within its block of a place in the array. -/
def low {a b : ℕ} (y : (⟨3, ![8, a, b]⟩ : Shape).Idx) : (⟨3, ![1, a, b]⟩ : Shape).Idx :=
  fun d => match d with | ⟨0, _⟩ => (0 : Fin 1) | ⟨1, _⟩ => y 1 | ⟨2, _⟩ => y 2

/-- An array of eight blocks, from its blocks. -/
def stk {a b : ℕ} {e : EltTy} (M : Fin 8 → Vec F ⟨3, ![1, a, b]⟩ e) : Vec F ⟨3, ![8, a, b]⟩ e :=
  fun y => M (y 0) (low y)

/-- The array whose eight blocks are these. -/
abbrev S8 {a b : ℕ} {e : EltTy} (m0 m1 m2 m3 m4 m5 m6 m7 : Vec F ⟨3, ![1, a, b]⟩ e) : Vec F ⟨3, ![8, a, b]⟩ e :=
  stk ![m0, m1, m2, m3, m4, m5, m6, m7]

variable {a b : ℕ} {e : EltTy}

/-- A load of block `n` reads block `n`. -/
theorem rd (n : Fin 8) (m : Memref sig .tc .vmem ⟨3, ![8, a, b]⟩ e) (h : m.IsWhole) (M : Fin 8 → Vec F ⟨3, ![1, a, b]⟩ e)
    (inb : ∀ d, (![n.val, 0, 0] : Fin 3 → ℕ) d + (![1, a, b] : Fin 3 → ℕ) d ≤ (⟨3, ![8, a, b]⟩ : Shape).size d) :
    View.readAt (Elt F) m.view (Rect.unit (s := ⟨3, ![8, a, b]⟩) ![n.val, 0, 0] ![1, a, b] inb).toLoadRect (h.unread (stk M)) = M n := by
  funext x
  rw [h.readAt_unread]
  have h0 : (x 0).val = 0 := by have : (x 0).val < 1 := (x 0).isLt; omega
  unfold stk
  have e0 : ((Rect.unit (s := ⟨3, ![8, a, b]⟩) ![n.val, 0, 0] ![1, a, b] inb).toLoadRect.idx x) 0 = n :=
    Fin.ext (by show n.val + 1 * (x 0).val = n.val; omega)
  rw [e0]
  congr 1
  funext d
  match d with
  | ⟨0, _⟩ => exact Fin.ext h0.symm
  | ⟨1, _⟩ => exact Fin.ext (by show 0 + 1 * (x 1).val = (x 1).val; omega)
  | ⟨2, _⟩ => exact Fin.ext (by show 0 + 1 * (x 2).val = (x 2).val; omega)

/-- A store of block `n` replaces block `n`. -/
theorem wr (n : Fin 8) (m : Memref sig .tc .vmem ⟨3, ![8, a, b]⟩ e) (h : m.IsWhole) (M : Fin 8 → Vec F ⟨3, ![1, a, b]⟩ e)
    (inb : ∀ d, (![n.val, 0, 0] : Fin 3 → ℕ) d + (![1, a, b] : Fin 3 → ℕ) d ≤ (⟨3, ![8, a, b]⟩ : Shape).size d)
    (w : Vec F ⟨3, ![1, a, b]⟩ e) :
    m.view.writes (Elt F) (h.unread (stk M)) [⟨Rect.unit (s := ⟨3, ![8, a, b]⟩) ![n.val, 0, 0] ![1, a, b] inb, w⟩]
      = h.unread (stk (Function.update M n w)) := by
  apply h.eq_unread
  funext y
  by_cases hy : y 0 = n
  · rw [View.read_writes_cons_unit_of_mem m.view _ inb w [] y
      (low y) rfl ?_]
    · show w (low y) = Function.update M n w (y 0) (low y)
      rw [show (y 0 : Fin 8) = n from hy, Function.update_self]
    · intro d
      match d with
      | ⟨0, _⟩ => show (y 0).val = n.val + 0; rw [hy]; rfl
      | ⟨1, _⟩ => show (y 1).val = 0 + (y 1).val; omega
      | ⟨2, _⟩ => show (y 2).val = 0 + (y 2).val; omega
  · rw [View.read_writes_cons_unit_of_not_mem m.view _ inb w [] y rfl 0 (by
      have : (y 0).val ≠ n.val := fun hh => hy (Fin.ext hh)
      show (y 0).val < n.val ∨ n.val + 1 ≤ (y 0).val
      omega), View.writes_nil, h.read_unread]
    exact (congrFun (Function.update_of_ne hy w M) (low y)).symm

/-- Stores one after another. -/
theorem wr2 {s : Shape} (m : Memref sig .tc .vmem s e) (f : m.view.ty.Contents (Elt F)) (p q : View.Piece (Elt F) s e) (L : List (View.Piece (Elt F) s e)) :
    m.view.writes (Elt F) f (p :: q :: L) = m.view.writes (Elt F) (m.view.writes (Elt F) f (q :: L)) [p] := rfl

theorem lt_144 (x : S1x128x512.Idx) : (x 1).val < 144 := by
  have : (x 1).val < 128 := (x 1).isLt
  omega

/-- The place in a block of a place in its first 128 rows, -/
def topIx (x : S1x128x512.Idx) : S1x144x512.Idx
  | ⟨0, _⟩ => (0 : Fin 1)
  | ⟨1, _⟩ => (⟨(x 1).val, lt_144 x⟩ : Fin 144)
  | ⟨2, _⟩ => x 2

/-- and of one in the row after them. -/
def rowIx (x : S1x1x512.Idx) : S1x144x512.Idx
  | ⟨0, _⟩ => (0 : Fin 1)
  | ⟨1, _⟩ => (⟨128, by omega⟩ : Fin 144)
  | ⟨2, _⟩ => x 2

/-- The first 128 rows of a block, -/
def top (m : Vec F S1x144x512 .f32) : Vec F S1x128x512 .f32 := fun x => m (topIx x)

/-- and the row after them. -/
def row (m : Vec F S1x144x512 .f32) : Vec F S1x1x512 .f32 := fun x => m (rowIx x)

theorem rdTop (n : Fin 8) (m : Memref sig .tc .vmem S8x144x512 .f32) (h : m.IsWhole) (M : Fin 8 → Vec F S1x144x512 .f32)
    (inb : ∀ d, (![n.val, 0, 0] : Fin 3 → ℕ) d + S1x128x512.size d ≤ S8x144x512.size d) :
    View.readAt (Elt F) m.view (Rect.unit (s := S8x144x512) ![n.val, 0, 0] S1x128x512.size inb).toLoadRect (h.unread (stk M)) = top (M n) := by
  funext x
  rw [h.readAt_unread]
  have h0 : (x 0).val = 0 := by have : (x 0).val < 1 := (x 0).isLt; omega
  unfold stk top
  have e0 : ((Rect.unit (s := S8x144x512) ![n.val, 0, 0] S1x128x512.size inb).toLoadRect.idx x) 0 = n :=
    Fin.ext (by show n.val + 1 * (x 0).val = n.val; omega)
  rw [e0]
  congr 1
  funext d
  match d with
  | ⟨0, _⟩ => rfl
  | ⟨1, _⟩ => exact Fin.ext (by show 0 + 1 * (x 1).val = (x 1).val; omega)
  | ⟨2, _⟩ => exact Fin.ext (by show 0 + 1 * (x 2).val = (x 2).val; omega)

theorem rdRow (n : Fin 8) (m : Memref sig .tc .vmem S8x144x512 .f32) (h : m.IsWhole) (M : Fin 8 → Vec F S1x144x512 .f32)
    (inb : ∀ d, (![n.val, 128, 0] : Fin 3 → ℕ) d + S1x1x512.size d ≤ S8x144x512.size d) :
    View.readAt (Elt F) m.view (Rect.unit (s := S8x144x512) ![n.val, 128, 0] S1x1x512.size inb).toLoadRect (h.unread (stk M)) = row (M n) := by
  funext x
  rw [h.readAt_unread]
  have h0 : (x 0).val = 0 := by have : (x 0).val < 1 := (x 0).isLt; omega
  have h1 : (x 1).val = 0 := by have : (x 1).val < 1 := (x 1).isLt; omega
  unfold stk row
  have e0 : ((Rect.unit (s := S8x144x512) ![n.val, 128, 0] S1x1x512.size inb).toLoadRect.idx x) 0 = n :=
    Fin.ext (by show n.val + 1 * (x 0).val = n.val; omega)
  rw [e0]
  congr 1
  funext d
  match d with
  | ⟨0, _⟩ => rfl
  | ⟨1, _⟩ => exact Fin.ext (by show 128 + 1 * (x 1).val = 128; omega)
  | ⟨2, _⟩ => exact Fin.ext (by show 0 + 1 * (x 2).val = (x 2).val; omega)

/-- A store of the whole array. -/
theorem wrFull {s : Shape} {e : EltTy} (m : Memref sig .tc .vmem s e) (h : m.IsWhole) (X : Vec F s e) (o : Fin s.rank → ℕ) (ho : o = fun _ => 0)
    (inb : ∀ d, o d + s.size d ≤ s.size d) (w : Vec F s e) :
    m.view.writes (Elt F) (h.unread X) [⟨Rect.unit o s.size inb, w⟩] = h.unread w := by
  apply h.eq_unread
  funext y
  exact View.read_writes_cons_unit_of_mem m.view _ inb w [] y y ho fun d => by omega

/-- Every entry minus infinity, -/
def neg : Vec F S1x1x512 .f32 := fun _ => Scalar.ofBits .f32 0xFF800000#32

/-- every entry zero. -/
def zer : Vec F S1x144x512 .f32 := fun _ => Scalar.ofBits .f32 0x00000000#32

theorem pay222_at (y : S8x1x512.Idx) : k0_pay222 (F := F) y = Scalar.ofBits .f32 0xFF800000#32 := by
  unfold k0_pay222
  rw [shapeCast_self]
  rfl

theorem pay222_eq : k0_pay222 (F := F) = S8 neg neg neg neg neg neg neg neg := by
  funext y
  have h : ∀ n : Fin 8, (![neg, neg, neg, neg, neg, neg, neg, neg] : Fin 8 → Vec F S1x1x512 .f32) n = neg := by
    intro n; fin_cases n <;> rfl
  rw [pay222_at]
  exact (congrFun (h (y 0)) (low y)).symm

theorem pay223_at (y : S8x144x512.Idx) : k0_pay223 (F := F) y = Scalar.ofBits .f32 0x00000000#32 := by
  unfold k0_pay223
  rw [shapeCast_self]
  rfl

theorem pay223_eq : k0_pay223 (F := F) = S8 zer zer zer zer zer zer zer zer := by
  funext y
  have h : ∀ n : Fin 8, (![zer, zer, zer, zer, zer, zer, zer, zer] : Fin 8 → Vec F S1x144x512 .f32) n = zer := by
    intro n; fin_cases n <;> rfl
  rw [pay223_at]
  exact (congrFun (h (y 0)) (low y)).symm

theorem wrFull9 (m : Memref sig .tc .vmem S8x1x512 .f32) (h : m.IsWhole) (X : Vec F S8x1x512 .f32)
    (inb : ∀ d, (![0, 0, 0] : Fin 3 → ℕ) d + S8x1x512.size d ≤ S8x1x512.size d) :
    m.view.writes (Elt F) (h.unread X) [⟨Rect.unit (s := S8x1x512) ![0, 0, 0] S8x1x512.size inb, k0_pay222⟩]
      = h.unread (S8 neg neg neg neg neg neg neg neg) := by
  rw [← pay222_eq]; exact wrFull m h X _ (by funext d; fin_cases d <;> rfl) inb _

theorem wrFull10 (m : Memref sig .tc .vmem S8x144x512 .f32) (h : m.IsWhole) (X : Vec F S8x144x512 .f32)
    (inb : ∀ d, (![0, 0, 0] : Fin 3 → ℕ) d + S8x144x512.size d ≤ S8x144x512.size d) :
    m.view.writes (Elt F) (h.unread X) [⟨Rect.unit (s := S8x144x512) ![0, 0, 0] S8x144x512.size inb, k0_pay223⟩]
      = h.unread (S8 zer zer zer zer zer zer zer zer) := by
  rw [← pay223_eq]; exact wrFull m h X _ (by funext d; fin_cases d <;> rfl) inb _

/-- Every array is the array of its blocks. -/
theorem exists_stk {a b : ℕ} {e : EltTy} (X : Vec F ⟨3, ![8, a, b]⟩ e) : ∃ m0 m1 m2 m3 m4 m5 m6 m7, X = S8 m0 m1 m2 m3 m4 m5 m6 m7 := by
  let M : Fin 8 → Vec F ⟨3, ![1, a, b]⟩ e := fun n x => X (fun d => match d with | ⟨0, _⟩ => n | ⟨1, _⟩ => x 1 | ⟨2, _⟩ => x 2)
  refine ⟨M 0, M 1, M 2, M 3, M 4, M 5, M 6, M 7, ?_⟩
  funext y
  have hM : (![M 0, M 1, M 2, M 3, M 4, M 5, M 6, M 7] : Fin 8 → Vec F ⟨3, ![1, a, b]⟩ e) = M := by
    funext n; fin_cases n <;> rfl
  show X y = (![M 0, M 1, M 2, M 3, M 4, M 5, M 6, M 7] : Fin 8 → Vec F ⟨3, ![1, a, b]⟩ e) (y 0) (low y)
  rw [hM]
  show X y = X _
  congr 1
  funext d
  match d with
  | ⟨0, _⟩ => rfl
  | ⟨1, _⟩ => rfl
  | ⟨2, _⟩ => rfl

theorem rdTop_0 (m : Memref sig .tc .vmem S8x144x512 .f32) (h : m.IsWhole) (m0 m1 m2 m3 m4 m5 m6 m7 : Vec F S1x144x512 .f32)
    (inb : ∀ d, (![0, 0, 0] : Fin 3 → ℕ) d + S1x128x512.size d ≤ S8x144x512.size d) :
    View.readAt (Elt F) m.view (Rect.unit (s := S8x144x512) ![0, 0, 0] S1x128x512.size inb).toLoadRect (h.unread (S8 m0 m1 m2 m3 m4 m5 m6 m7)) = top m0 :=
  rdTop 0 m h _ inb

theorem rdRow_0 (m : Memref sig .tc .vmem S8x144x512 .f32) (h : m.IsWhole) (m0 m1 m2 m3 m4 m5 m6 m7 : Vec F S1x144x512 .f32)
    (inb : ∀ d, (![0, 128, 0] : Fin 3 → ℕ) d + S1x1x512.size d ≤ S8x144x512.size d) :
    View.readAt (Elt F) m.view (Rect.unit (s := S8x144x512) ![0, 128, 0] S1x1x512.size inb).toLoadRect (h.unread (S8 m0 m1 m2 m3 m4 m5 m6 m7)) = row m0 :=
  rdRow 0 m h _ inb

theorem rdTop_1 (m : Memref sig .tc .vmem S8x144x512 .f32) (h : m.IsWhole) (m0 m1 m2 m3 m4 m5 m6 m7 : Vec F S1x144x512 .f32)
    (inb : ∀ d, (![1, 0, 0] : Fin 3 → ℕ) d + S1x128x512.size d ≤ S8x144x512.size d) :
    View.readAt (Elt F) m.view (Rect.unit (s := S8x144x512) ![1, 0, 0] S1x128x512.size inb).toLoadRect (h.unread (S8 m0 m1 m2 m3 m4 m5 m6 m7)) = top m1 :=
  rdTop 1 m h _ inb

theorem rdRow_1 (m : Memref sig .tc .vmem S8x144x512 .f32) (h : m.IsWhole) (m0 m1 m2 m3 m4 m5 m6 m7 : Vec F S1x144x512 .f32)
    (inb : ∀ d, (![1, 128, 0] : Fin 3 → ℕ) d + S1x1x512.size d ≤ S8x144x512.size d) :
    View.readAt (Elt F) m.view (Rect.unit (s := S8x144x512) ![1, 128, 0] S1x1x512.size inb).toLoadRect (h.unread (S8 m0 m1 m2 m3 m4 m5 m6 m7)) = row m1 :=
  rdRow 1 m h _ inb

theorem rdTop_2 (m : Memref sig .tc .vmem S8x144x512 .f32) (h : m.IsWhole) (m0 m1 m2 m3 m4 m5 m6 m7 : Vec F S1x144x512 .f32)
    (inb : ∀ d, (![2, 0, 0] : Fin 3 → ℕ) d + S1x128x512.size d ≤ S8x144x512.size d) :
    View.readAt (Elt F) m.view (Rect.unit (s := S8x144x512) ![2, 0, 0] S1x128x512.size inb).toLoadRect (h.unread (S8 m0 m1 m2 m3 m4 m5 m6 m7)) = top m2 :=
  rdTop 2 m h _ inb

theorem rdRow_2 (m : Memref sig .tc .vmem S8x144x512 .f32) (h : m.IsWhole) (m0 m1 m2 m3 m4 m5 m6 m7 : Vec F S1x144x512 .f32)
    (inb : ∀ d, (![2, 128, 0] : Fin 3 → ℕ) d + S1x1x512.size d ≤ S8x144x512.size d) :
    View.readAt (Elt F) m.view (Rect.unit (s := S8x144x512) ![2, 128, 0] S1x1x512.size inb).toLoadRect (h.unread (S8 m0 m1 m2 m3 m4 m5 m6 m7)) = row m2 :=
  rdRow 2 m h _ inb

theorem rdTop_3 (m : Memref sig .tc .vmem S8x144x512 .f32) (h : m.IsWhole) (m0 m1 m2 m3 m4 m5 m6 m7 : Vec F S1x144x512 .f32)
    (inb : ∀ d, (![3, 0, 0] : Fin 3 → ℕ) d + S1x128x512.size d ≤ S8x144x512.size d) :
    View.readAt (Elt F) m.view (Rect.unit (s := S8x144x512) ![3, 0, 0] S1x128x512.size inb).toLoadRect (h.unread (S8 m0 m1 m2 m3 m4 m5 m6 m7)) = top m3 :=
  rdTop 3 m h _ inb

theorem rdRow_3 (m : Memref sig .tc .vmem S8x144x512 .f32) (h : m.IsWhole) (m0 m1 m2 m3 m4 m5 m6 m7 : Vec F S1x144x512 .f32)
    (inb : ∀ d, (![3, 128, 0] : Fin 3 → ℕ) d + S1x1x512.size d ≤ S8x144x512.size d) :
    View.readAt (Elt F) m.view (Rect.unit (s := S8x144x512) ![3, 128, 0] S1x1x512.size inb).toLoadRect (h.unread (S8 m0 m1 m2 m3 m4 m5 m6 m7)) = row m3 :=
  rdRow 3 m h _ inb

theorem rdTop_4 (m : Memref sig .tc .vmem S8x144x512 .f32) (h : m.IsWhole) (m0 m1 m2 m3 m4 m5 m6 m7 : Vec F S1x144x512 .f32)
    (inb : ∀ d, (![4, 0, 0] : Fin 3 → ℕ) d + S1x128x512.size d ≤ S8x144x512.size d) :
    View.readAt (Elt F) m.view (Rect.unit (s := S8x144x512) ![4, 0, 0] S1x128x512.size inb).toLoadRect (h.unread (S8 m0 m1 m2 m3 m4 m5 m6 m7)) = top m4 :=
  rdTop 4 m h _ inb

theorem rdRow_4 (m : Memref sig .tc .vmem S8x144x512 .f32) (h : m.IsWhole) (m0 m1 m2 m3 m4 m5 m6 m7 : Vec F S1x144x512 .f32)
    (inb : ∀ d, (![4, 128, 0] : Fin 3 → ℕ) d + S1x1x512.size d ≤ S8x144x512.size d) :
    View.readAt (Elt F) m.view (Rect.unit (s := S8x144x512) ![4, 128, 0] S1x1x512.size inb).toLoadRect (h.unread (S8 m0 m1 m2 m3 m4 m5 m6 m7)) = row m4 :=
  rdRow 4 m h _ inb

theorem rdTop_5 (m : Memref sig .tc .vmem S8x144x512 .f32) (h : m.IsWhole) (m0 m1 m2 m3 m4 m5 m6 m7 : Vec F S1x144x512 .f32)
    (inb : ∀ d, (![5, 0, 0] : Fin 3 → ℕ) d + S1x128x512.size d ≤ S8x144x512.size d) :
    View.readAt (Elt F) m.view (Rect.unit (s := S8x144x512) ![5, 0, 0] S1x128x512.size inb).toLoadRect (h.unread (S8 m0 m1 m2 m3 m4 m5 m6 m7)) = top m5 :=
  rdTop 5 m h _ inb

theorem rdRow_5 (m : Memref sig .tc .vmem S8x144x512 .f32) (h : m.IsWhole) (m0 m1 m2 m3 m4 m5 m6 m7 : Vec F S1x144x512 .f32)
    (inb : ∀ d, (![5, 128, 0] : Fin 3 → ℕ) d + S1x1x512.size d ≤ S8x144x512.size d) :
    View.readAt (Elt F) m.view (Rect.unit (s := S8x144x512) ![5, 128, 0] S1x1x512.size inb).toLoadRect (h.unread (S8 m0 m1 m2 m3 m4 m5 m6 m7)) = row m5 :=
  rdRow 5 m h _ inb

theorem rdTop_6 (m : Memref sig .tc .vmem S8x144x512 .f32) (h : m.IsWhole) (m0 m1 m2 m3 m4 m5 m6 m7 : Vec F S1x144x512 .f32)
    (inb : ∀ d, (![6, 0, 0] : Fin 3 → ℕ) d + S1x128x512.size d ≤ S8x144x512.size d) :
    View.readAt (Elt F) m.view (Rect.unit (s := S8x144x512) ![6, 0, 0] S1x128x512.size inb).toLoadRect (h.unread (S8 m0 m1 m2 m3 m4 m5 m6 m7)) = top m6 :=
  rdTop 6 m h _ inb

theorem rdRow_6 (m : Memref sig .tc .vmem S8x144x512 .f32) (h : m.IsWhole) (m0 m1 m2 m3 m4 m5 m6 m7 : Vec F S1x144x512 .f32)
    (inb : ∀ d, (![6, 128, 0] : Fin 3 → ℕ) d + S1x1x512.size d ≤ S8x144x512.size d) :
    View.readAt (Elt F) m.view (Rect.unit (s := S8x144x512) ![6, 128, 0] S1x1x512.size inb).toLoadRect (h.unread (S8 m0 m1 m2 m3 m4 m5 m6 m7)) = row m6 :=
  rdRow 6 m h _ inb

theorem rdTop_7 (m : Memref sig .tc .vmem S8x144x512 .f32) (h : m.IsWhole) (m0 m1 m2 m3 m4 m5 m6 m7 : Vec F S1x144x512 .f32)
    (inb : ∀ d, (![7, 0, 0] : Fin 3 → ℕ) d + S1x128x512.size d ≤ S8x144x512.size d) :
    View.readAt (Elt F) m.view (Rect.unit (s := S8x144x512) ![7, 0, 0] S1x128x512.size inb).toLoadRect (h.unread (S8 m0 m1 m2 m3 m4 m5 m6 m7)) = top m7 :=
  rdTop 7 m h _ inb

theorem rdRow_7 (m : Memref sig .tc .vmem S8x144x512 .f32) (h : m.IsWhole) (m0 m1 m2 m3 m4 m5 m6 m7 : Vec F S1x144x512 .f32)
    (inb : ∀ d, (![7, 128, 0] : Fin 3 → ℕ) d + S1x1x512.size d ≤ S8x144x512.size d) :
    View.readAt (Elt F) m.view (Rect.unit (s := S8x144x512) ![7, 128, 0] S1x1x512.size inb).toLoadRect (h.unread (S8 m0 m1 m2 m3 m4 m5 m6 m7)) = row m7 :=
  rdRow 7 m h _ inb

theorem rd_512_512_0 (m : Memref sig .tc .vmem S8x512x512 .f32) (h : m.IsWhole) (m0 m1 m2 m3 m4 m5 m6 m7 : Vec F S1x512x512 .f32)
    (inb : ∀ d, (![0, 0, 0] : Fin 3 → ℕ) d + S1x512x512.size d ≤ S8x512x512.size d) :
    View.readAt (Elt F) m.view (Rect.unit (s := S8x512x512) ![0, 0, 0] S1x512x512.size inb).toLoadRect (h.unread (S8 m0 m1 m2 m3 m4 m5 m6 m7)) = m0 :=
  rd 0 m h _ inb
theorem wr_512_512_0 (m : Memref sig .tc .vmem S8x512x512 .f32) (h : m.IsWhole) (m0 m1 m2 m3 m4 m5 m6 m7 : Vec F S1x512x512 .f32)
    (inb : ∀ d, (![0, 0, 0] : Fin 3 → ℕ) d + S1x512x512.size d ≤ S8x512x512.size d) (w : Vec F S1x512x512 .f32) :
    m.view.writes (Elt F) (h.unread (S8 m0 m1 m2 m3 m4 m5 m6 m7)) [⟨Rect.unit (s := S8x512x512) ![0, 0, 0] S1x512x512.size inb, w⟩] = h.unread (S8 w m1 m2 m3 m4 m5 m6 m7) :=
  (wr 0 m h _ inb w).trans (congrArg (fun M => h.unread (stk M)) (by funext k; fin_cases k <;> rfl))

theorem rd_512_512_1 (m : Memref sig .tc .vmem S8x512x512 .f32) (h : m.IsWhole) (m0 m1 m2 m3 m4 m5 m6 m7 : Vec F S1x512x512 .f32)
    (inb : ∀ d, (![1, 0, 0] : Fin 3 → ℕ) d + S1x512x512.size d ≤ S8x512x512.size d) :
    View.readAt (Elt F) m.view (Rect.unit (s := S8x512x512) ![1, 0, 0] S1x512x512.size inb).toLoadRect (h.unread (S8 m0 m1 m2 m3 m4 m5 m6 m7)) = m1 :=
  rd 1 m h _ inb
theorem wr_512_512_1 (m : Memref sig .tc .vmem S8x512x512 .f32) (h : m.IsWhole) (m0 m1 m2 m3 m4 m5 m6 m7 : Vec F S1x512x512 .f32)
    (inb : ∀ d, (![1, 0, 0] : Fin 3 → ℕ) d + S1x512x512.size d ≤ S8x512x512.size d) (w : Vec F S1x512x512 .f32) :
    m.view.writes (Elt F) (h.unread (S8 m0 m1 m2 m3 m4 m5 m6 m7)) [⟨Rect.unit (s := S8x512x512) ![1, 0, 0] S1x512x512.size inb, w⟩] = h.unread (S8 m0 w m2 m3 m4 m5 m6 m7) :=
  (wr 1 m h _ inb w).trans (congrArg (fun M => h.unread (stk M)) (by funext k; fin_cases k <;> rfl))

theorem rd_512_512_2 (m : Memref sig .tc .vmem S8x512x512 .f32) (h : m.IsWhole) (m0 m1 m2 m3 m4 m5 m6 m7 : Vec F S1x512x512 .f32)
    (inb : ∀ d, (![2, 0, 0] : Fin 3 → ℕ) d + S1x512x512.size d ≤ S8x512x512.size d) :
    View.readAt (Elt F) m.view (Rect.unit (s := S8x512x512) ![2, 0, 0] S1x512x512.size inb).toLoadRect (h.unread (S8 m0 m1 m2 m3 m4 m5 m6 m7)) = m2 :=
  rd 2 m h _ inb
theorem wr_512_512_2 (m : Memref sig .tc .vmem S8x512x512 .f32) (h : m.IsWhole) (m0 m1 m2 m3 m4 m5 m6 m7 : Vec F S1x512x512 .f32)
    (inb : ∀ d, (![2, 0, 0] : Fin 3 → ℕ) d + S1x512x512.size d ≤ S8x512x512.size d) (w : Vec F S1x512x512 .f32) :
    m.view.writes (Elt F) (h.unread (S8 m0 m1 m2 m3 m4 m5 m6 m7)) [⟨Rect.unit (s := S8x512x512) ![2, 0, 0] S1x512x512.size inb, w⟩] = h.unread (S8 m0 m1 w m3 m4 m5 m6 m7) :=
  (wr 2 m h _ inb w).trans (congrArg (fun M => h.unread (stk M)) (by funext k; fin_cases k <;> rfl))

theorem rd_512_512_3 (m : Memref sig .tc .vmem S8x512x512 .f32) (h : m.IsWhole) (m0 m1 m2 m3 m4 m5 m6 m7 : Vec F S1x512x512 .f32)
    (inb : ∀ d, (![3, 0, 0] : Fin 3 → ℕ) d + S1x512x512.size d ≤ S8x512x512.size d) :
    View.readAt (Elt F) m.view (Rect.unit (s := S8x512x512) ![3, 0, 0] S1x512x512.size inb).toLoadRect (h.unread (S8 m0 m1 m2 m3 m4 m5 m6 m7)) = m3 :=
  rd 3 m h _ inb
theorem wr_512_512_3 (m : Memref sig .tc .vmem S8x512x512 .f32) (h : m.IsWhole) (m0 m1 m2 m3 m4 m5 m6 m7 : Vec F S1x512x512 .f32)
    (inb : ∀ d, (![3, 0, 0] : Fin 3 → ℕ) d + S1x512x512.size d ≤ S8x512x512.size d) (w : Vec F S1x512x512 .f32) :
    m.view.writes (Elt F) (h.unread (S8 m0 m1 m2 m3 m4 m5 m6 m7)) [⟨Rect.unit (s := S8x512x512) ![3, 0, 0] S1x512x512.size inb, w⟩] = h.unread (S8 m0 m1 m2 w m4 m5 m6 m7) :=
  (wr 3 m h _ inb w).trans (congrArg (fun M => h.unread (stk M)) (by funext k; fin_cases k <;> rfl))

theorem rd_512_512_4 (m : Memref sig .tc .vmem S8x512x512 .f32) (h : m.IsWhole) (m0 m1 m2 m3 m4 m5 m6 m7 : Vec F S1x512x512 .f32)
    (inb : ∀ d, (![4, 0, 0] : Fin 3 → ℕ) d + S1x512x512.size d ≤ S8x512x512.size d) :
    View.readAt (Elt F) m.view (Rect.unit (s := S8x512x512) ![4, 0, 0] S1x512x512.size inb).toLoadRect (h.unread (S8 m0 m1 m2 m3 m4 m5 m6 m7)) = m4 :=
  rd 4 m h _ inb
theorem wr_512_512_4 (m : Memref sig .tc .vmem S8x512x512 .f32) (h : m.IsWhole) (m0 m1 m2 m3 m4 m5 m6 m7 : Vec F S1x512x512 .f32)
    (inb : ∀ d, (![4, 0, 0] : Fin 3 → ℕ) d + S1x512x512.size d ≤ S8x512x512.size d) (w : Vec F S1x512x512 .f32) :
    m.view.writes (Elt F) (h.unread (S8 m0 m1 m2 m3 m4 m5 m6 m7)) [⟨Rect.unit (s := S8x512x512) ![4, 0, 0] S1x512x512.size inb, w⟩] = h.unread (S8 m0 m1 m2 m3 w m5 m6 m7) :=
  (wr 4 m h _ inb w).trans (congrArg (fun M => h.unread (stk M)) (by funext k; fin_cases k <;> rfl))

theorem rd_512_512_5 (m : Memref sig .tc .vmem S8x512x512 .f32) (h : m.IsWhole) (m0 m1 m2 m3 m4 m5 m6 m7 : Vec F S1x512x512 .f32)
    (inb : ∀ d, (![5, 0, 0] : Fin 3 → ℕ) d + S1x512x512.size d ≤ S8x512x512.size d) :
    View.readAt (Elt F) m.view (Rect.unit (s := S8x512x512) ![5, 0, 0] S1x512x512.size inb).toLoadRect (h.unread (S8 m0 m1 m2 m3 m4 m5 m6 m7)) = m5 :=
  rd 5 m h _ inb
theorem wr_512_512_5 (m : Memref sig .tc .vmem S8x512x512 .f32) (h : m.IsWhole) (m0 m1 m2 m3 m4 m5 m6 m7 : Vec F S1x512x512 .f32)
    (inb : ∀ d, (![5, 0, 0] : Fin 3 → ℕ) d + S1x512x512.size d ≤ S8x512x512.size d) (w : Vec F S1x512x512 .f32) :
    m.view.writes (Elt F) (h.unread (S8 m0 m1 m2 m3 m4 m5 m6 m7)) [⟨Rect.unit (s := S8x512x512) ![5, 0, 0] S1x512x512.size inb, w⟩] = h.unread (S8 m0 m1 m2 m3 m4 w m6 m7) :=
  (wr 5 m h _ inb w).trans (congrArg (fun M => h.unread (stk M)) (by funext k; fin_cases k <;> rfl))

theorem rd_512_512_6 (m : Memref sig .tc .vmem S8x512x512 .f32) (h : m.IsWhole) (m0 m1 m2 m3 m4 m5 m6 m7 : Vec F S1x512x512 .f32)
    (inb : ∀ d, (![6, 0, 0] : Fin 3 → ℕ) d + S1x512x512.size d ≤ S8x512x512.size d) :
    View.readAt (Elt F) m.view (Rect.unit (s := S8x512x512) ![6, 0, 0] S1x512x512.size inb).toLoadRect (h.unread (S8 m0 m1 m2 m3 m4 m5 m6 m7)) = m6 :=
  rd 6 m h _ inb
theorem wr_512_512_6 (m : Memref sig .tc .vmem S8x512x512 .f32) (h : m.IsWhole) (m0 m1 m2 m3 m4 m5 m6 m7 : Vec F S1x512x512 .f32)
    (inb : ∀ d, (![6, 0, 0] : Fin 3 → ℕ) d + S1x512x512.size d ≤ S8x512x512.size d) (w : Vec F S1x512x512 .f32) :
    m.view.writes (Elt F) (h.unread (S8 m0 m1 m2 m3 m4 m5 m6 m7)) [⟨Rect.unit (s := S8x512x512) ![6, 0, 0] S1x512x512.size inb, w⟩] = h.unread (S8 m0 m1 m2 m3 m4 m5 w m7) :=
  (wr 6 m h _ inb w).trans (congrArg (fun M => h.unread (stk M)) (by funext k; fin_cases k <;> rfl))

theorem rd_512_512_7 (m : Memref sig .tc .vmem S8x512x512 .f32) (h : m.IsWhole) (m0 m1 m2 m3 m4 m5 m6 m7 : Vec F S1x512x512 .f32)
    (inb : ∀ d, (![7, 0, 0] : Fin 3 → ℕ) d + S1x512x512.size d ≤ S8x512x512.size d) :
    View.readAt (Elt F) m.view (Rect.unit (s := S8x512x512) ![7, 0, 0] S1x512x512.size inb).toLoadRect (h.unread (S8 m0 m1 m2 m3 m4 m5 m6 m7)) = m7 :=
  rd 7 m h _ inb
theorem wr_512_512_7 (m : Memref sig .tc .vmem S8x512x512 .f32) (h : m.IsWhole) (m0 m1 m2 m3 m4 m5 m6 m7 : Vec F S1x512x512 .f32)
    (inb : ∀ d, (![7, 0, 0] : Fin 3 → ℕ) d + S1x512x512.size d ≤ S8x512x512.size d) (w : Vec F S1x512x512 .f32) :
    m.view.writes (Elt F) (h.unread (S8 m0 m1 m2 m3 m4 m5 m6 m7)) [⟨Rect.unit (s := S8x512x512) ![7, 0, 0] S1x512x512.size inb, w⟩] = h.unread (S8 m0 m1 m2 m3 m4 m5 m6 w) :=
  (wr 7 m h _ inb w).trans (congrArg (fun M => h.unread (stk M)) (by funext k; fin_cases k <;> rfl))

theorem rd_1_512_0 (m : Memref sig .tc .vmem S8x1x512 .f32) (h : m.IsWhole) (m0 m1 m2 m3 m4 m5 m6 m7 : Vec F S1x1x512 .f32)
    (inb : ∀ d, (![0, 0, 0] : Fin 3 → ℕ) d + S1x1x512.size d ≤ S8x1x512.size d) :
    View.readAt (Elt F) m.view (Rect.unit (s := S8x1x512) ![0, 0, 0] S1x1x512.size inb).toLoadRect (h.unread (S8 m0 m1 m2 m3 m4 m5 m6 m7)) = m0 :=
  rd 0 m h _ inb
theorem wr_1_512_0 (m : Memref sig .tc .vmem S8x1x512 .f32) (h : m.IsWhole) (m0 m1 m2 m3 m4 m5 m6 m7 : Vec F S1x1x512 .f32)
    (inb : ∀ d, (![0, 0, 0] : Fin 3 → ℕ) d + S1x1x512.size d ≤ S8x1x512.size d) (w : Vec F S1x1x512 .f32) :
    m.view.writes (Elt F) (h.unread (S8 m0 m1 m2 m3 m4 m5 m6 m7)) [⟨Rect.unit (s := S8x1x512) ![0, 0, 0] S1x1x512.size inb, w⟩] = h.unread (S8 w m1 m2 m3 m4 m5 m6 m7) :=
  (wr 0 m h _ inb w).trans (congrArg (fun M => h.unread (stk M)) (by funext k; fin_cases k <;> rfl))

theorem rd_1_512_1 (m : Memref sig .tc .vmem S8x1x512 .f32) (h : m.IsWhole) (m0 m1 m2 m3 m4 m5 m6 m7 : Vec F S1x1x512 .f32)
    (inb : ∀ d, (![1, 0, 0] : Fin 3 → ℕ) d + S1x1x512.size d ≤ S8x1x512.size d) :
    View.readAt (Elt F) m.view (Rect.unit (s := S8x1x512) ![1, 0, 0] S1x1x512.size inb).toLoadRect (h.unread (S8 m0 m1 m2 m3 m4 m5 m6 m7)) = m1 :=
  rd 1 m h _ inb
theorem wr_1_512_1 (m : Memref sig .tc .vmem S8x1x512 .f32) (h : m.IsWhole) (m0 m1 m2 m3 m4 m5 m6 m7 : Vec F S1x1x512 .f32)
    (inb : ∀ d, (![1, 0, 0] : Fin 3 → ℕ) d + S1x1x512.size d ≤ S8x1x512.size d) (w : Vec F S1x1x512 .f32) :
    m.view.writes (Elt F) (h.unread (S8 m0 m1 m2 m3 m4 m5 m6 m7)) [⟨Rect.unit (s := S8x1x512) ![1, 0, 0] S1x1x512.size inb, w⟩] = h.unread (S8 m0 w m2 m3 m4 m5 m6 m7) :=
  (wr 1 m h _ inb w).trans (congrArg (fun M => h.unread (stk M)) (by funext k; fin_cases k <;> rfl))

theorem rd_1_512_2 (m : Memref sig .tc .vmem S8x1x512 .f32) (h : m.IsWhole) (m0 m1 m2 m3 m4 m5 m6 m7 : Vec F S1x1x512 .f32)
    (inb : ∀ d, (![2, 0, 0] : Fin 3 → ℕ) d + S1x1x512.size d ≤ S8x1x512.size d) :
    View.readAt (Elt F) m.view (Rect.unit (s := S8x1x512) ![2, 0, 0] S1x1x512.size inb).toLoadRect (h.unread (S8 m0 m1 m2 m3 m4 m5 m6 m7)) = m2 :=
  rd 2 m h _ inb
theorem wr_1_512_2 (m : Memref sig .tc .vmem S8x1x512 .f32) (h : m.IsWhole) (m0 m1 m2 m3 m4 m5 m6 m7 : Vec F S1x1x512 .f32)
    (inb : ∀ d, (![2, 0, 0] : Fin 3 → ℕ) d + S1x1x512.size d ≤ S8x1x512.size d) (w : Vec F S1x1x512 .f32) :
    m.view.writes (Elt F) (h.unread (S8 m0 m1 m2 m3 m4 m5 m6 m7)) [⟨Rect.unit (s := S8x1x512) ![2, 0, 0] S1x1x512.size inb, w⟩] = h.unread (S8 m0 m1 w m3 m4 m5 m6 m7) :=
  (wr 2 m h _ inb w).trans (congrArg (fun M => h.unread (stk M)) (by funext k; fin_cases k <;> rfl))

theorem rd_1_512_3 (m : Memref sig .tc .vmem S8x1x512 .f32) (h : m.IsWhole) (m0 m1 m2 m3 m4 m5 m6 m7 : Vec F S1x1x512 .f32)
    (inb : ∀ d, (![3, 0, 0] : Fin 3 → ℕ) d + S1x1x512.size d ≤ S8x1x512.size d) :
    View.readAt (Elt F) m.view (Rect.unit (s := S8x1x512) ![3, 0, 0] S1x1x512.size inb).toLoadRect (h.unread (S8 m0 m1 m2 m3 m4 m5 m6 m7)) = m3 :=
  rd 3 m h _ inb
theorem wr_1_512_3 (m : Memref sig .tc .vmem S8x1x512 .f32) (h : m.IsWhole) (m0 m1 m2 m3 m4 m5 m6 m7 : Vec F S1x1x512 .f32)
    (inb : ∀ d, (![3, 0, 0] : Fin 3 → ℕ) d + S1x1x512.size d ≤ S8x1x512.size d) (w : Vec F S1x1x512 .f32) :
    m.view.writes (Elt F) (h.unread (S8 m0 m1 m2 m3 m4 m5 m6 m7)) [⟨Rect.unit (s := S8x1x512) ![3, 0, 0] S1x1x512.size inb, w⟩] = h.unread (S8 m0 m1 m2 w m4 m5 m6 m7) :=
  (wr 3 m h _ inb w).trans (congrArg (fun M => h.unread (stk M)) (by funext k; fin_cases k <;> rfl))

theorem rd_1_512_4 (m : Memref sig .tc .vmem S8x1x512 .f32) (h : m.IsWhole) (m0 m1 m2 m3 m4 m5 m6 m7 : Vec F S1x1x512 .f32)
    (inb : ∀ d, (![4, 0, 0] : Fin 3 → ℕ) d + S1x1x512.size d ≤ S8x1x512.size d) :
    View.readAt (Elt F) m.view (Rect.unit (s := S8x1x512) ![4, 0, 0] S1x1x512.size inb).toLoadRect (h.unread (S8 m0 m1 m2 m3 m4 m5 m6 m7)) = m4 :=
  rd 4 m h _ inb
theorem wr_1_512_4 (m : Memref sig .tc .vmem S8x1x512 .f32) (h : m.IsWhole) (m0 m1 m2 m3 m4 m5 m6 m7 : Vec F S1x1x512 .f32)
    (inb : ∀ d, (![4, 0, 0] : Fin 3 → ℕ) d + S1x1x512.size d ≤ S8x1x512.size d) (w : Vec F S1x1x512 .f32) :
    m.view.writes (Elt F) (h.unread (S8 m0 m1 m2 m3 m4 m5 m6 m7)) [⟨Rect.unit (s := S8x1x512) ![4, 0, 0] S1x1x512.size inb, w⟩] = h.unread (S8 m0 m1 m2 m3 w m5 m6 m7) :=
  (wr 4 m h _ inb w).trans (congrArg (fun M => h.unread (stk M)) (by funext k; fin_cases k <;> rfl))

theorem rd_1_512_5 (m : Memref sig .tc .vmem S8x1x512 .f32) (h : m.IsWhole) (m0 m1 m2 m3 m4 m5 m6 m7 : Vec F S1x1x512 .f32)
    (inb : ∀ d, (![5, 0, 0] : Fin 3 → ℕ) d + S1x1x512.size d ≤ S8x1x512.size d) :
    View.readAt (Elt F) m.view (Rect.unit (s := S8x1x512) ![5, 0, 0] S1x1x512.size inb).toLoadRect (h.unread (S8 m0 m1 m2 m3 m4 m5 m6 m7)) = m5 :=
  rd 5 m h _ inb
theorem wr_1_512_5 (m : Memref sig .tc .vmem S8x1x512 .f32) (h : m.IsWhole) (m0 m1 m2 m3 m4 m5 m6 m7 : Vec F S1x1x512 .f32)
    (inb : ∀ d, (![5, 0, 0] : Fin 3 → ℕ) d + S1x1x512.size d ≤ S8x1x512.size d) (w : Vec F S1x1x512 .f32) :
    m.view.writes (Elt F) (h.unread (S8 m0 m1 m2 m3 m4 m5 m6 m7)) [⟨Rect.unit (s := S8x1x512) ![5, 0, 0] S1x1x512.size inb, w⟩] = h.unread (S8 m0 m1 m2 m3 m4 w m6 m7) :=
  (wr 5 m h _ inb w).trans (congrArg (fun M => h.unread (stk M)) (by funext k; fin_cases k <;> rfl))

theorem rd_1_512_6 (m : Memref sig .tc .vmem S8x1x512 .f32) (h : m.IsWhole) (m0 m1 m2 m3 m4 m5 m6 m7 : Vec F S1x1x512 .f32)
    (inb : ∀ d, (![6, 0, 0] : Fin 3 → ℕ) d + S1x1x512.size d ≤ S8x1x512.size d) :
    View.readAt (Elt F) m.view (Rect.unit (s := S8x1x512) ![6, 0, 0] S1x1x512.size inb).toLoadRect (h.unread (S8 m0 m1 m2 m3 m4 m5 m6 m7)) = m6 :=
  rd 6 m h _ inb
theorem wr_1_512_6 (m : Memref sig .tc .vmem S8x1x512 .f32) (h : m.IsWhole) (m0 m1 m2 m3 m4 m5 m6 m7 : Vec F S1x1x512 .f32)
    (inb : ∀ d, (![6, 0, 0] : Fin 3 → ℕ) d + S1x1x512.size d ≤ S8x1x512.size d) (w : Vec F S1x1x512 .f32) :
    m.view.writes (Elt F) (h.unread (S8 m0 m1 m2 m3 m4 m5 m6 m7)) [⟨Rect.unit (s := S8x1x512) ![6, 0, 0] S1x1x512.size inb, w⟩] = h.unread (S8 m0 m1 m2 m3 m4 m5 w m7) :=
  (wr 6 m h _ inb w).trans (congrArg (fun M => h.unread (stk M)) (by funext k; fin_cases k <;> rfl))

theorem rd_1_512_7 (m : Memref sig .tc .vmem S8x1x512 .f32) (h : m.IsWhole) (m0 m1 m2 m3 m4 m5 m6 m7 : Vec F S1x1x512 .f32)
    (inb : ∀ d, (![7, 0, 0] : Fin 3 → ℕ) d + S1x1x512.size d ≤ S8x1x512.size d) :
    View.readAt (Elt F) m.view (Rect.unit (s := S8x1x512) ![7, 0, 0] S1x1x512.size inb).toLoadRect (h.unread (S8 m0 m1 m2 m3 m4 m5 m6 m7)) = m7 :=
  rd 7 m h _ inb
theorem wr_1_512_7 (m : Memref sig .tc .vmem S8x1x512 .f32) (h : m.IsWhole) (m0 m1 m2 m3 m4 m5 m6 m7 : Vec F S1x1x512 .f32)
    (inb : ∀ d, (![7, 0, 0] : Fin 3 → ℕ) d + S1x1x512.size d ≤ S8x1x512.size d) (w : Vec F S1x1x512 .f32) :
    m.view.writes (Elt F) (h.unread (S8 m0 m1 m2 m3 m4 m5 m6 m7)) [⟨Rect.unit (s := S8x1x512) ![7, 0, 0] S1x1x512.size inb, w⟩] = h.unread (S8 m0 m1 m2 m3 m4 m5 m6 w) :=
  (wr 7 m h _ inb w).trans (congrArg (fun M => h.unread (stk M)) (by funext k; fin_cases k <;> rfl))

theorem rd_144_512_0 (m : Memref sig .tc .vmem S8x144x512 .f32) (h : m.IsWhole) (m0 m1 m2 m3 m4 m5 m6 m7 : Vec F S1x144x512 .f32)
    (inb : ∀ d, (![0, 0, 0] : Fin 3 → ℕ) d + S1x144x512.size d ≤ S8x144x512.size d) :
    View.readAt (Elt F) m.view (Rect.unit (s := S8x144x512) ![0, 0, 0] S1x144x512.size inb).toLoadRect (h.unread (S8 m0 m1 m2 m3 m4 m5 m6 m7)) = m0 :=
  rd 0 m h _ inb
theorem wr_144_512_0 (m : Memref sig .tc .vmem S8x144x512 .f32) (h : m.IsWhole) (m0 m1 m2 m3 m4 m5 m6 m7 : Vec F S1x144x512 .f32)
    (inb : ∀ d, (![0, 0, 0] : Fin 3 → ℕ) d + S1x144x512.size d ≤ S8x144x512.size d) (w : Vec F S1x144x512 .f32) :
    m.view.writes (Elt F) (h.unread (S8 m0 m1 m2 m3 m4 m5 m6 m7)) [⟨Rect.unit (s := S8x144x512) ![0, 0, 0] S1x144x512.size inb, w⟩] = h.unread (S8 w m1 m2 m3 m4 m5 m6 m7) :=
  (wr 0 m h _ inb w).trans (congrArg (fun M => h.unread (stk M)) (by funext k; fin_cases k <;> rfl))

theorem rd_144_512_1 (m : Memref sig .tc .vmem S8x144x512 .f32) (h : m.IsWhole) (m0 m1 m2 m3 m4 m5 m6 m7 : Vec F S1x144x512 .f32)
    (inb : ∀ d, (![1, 0, 0] : Fin 3 → ℕ) d + S1x144x512.size d ≤ S8x144x512.size d) :
    View.readAt (Elt F) m.view (Rect.unit (s := S8x144x512) ![1, 0, 0] S1x144x512.size inb).toLoadRect (h.unread (S8 m0 m1 m2 m3 m4 m5 m6 m7)) = m1 :=
  rd 1 m h _ inb
theorem wr_144_512_1 (m : Memref sig .tc .vmem S8x144x512 .f32) (h : m.IsWhole) (m0 m1 m2 m3 m4 m5 m6 m7 : Vec F S1x144x512 .f32)
    (inb : ∀ d, (![1, 0, 0] : Fin 3 → ℕ) d + S1x144x512.size d ≤ S8x144x512.size d) (w : Vec F S1x144x512 .f32) :
    m.view.writes (Elt F) (h.unread (S8 m0 m1 m2 m3 m4 m5 m6 m7)) [⟨Rect.unit (s := S8x144x512) ![1, 0, 0] S1x144x512.size inb, w⟩] = h.unread (S8 m0 w m2 m3 m4 m5 m6 m7) :=
  (wr 1 m h _ inb w).trans (congrArg (fun M => h.unread (stk M)) (by funext k; fin_cases k <;> rfl))

theorem rd_144_512_2 (m : Memref sig .tc .vmem S8x144x512 .f32) (h : m.IsWhole) (m0 m1 m2 m3 m4 m5 m6 m7 : Vec F S1x144x512 .f32)
    (inb : ∀ d, (![2, 0, 0] : Fin 3 → ℕ) d + S1x144x512.size d ≤ S8x144x512.size d) :
    View.readAt (Elt F) m.view (Rect.unit (s := S8x144x512) ![2, 0, 0] S1x144x512.size inb).toLoadRect (h.unread (S8 m0 m1 m2 m3 m4 m5 m6 m7)) = m2 :=
  rd 2 m h _ inb
theorem wr_144_512_2 (m : Memref sig .tc .vmem S8x144x512 .f32) (h : m.IsWhole) (m0 m1 m2 m3 m4 m5 m6 m7 : Vec F S1x144x512 .f32)
    (inb : ∀ d, (![2, 0, 0] : Fin 3 → ℕ) d + S1x144x512.size d ≤ S8x144x512.size d) (w : Vec F S1x144x512 .f32) :
    m.view.writes (Elt F) (h.unread (S8 m0 m1 m2 m3 m4 m5 m6 m7)) [⟨Rect.unit (s := S8x144x512) ![2, 0, 0] S1x144x512.size inb, w⟩] = h.unread (S8 m0 m1 w m3 m4 m5 m6 m7) :=
  (wr 2 m h _ inb w).trans (congrArg (fun M => h.unread (stk M)) (by funext k; fin_cases k <;> rfl))

theorem rd_144_512_3 (m : Memref sig .tc .vmem S8x144x512 .f32) (h : m.IsWhole) (m0 m1 m2 m3 m4 m5 m6 m7 : Vec F S1x144x512 .f32)
    (inb : ∀ d, (![3, 0, 0] : Fin 3 → ℕ) d + S1x144x512.size d ≤ S8x144x512.size d) :
    View.readAt (Elt F) m.view (Rect.unit (s := S8x144x512) ![3, 0, 0] S1x144x512.size inb).toLoadRect (h.unread (S8 m0 m1 m2 m3 m4 m5 m6 m7)) = m3 :=
  rd 3 m h _ inb
theorem wr_144_512_3 (m : Memref sig .tc .vmem S8x144x512 .f32) (h : m.IsWhole) (m0 m1 m2 m3 m4 m5 m6 m7 : Vec F S1x144x512 .f32)
    (inb : ∀ d, (![3, 0, 0] : Fin 3 → ℕ) d + S1x144x512.size d ≤ S8x144x512.size d) (w : Vec F S1x144x512 .f32) :
    m.view.writes (Elt F) (h.unread (S8 m0 m1 m2 m3 m4 m5 m6 m7)) [⟨Rect.unit (s := S8x144x512) ![3, 0, 0] S1x144x512.size inb, w⟩] = h.unread (S8 m0 m1 m2 w m4 m5 m6 m7) :=
  (wr 3 m h _ inb w).trans (congrArg (fun M => h.unread (stk M)) (by funext k; fin_cases k <;> rfl))

theorem rd_144_512_4 (m : Memref sig .tc .vmem S8x144x512 .f32) (h : m.IsWhole) (m0 m1 m2 m3 m4 m5 m6 m7 : Vec F S1x144x512 .f32)
    (inb : ∀ d, (![4, 0, 0] : Fin 3 → ℕ) d + S1x144x512.size d ≤ S8x144x512.size d) :
    View.readAt (Elt F) m.view (Rect.unit (s := S8x144x512) ![4, 0, 0] S1x144x512.size inb).toLoadRect (h.unread (S8 m0 m1 m2 m3 m4 m5 m6 m7)) = m4 :=
  rd 4 m h _ inb
theorem wr_144_512_4 (m : Memref sig .tc .vmem S8x144x512 .f32) (h : m.IsWhole) (m0 m1 m2 m3 m4 m5 m6 m7 : Vec F S1x144x512 .f32)
    (inb : ∀ d, (![4, 0, 0] : Fin 3 → ℕ) d + S1x144x512.size d ≤ S8x144x512.size d) (w : Vec F S1x144x512 .f32) :
    m.view.writes (Elt F) (h.unread (S8 m0 m1 m2 m3 m4 m5 m6 m7)) [⟨Rect.unit (s := S8x144x512) ![4, 0, 0] S1x144x512.size inb, w⟩] = h.unread (S8 m0 m1 m2 m3 w m5 m6 m7) :=
  (wr 4 m h _ inb w).trans (congrArg (fun M => h.unread (stk M)) (by funext k; fin_cases k <;> rfl))

theorem rd_144_512_5 (m : Memref sig .tc .vmem S8x144x512 .f32) (h : m.IsWhole) (m0 m1 m2 m3 m4 m5 m6 m7 : Vec F S1x144x512 .f32)
    (inb : ∀ d, (![5, 0, 0] : Fin 3 → ℕ) d + S1x144x512.size d ≤ S8x144x512.size d) :
    View.readAt (Elt F) m.view (Rect.unit (s := S8x144x512) ![5, 0, 0] S1x144x512.size inb).toLoadRect (h.unread (S8 m0 m1 m2 m3 m4 m5 m6 m7)) = m5 :=
  rd 5 m h _ inb
theorem wr_144_512_5 (m : Memref sig .tc .vmem S8x144x512 .f32) (h : m.IsWhole) (m0 m1 m2 m3 m4 m5 m6 m7 : Vec F S1x144x512 .f32)
    (inb : ∀ d, (![5, 0, 0] : Fin 3 → ℕ) d + S1x144x512.size d ≤ S8x144x512.size d) (w : Vec F S1x144x512 .f32) :
    m.view.writes (Elt F) (h.unread (S8 m0 m1 m2 m3 m4 m5 m6 m7)) [⟨Rect.unit (s := S8x144x512) ![5, 0, 0] S1x144x512.size inb, w⟩] = h.unread (S8 m0 m1 m2 m3 m4 w m6 m7) :=
  (wr 5 m h _ inb w).trans (congrArg (fun M => h.unread (stk M)) (by funext k; fin_cases k <;> rfl))

theorem rd_144_512_6 (m : Memref sig .tc .vmem S8x144x512 .f32) (h : m.IsWhole) (m0 m1 m2 m3 m4 m5 m6 m7 : Vec F S1x144x512 .f32)
    (inb : ∀ d, (![6, 0, 0] : Fin 3 → ℕ) d + S1x144x512.size d ≤ S8x144x512.size d) :
    View.readAt (Elt F) m.view (Rect.unit (s := S8x144x512) ![6, 0, 0] S1x144x512.size inb).toLoadRect (h.unread (S8 m0 m1 m2 m3 m4 m5 m6 m7)) = m6 :=
  rd 6 m h _ inb
theorem wr_144_512_6 (m : Memref sig .tc .vmem S8x144x512 .f32) (h : m.IsWhole) (m0 m1 m2 m3 m4 m5 m6 m7 : Vec F S1x144x512 .f32)
    (inb : ∀ d, (![6, 0, 0] : Fin 3 → ℕ) d + S1x144x512.size d ≤ S8x144x512.size d) (w : Vec F S1x144x512 .f32) :
    m.view.writes (Elt F) (h.unread (S8 m0 m1 m2 m3 m4 m5 m6 m7)) [⟨Rect.unit (s := S8x144x512) ![6, 0, 0] S1x144x512.size inb, w⟩] = h.unread (S8 m0 m1 m2 m3 m4 m5 w m7) :=
  (wr 6 m h _ inb w).trans (congrArg (fun M => h.unread (stk M)) (by funext k; fin_cases k <;> rfl))

theorem rd_144_512_7 (m : Memref sig .tc .vmem S8x144x512 .f32) (h : m.IsWhole) (m0 m1 m2 m3 m4 m5 m6 m7 : Vec F S1x144x512 .f32)
    (inb : ∀ d, (![7, 0, 0] : Fin 3 → ℕ) d + S1x144x512.size d ≤ S8x144x512.size d) :
    View.readAt (Elt F) m.view (Rect.unit (s := S8x144x512) ![7, 0, 0] S1x144x512.size inb).toLoadRect (h.unread (S8 m0 m1 m2 m3 m4 m5 m6 m7)) = m7 :=
  rd 7 m h _ inb
theorem wr_144_512_7 (m : Memref sig .tc .vmem S8x144x512 .f32) (h : m.IsWhole) (m0 m1 m2 m3 m4 m5 m6 m7 : Vec F S1x144x512 .f32)
    (inb : ∀ d, (![7, 0, 0] : Fin 3 → ℕ) d + S1x144x512.size d ≤ S8x144x512.size d) (w : Vec F S1x144x512 .f32) :
    m.view.writes (Elt F) (h.unread (S8 m0 m1 m2 m3 m4 m5 m6 m7)) [⟨Rect.unit (s := S8x144x512) ![7, 0, 0] S1x144x512.size inb, w⟩] = h.unread (S8 m0 m1 m2 m3 m4 m5 m6 w) :=
  (wr 7 m h _ inb w).trans (congrArg (fun M => h.unread (stk M)) (by funext k; fin_cases k <;> rfl))

theorem rdl_512_512_0 (m : Memref sig .tc .vmem S8x512x512 .f32) (h : m.IsWhole) (m0 m1 m2 m3 m4 m5 m6 m7 : Vec F S1x512x512 .f32)
    (inb : ∀ d, (![0, 0, 0] : Fin 3 → ℕ) d + (![1, 512, 512] : Fin 3 → ℕ) d ≤ S8x512x512.size d) :
    View.readAt (Elt F) m.view (Rect.unit (s := S8x512x512) ![0, 0, 0] ![1, 512, 512] inb).toLoadRect (h.unread (S8 m0 m1 m2 m3 m4 m5 m6 m7)) = m0 :=
  rd_512_512_0 m h m0 m1 m2 m3 m4 m5 m6 m7 inb

theorem rdl_512_512_1 (m : Memref sig .tc .vmem S8x512x512 .f32) (h : m.IsWhole) (m0 m1 m2 m3 m4 m5 m6 m7 : Vec F S1x512x512 .f32)
    (inb : ∀ d, (![1, 0, 0] : Fin 3 → ℕ) d + (![1, 512, 512] : Fin 3 → ℕ) d ≤ S8x512x512.size d) :
    View.readAt (Elt F) m.view (Rect.unit (s := S8x512x512) ![1, 0, 0] ![1, 512, 512] inb).toLoadRect (h.unread (S8 m0 m1 m2 m3 m4 m5 m6 m7)) = m1 :=
  rd_512_512_1 m h m0 m1 m2 m3 m4 m5 m6 m7 inb

theorem rdl_512_512_2 (m : Memref sig .tc .vmem S8x512x512 .f32) (h : m.IsWhole) (m0 m1 m2 m3 m4 m5 m6 m7 : Vec F S1x512x512 .f32)
    (inb : ∀ d, (![2, 0, 0] : Fin 3 → ℕ) d + (![1, 512, 512] : Fin 3 → ℕ) d ≤ S8x512x512.size d) :
    View.readAt (Elt F) m.view (Rect.unit (s := S8x512x512) ![2, 0, 0] ![1, 512, 512] inb).toLoadRect (h.unread (S8 m0 m1 m2 m3 m4 m5 m6 m7)) = m2 :=
  rd_512_512_2 m h m0 m1 m2 m3 m4 m5 m6 m7 inb

theorem rdl_512_512_3 (m : Memref sig .tc .vmem S8x512x512 .f32) (h : m.IsWhole) (m0 m1 m2 m3 m4 m5 m6 m7 : Vec F S1x512x512 .f32)
    (inb : ∀ d, (![3, 0, 0] : Fin 3 → ℕ) d + (![1, 512, 512] : Fin 3 → ℕ) d ≤ S8x512x512.size d) :
    View.readAt (Elt F) m.view (Rect.unit (s := S8x512x512) ![3, 0, 0] ![1, 512, 512] inb).toLoadRect (h.unread (S8 m0 m1 m2 m3 m4 m5 m6 m7)) = m3 :=
  rd_512_512_3 m h m0 m1 m2 m3 m4 m5 m6 m7 inb

theorem rdl_512_512_4 (m : Memref sig .tc .vmem S8x512x512 .f32) (h : m.IsWhole) (m0 m1 m2 m3 m4 m5 m6 m7 : Vec F S1x512x512 .f32)
    (inb : ∀ d, (![4, 0, 0] : Fin 3 → ℕ) d + (![1, 512, 512] : Fin 3 → ℕ) d ≤ S8x512x512.size d) :
    View.readAt (Elt F) m.view (Rect.unit (s := S8x512x512) ![4, 0, 0] ![1, 512, 512] inb).toLoadRect (h.unread (S8 m0 m1 m2 m3 m4 m5 m6 m7)) = m4 :=
  rd_512_512_4 m h m0 m1 m2 m3 m4 m5 m6 m7 inb

theorem rdl_512_512_5 (m : Memref sig .tc .vmem S8x512x512 .f32) (h : m.IsWhole) (m0 m1 m2 m3 m4 m5 m6 m7 : Vec F S1x512x512 .f32)
    (inb : ∀ d, (![5, 0, 0] : Fin 3 → ℕ) d + (![1, 512, 512] : Fin 3 → ℕ) d ≤ S8x512x512.size d) :
    View.readAt (Elt F) m.view (Rect.unit (s := S8x512x512) ![5, 0, 0] ![1, 512, 512] inb).toLoadRect (h.unread (S8 m0 m1 m2 m3 m4 m5 m6 m7)) = m5 :=
  rd_512_512_5 m h m0 m1 m2 m3 m4 m5 m6 m7 inb

theorem rdl_512_512_6 (m : Memref sig .tc .vmem S8x512x512 .f32) (h : m.IsWhole) (m0 m1 m2 m3 m4 m5 m6 m7 : Vec F S1x512x512 .f32)
    (inb : ∀ d, (![6, 0, 0] : Fin 3 → ℕ) d + (![1, 512, 512] : Fin 3 → ℕ) d ≤ S8x512x512.size d) :
    View.readAt (Elt F) m.view (Rect.unit (s := S8x512x512) ![6, 0, 0] ![1, 512, 512] inb).toLoadRect (h.unread (S8 m0 m1 m2 m3 m4 m5 m6 m7)) = m6 :=
  rd_512_512_6 m h m0 m1 m2 m3 m4 m5 m6 m7 inb

theorem rdl_512_512_7 (m : Memref sig .tc .vmem S8x512x512 .f32) (h : m.IsWhole) (m0 m1 m2 m3 m4 m5 m6 m7 : Vec F S1x512x512 .f32)
    (inb : ∀ d, (![7, 0, 0] : Fin 3 → ℕ) d + (![1, 512, 512] : Fin 3 → ℕ) d ≤ S8x512x512.size d) :
    View.readAt (Elt F) m.view (Rect.unit (s := S8x512x512) ![7, 0, 0] ![1, 512, 512] inb).toLoadRect (h.unread (S8 m0 m1 m2 m3 m4 m5 m6 m7)) = m7 :=
  rd_512_512_7 m h m0 m1 m2 m3 m4 m5 m6 m7 inb

theorem rdl_1_512_0 (m : Memref sig .tc .vmem S8x1x512 .f32) (h : m.IsWhole) (m0 m1 m2 m3 m4 m5 m6 m7 : Vec F S1x1x512 .f32)
    (inb : ∀ d, (![0, 0, 0] : Fin 3 → ℕ) d + (![1, 1, 512] : Fin 3 → ℕ) d ≤ S8x1x512.size d) :
    View.readAt (Elt F) m.view (Rect.unit (s := S8x1x512) ![0, 0, 0] ![1, 1, 512] inb).toLoadRect (h.unread (S8 m0 m1 m2 m3 m4 m5 m6 m7)) = m0 :=
  rd_1_512_0 m h m0 m1 m2 m3 m4 m5 m6 m7 inb

theorem rdl_1_512_1 (m : Memref sig .tc .vmem S8x1x512 .f32) (h : m.IsWhole) (m0 m1 m2 m3 m4 m5 m6 m7 : Vec F S1x1x512 .f32)
    (inb : ∀ d, (![1, 0, 0] : Fin 3 → ℕ) d + (![1, 1, 512] : Fin 3 → ℕ) d ≤ S8x1x512.size d) :
    View.readAt (Elt F) m.view (Rect.unit (s := S8x1x512) ![1, 0, 0] ![1, 1, 512] inb).toLoadRect (h.unread (S8 m0 m1 m2 m3 m4 m5 m6 m7)) = m1 :=
  rd_1_512_1 m h m0 m1 m2 m3 m4 m5 m6 m7 inb

theorem rdl_1_512_2 (m : Memref sig .tc .vmem S8x1x512 .f32) (h : m.IsWhole) (m0 m1 m2 m3 m4 m5 m6 m7 : Vec F S1x1x512 .f32)
    (inb : ∀ d, (![2, 0, 0] : Fin 3 → ℕ) d + (![1, 1, 512] : Fin 3 → ℕ) d ≤ S8x1x512.size d) :
    View.readAt (Elt F) m.view (Rect.unit (s := S8x1x512) ![2, 0, 0] ![1, 1, 512] inb).toLoadRect (h.unread (S8 m0 m1 m2 m3 m4 m5 m6 m7)) = m2 :=
  rd_1_512_2 m h m0 m1 m2 m3 m4 m5 m6 m7 inb

theorem rdl_1_512_3 (m : Memref sig .tc .vmem S8x1x512 .f32) (h : m.IsWhole) (m0 m1 m2 m3 m4 m5 m6 m7 : Vec F S1x1x512 .f32)
    (inb : ∀ d, (![3, 0, 0] : Fin 3 → ℕ) d + (![1, 1, 512] : Fin 3 → ℕ) d ≤ S8x1x512.size d) :
    View.readAt (Elt F) m.view (Rect.unit (s := S8x1x512) ![3, 0, 0] ![1, 1, 512] inb).toLoadRect (h.unread (S8 m0 m1 m2 m3 m4 m5 m6 m7)) = m3 :=
  rd_1_512_3 m h m0 m1 m2 m3 m4 m5 m6 m7 inb

theorem rdl_1_512_4 (m : Memref sig .tc .vmem S8x1x512 .f32) (h : m.IsWhole) (m0 m1 m2 m3 m4 m5 m6 m7 : Vec F S1x1x512 .f32)
    (inb : ∀ d, (![4, 0, 0] : Fin 3 → ℕ) d + (![1, 1, 512] : Fin 3 → ℕ) d ≤ S8x1x512.size d) :
    View.readAt (Elt F) m.view (Rect.unit (s := S8x1x512) ![4, 0, 0] ![1, 1, 512] inb).toLoadRect (h.unread (S8 m0 m1 m2 m3 m4 m5 m6 m7)) = m4 :=
  rd_1_512_4 m h m0 m1 m2 m3 m4 m5 m6 m7 inb

theorem rdl_1_512_5 (m : Memref sig .tc .vmem S8x1x512 .f32) (h : m.IsWhole) (m0 m1 m2 m3 m4 m5 m6 m7 : Vec F S1x1x512 .f32)
    (inb : ∀ d, (![5, 0, 0] : Fin 3 → ℕ) d + (![1, 1, 512] : Fin 3 → ℕ) d ≤ S8x1x512.size d) :
    View.readAt (Elt F) m.view (Rect.unit (s := S8x1x512) ![5, 0, 0] ![1, 1, 512] inb).toLoadRect (h.unread (S8 m0 m1 m2 m3 m4 m5 m6 m7)) = m5 :=
  rd_1_512_5 m h m0 m1 m2 m3 m4 m5 m6 m7 inb

theorem rdl_1_512_6 (m : Memref sig .tc .vmem S8x1x512 .f32) (h : m.IsWhole) (m0 m1 m2 m3 m4 m5 m6 m7 : Vec F S1x1x512 .f32)
    (inb : ∀ d, (![6, 0, 0] : Fin 3 → ℕ) d + (![1, 1, 512] : Fin 3 → ℕ) d ≤ S8x1x512.size d) :
    View.readAt (Elt F) m.view (Rect.unit (s := S8x1x512) ![6, 0, 0] ![1, 1, 512] inb).toLoadRect (h.unread (S8 m0 m1 m2 m3 m4 m5 m6 m7)) = m6 :=
  rd_1_512_6 m h m0 m1 m2 m3 m4 m5 m6 m7 inb

theorem rdl_1_512_7 (m : Memref sig .tc .vmem S8x1x512 .f32) (h : m.IsWhole) (m0 m1 m2 m3 m4 m5 m6 m7 : Vec F S1x1x512 .f32)
    (inb : ∀ d, (![7, 0, 0] : Fin 3 → ℕ) d + (![1, 1, 512] : Fin 3 → ℕ) d ≤ S8x1x512.size d) :
    View.readAt (Elt F) m.view (Rect.unit (s := S8x1x512) ![7, 0, 0] ![1, 1, 512] inb).toLoadRect (h.unread (S8 m0 m1 m2 m3 m4 m5 m6 m7)) = m7 :=
  rd_1_512_7 m h m0 m1 m2 m3 m4 m5 m6 m7 inb

theorem rdl_144_512_0 (m : Memref sig .tc .vmem S8x144x512 .f32) (h : m.IsWhole) (m0 m1 m2 m3 m4 m5 m6 m7 : Vec F S1x144x512 .f32)
    (inb : ∀ d, (![0, 0, 0] : Fin 3 → ℕ) d + (![1, 144, 512] : Fin 3 → ℕ) d ≤ S8x144x512.size d) :
    View.readAt (Elt F) m.view (Rect.unit (s := S8x144x512) ![0, 0, 0] ![1, 144, 512] inb).toLoadRect (h.unread (S8 m0 m1 m2 m3 m4 m5 m6 m7)) = m0 :=
  rd_144_512_0 m h m0 m1 m2 m3 m4 m5 m6 m7 inb

theorem rdl_144_512_1 (m : Memref sig .tc .vmem S8x144x512 .f32) (h : m.IsWhole) (m0 m1 m2 m3 m4 m5 m6 m7 : Vec F S1x144x512 .f32)
    (inb : ∀ d, (![1, 0, 0] : Fin 3 → ℕ) d + (![1, 144, 512] : Fin 3 → ℕ) d ≤ S8x144x512.size d) :
    View.readAt (Elt F) m.view (Rect.unit (s := S8x144x512) ![1, 0, 0] ![1, 144, 512] inb).toLoadRect (h.unread (S8 m0 m1 m2 m3 m4 m5 m6 m7)) = m1 :=
  rd_144_512_1 m h m0 m1 m2 m3 m4 m5 m6 m7 inb

theorem rdl_144_512_2 (m : Memref sig .tc .vmem S8x144x512 .f32) (h : m.IsWhole) (m0 m1 m2 m3 m4 m5 m6 m7 : Vec F S1x144x512 .f32)
    (inb : ∀ d, (![2, 0, 0] : Fin 3 → ℕ) d + (![1, 144, 512] : Fin 3 → ℕ) d ≤ S8x144x512.size d) :
    View.readAt (Elt F) m.view (Rect.unit (s := S8x144x512) ![2, 0, 0] ![1, 144, 512] inb).toLoadRect (h.unread (S8 m0 m1 m2 m3 m4 m5 m6 m7)) = m2 :=
  rd_144_512_2 m h m0 m1 m2 m3 m4 m5 m6 m7 inb

theorem rdl_144_512_3 (m : Memref sig .tc .vmem S8x144x512 .f32) (h : m.IsWhole) (m0 m1 m2 m3 m4 m5 m6 m7 : Vec F S1x144x512 .f32)
    (inb : ∀ d, (![3, 0, 0] : Fin 3 → ℕ) d + (![1, 144, 512] : Fin 3 → ℕ) d ≤ S8x144x512.size d) :
    View.readAt (Elt F) m.view (Rect.unit (s := S8x144x512) ![3, 0, 0] ![1, 144, 512] inb).toLoadRect (h.unread (S8 m0 m1 m2 m3 m4 m5 m6 m7)) = m3 :=
  rd_144_512_3 m h m0 m1 m2 m3 m4 m5 m6 m7 inb

theorem rdl_144_512_4 (m : Memref sig .tc .vmem S8x144x512 .f32) (h : m.IsWhole) (m0 m1 m2 m3 m4 m5 m6 m7 : Vec F S1x144x512 .f32)
    (inb : ∀ d, (![4, 0, 0] : Fin 3 → ℕ) d + (![1, 144, 512] : Fin 3 → ℕ) d ≤ S8x144x512.size d) :
    View.readAt (Elt F) m.view (Rect.unit (s := S8x144x512) ![4, 0, 0] ![1, 144, 512] inb).toLoadRect (h.unread (S8 m0 m1 m2 m3 m4 m5 m6 m7)) = m4 :=
  rd_144_512_4 m h m0 m1 m2 m3 m4 m5 m6 m7 inb

theorem rdl_144_512_5 (m : Memref sig .tc .vmem S8x144x512 .f32) (h : m.IsWhole) (m0 m1 m2 m3 m4 m5 m6 m7 : Vec F S1x144x512 .f32)
    (inb : ∀ d, (![5, 0, 0] : Fin 3 → ℕ) d + (![1, 144, 512] : Fin 3 → ℕ) d ≤ S8x144x512.size d) :
    View.readAt (Elt F) m.view (Rect.unit (s := S8x144x512) ![5, 0, 0] ![1, 144, 512] inb).toLoadRect (h.unread (S8 m0 m1 m2 m3 m4 m5 m6 m7)) = m5 :=
  rd_144_512_5 m h m0 m1 m2 m3 m4 m5 m6 m7 inb

theorem rdl_144_512_6 (m : Memref sig .tc .vmem S8x144x512 .f32) (h : m.IsWhole) (m0 m1 m2 m3 m4 m5 m6 m7 : Vec F S1x144x512 .f32)
    (inb : ∀ d, (![6, 0, 0] : Fin 3 → ℕ) d + (![1, 144, 512] : Fin 3 → ℕ) d ≤ S8x144x512.size d) :
    View.readAt (Elt F) m.view (Rect.unit (s := S8x144x512) ![6, 0, 0] ![1, 144, 512] inb).toLoadRect (h.unread (S8 m0 m1 m2 m3 m4 m5 m6 m7)) = m6 :=
  rd_144_512_6 m h m0 m1 m2 m3 m4 m5 m6 m7 inb

theorem rdl_144_512_7 (m : Memref sig .tc .vmem S8x144x512 .f32) (h : m.IsWhole) (m0 m1 m2 m3 m4 m5 m6 m7 : Vec F S1x144x512 .f32)
    (inb : ∀ d, (![7, 0, 0] : Fin 3 → ℕ) d + (![1, 144, 512] : Fin 3 → ℕ) d ≤ S8x144x512.size d) :
    View.readAt (Elt F) m.view (Rect.unit (s := S8x144x512) ![7, 0, 0] ![1, 144, 512] inb).toLoadRect (h.unread (S8 m0 m1 m2 m3 m4 m5 m6 m7)) = m7 :=
  rd_144_512_7 m h m0 m1 m2 m3 m4 m5 m6 m7 inb

/-- The part of the queries' block a load takes, -/
def cutQ (X : Vec F S2x1024x512 .bf16) (off : Fin S2x1024x512.rank → ℕ) (inb : ∀ d, off d + S1x256x512.size d ≤ S2x1024x512.size d) : Vec F S1x256x512 .bf16 :=
  fun x => X ((Rect.unit (s := S2x1024x512) off S1x256x512.size inb).toLoadRect.idx x)

/-- and that the load takes it. -/
theorem readQ (m : Memref sig .tc .vmem S2x1024x512 .bf16) (h : m.IsWhole) (X : Vec F S2x1024x512 .bf16) (off : Fin S2x1024x512.rank → ℕ) (inb : ∀ d, off d + S1x256x512.size d ≤ S2x1024x512.size d) :
    View.readAt (Elt F) m.view (Rect.unit (s := S2x1024x512) off S1x256x512.size inb).toLoadRect (h.unread X) = cutQ X off inb :=
  funext fun x => h.readAt_unread X _ x

/-- The part of the keys' block a load takes, -/
def cutK (X : Vec F S1x4096x1024 .bf16) (off : Fin S1x4096x1024.rank → ℕ) (inb : ∀ d, off d + S1x512x256.size d ≤ S1x4096x1024.size d) : Vec F S1x512x256 .bf16 :=
  fun x => X ((Rect.unit (s := S1x4096x1024) off S1x512x256.size inb).toLoadRect.idx x)

/-- and that the load takes it. -/
theorem readK (m : Memref sig .tc .vmem S1x4096x1024 .bf16) (h : m.IsWhole) (X : Vec F S1x4096x1024 .bf16) (off : Fin S1x4096x1024.rank → ℕ) (inb : ∀ d, off d + S1x512x256.size d ≤ S1x4096x1024.size d) :
    View.readAt (Elt F) m.view (Rect.unit (s := S1x4096x1024) off S1x512x256.size inb).toLoadRect (h.unread X) = cutK X off inb :=
  funext fun x => h.readAt_unread X _ x

/-- The part of the values' block a load takes, -/
def cutV (X : Vec F S1x8x576x512 .bf16) (off : Fin S1x8x576x512.rank → ℕ) (inb : ∀ d, off d + S1x1x144x512.size d ≤ S1x8x576x512.size d) : Vec F S1x1x144x512 .bf16 :=
  fun x => X ((Rect.unit (s := S1x8x576x512) off S1x1x144x512.size inb).toLoadRect.idx x)

/-- and that the load takes it. -/
theorem readV (m : Memref sig .tc .vmem S1x8x576x512 .bf16) (h : m.IsWhole) (X : Vec F S1x8x576x512 .bf16) (off : Fin S1x8x576x512.rank → ℕ) (inb : ∀ d, off d + S1x1x144x512.size d ≤ S1x8x576x512.size d) :
    View.readAt (Elt F) m.view (Rect.unit (s := S1x8x576x512) off S1x1x144x512.size inb).toLoadRect (h.unread X) = cutV X off inb :=
  funext fun x => h.readAt_unread X _ x

end Cert.Attn

end
-- ==== Proof.Attn.PartsA.lean ====
/- What each stretch of the kernel's body does to the blocks it holds: loads read blocks, stores replace them. -/
module

public import proofs.«01_k».proof.Proof.Attn.Stack

@[expose] public section

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S2x1024x512 .bf16) (harg3 : arg3.IsWhole) (arg4 : Memref sig .tc .vmem S1x4096x1024 .bf16) (harg4 : arg4.IsWhole) (arg5 : Memref sig .tc .vmem S1x8x576x512 .bf16) (harg5 : arg5.IsWhole) (arg6 : Memref sig .tc .vmem S2x512x512 .bf16) (harg6 : arg6.IsWhole) (arg7 : Memref sig .tc .vmem S8x512x512 .f32) (harg7 : arg7.IsWhole) (arg8 : Memref sig .tc .vmem S8x512x512 .f32) (harg8 : arg8.IsWhole) (arg9 : Memref sig .tc .vmem S8x1x512 .f32) (harg9 : arg9.IsWhole) (arg10 : Memref sig .tc .vmem S8x144x512 .f32) (harg10 : arg10.IsWhole)

include arg3 harg3 arg4 harg4 arg5 harg5 arg6 harg6 arg7 harg7 arg8 harg8 arg9 harg9 arg10 harg10

set_option maxHeartbeats 400000 in
theorem part1 (c0_i32_69 : BitVec 32) (c1_i32_70 : BitVec 32) (k0_t1 : Fin (k0_t1_loop i).trips) (x3 : Vec F S2x1024x512 .bf16) (x4 : Vec F S1x4096x1024 .bf16) (b0 b1 b2 b3 b4 b5 b6 b7 : Vec F S1x512x512 .f32) (E : Set ℕ) (K : (Σ' (v585 : BitVec 32) (v588 : BitVec 32), FVec F S512x512 .f32) → sProp 𝕄) :
    iprop((arg3.view.loc (c : Thread nD τ) ↦[arg3.view.set]{fullShare} (harg3.unread x3)) ∗ (arg4.view.loc (c : Thread nD τ) ↦[arg4.view.set]{fullShare} (harg4.unread x4)) ∗ (arg8.view.loc (c : Thread nD τ) ↦[arg8.view.set]{fullShare} (harg8.unread (S8 b0 b1 b2 b3 b4 b5 b6 b7))) ∗ (iprop((arg3.view.loc (c : Thread nD τ) ↦[arg3.view.set]{fullShare} (harg3.unread x3)) ∗ (arg4.view.loc (c : Thread nD τ) ↦[arg4.view.set]{fullShare} (harg4.unread x4)) ∗ (arg8.view.loc (c : Thread nD τ) ↦[arg8.view.set]{fullShare} (harg8.unread (S8 (k0_pay2 (cutK x4 (k0_off1 i k0_t1 1#32) (k0_off1_inb i k0_t1 0)) (cutQ x3 ![0, 0, 0] inb_S2x1024x512_S1x256x512_0_0_0)) (k0_pay3 (cutK x4 (k0_off1 i k0_t1 1#32) (k0_off1_inb i k0_t1 0)) (cutQ x3 ![1, 0, 0] inb_S2x1024x512_S1x256x512_1_0_0)) b2 b3 b4 b5 b6 b7)))) -∗ K ⟨(Scalar.muli 2#32 (Scf.iv c0_i32_69 c1_i32_70 k0_t1)), ((Scalar.muli (Scalar.addi (Scalar.muli 2#32 (Scf.iv c0_i32_69 c1_i32_70 k0_t1)) 1#32) 512#32)), k0_pay4 (cutK x4 (k0_off2 i k0_t1 1#32) (k0_off2_inb i k0_t1 0)) (cutQ x3 ![0, 256, 0] inb_S2x1024x512_S1x256x512_0_256_0)⟩))
    ⊢ wp frame (wpE (defs₀ (F := F)) Variants.none c none) E (k0_part1 i arg3 harg3 arg4 harg4 arg5 harg5 arg6 harg6 arg7 harg7 arg8 harg8 arg9 harg9 arg10 harg10 c0_i32_69 c1_i32_70 k0_t1) K := by
  rw [k0_part1_eq_skeleton]; unfold k0_part1_skel
  iintro ⟨H3, H4, H8, Hk⟩
  sl_exec
  sl_step
  try unfold part1.sl.v604
  try unfold part1.sl.v588
  try unfold part1.sl.v587
  try unfold part1.sl.v586
  try unfold part1.sl.v585
  try unfold part1.sl.arg11
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H3]; · iexact H3
  isplitl [H4]; · iexact H4
  iexact H8

set_option maxHeartbeats 400000 in
theorem part2 (k0_t1 : Fin (k0_t1_loop i).trips) (v588 : BitVec 32) (v612 : FVec F S512x512 .f32) (x3 : Vec F S2x1024x512 .bf16) (x4 : Vec F S1x4096x1024 .bf16) (b0 b1 b2 b3 b4 b5 b6 b7 : Vec F S1x512x512 .f32) (E : Set ℕ) (K : (FVec F S512x512 .f32) → sProp 𝕄) :
    iprop((arg3.view.loc (c : Thread nD τ) ↦[arg3.view.set]{fullShare} (harg3.unread x3)) ∗ (arg4.view.loc (c : Thread nD τ) ↦[arg4.view.set]{fullShare} (harg4.unread x4)) ∗ (arg8.view.loc (c : Thread nD τ) ↦[arg8.view.set]{fullShare} (harg8.unread (S8 b0 b1 b2 b3 b4 b5 b6 b7))) ∗ (iprop((arg3.view.loc (c : Thread nD τ) ↦[arg3.view.set]{fullShare} (harg3.unread x3)) ∗ (arg4.view.loc (c : Thread nD τ) ↦[arg4.view.set]{fullShare} (harg4.unread x4)) ∗ (arg8.view.loc (c : Thread nD τ) ↦[arg8.view.set]{fullShare} (harg8.unread (S8 b0 b1 (k0_pay5 v612) (k0_pay6 (cutK x4 (k0_off2 i k0_t1 1#32) (k0_off2_inb i k0_t1 0)) (cutQ x3 ![1, 256, 0] inb_S2x1024x512_S1x256x512_1_256_0)) (k0_pay7 (cutK x4 (k0_off3 i k0_t1 1#32) (k0_off3_inb i k0_t1 0)) (cutQ x3 ![0, 512, 0] inb_S2x1024x512_S1x256x512_0_512_0)) b5 b6 b7)))) -∗ K (k0_pay8 (cutK x4 (k0_off3 i k0_t1 1#32) (k0_off3_inb i k0_t1 0)) (cutQ x3 ![1, 512, 0] inb_S2x1024x512_S1x256x512_1_512_0))))
    ⊢ wp frame (wpE (defs₀ (F := F)) Variants.none c none) E (k0_part2 i arg3 harg3 arg4 harg4 arg5 harg5 arg6 harg6 arg7 harg7 arg8 harg8 arg9 harg9 arg10 harg10 k0_t1 v588 v612) K := by
  rw [k0_part2_eq_skeleton]; unfold k0_part2_skel
  iintro ⟨H3, H4, H8, Hk⟩
  sl_exec
  sl_step
  try unfold part2.sl.v640
  try unfold part2.sl.v631
  try unfold part2.sl.v622
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H3]; · iexact H3
  isplitl [H4]; · iexact H4
  iexact H8

set_option maxHeartbeats 400000 in
theorem part3 (k0_t1 : Fin (k0_t1_loop i).trips) (v588 : BitVec 32) (v639 : FVec F S512x512 .f32) (x3 : Vec F S2x1024x512 .bf16) (x4 : Vec F S1x4096x1024 .bf16) (a0 a1 a2 a3 a4 a5 a6 a7 : Vec F S1x512x512 .f32) (b0 b1 b2 b3 b4 b5 b6 b7 : Vec F S1x512x512 .f32) (m0 m1 m2 m3 m4 m5 m6 m7 : Vec F S1x1x512 .f32) (E : Set ℕ) (K : (Σ' (v667 : FVec F S1x512 .f32) (v669 : FVec F S1x512 .f32), FVec F S512x512 .f32) → sProp 𝕄) :
    iprop((arg3.view.loc (c : Thread nD τ) ↦[arg3.view.set]{fullShare} (harg3.unread x3)) ∗ (arg4.view.loc (c : Thread nD τ) ↦[arg4.view.set]{fullShare} (harg4.unread x4)) ∗ (arg7.view.loc (c : Thread nD τ) ↦[arg7.view.set]{fullShare} (harg7.unread (S8 a0 a1 a2 a3 a4 a5 a6 a7))) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 m1 m2 m3 m4 m5 m6 m7))) ∗ (iprop((arg3.view.loc (c : Thread nD τ) ↦[arg3.view.set]{fullShare} (harg3.unread x3)) ∗ (arg4.view.loc (c : Thread nD τ) ↦[arg4.view.set]{fullShare} (harg4.unread x4)) ∗ (arg7.view.loc (c : Thread nD τ) ↦[arg7.view.set]{fullShare} (harg7.unread (S8 a0 a1 a2 a3 a4 a5 a6 a7))) ∗ (arg8.view.loc (c : Thread nD τ) ↦[arg8.view.set]{fullShare} (harg8.unread (S8 b0 b1 b2 b3 b4 (k0_pay9 v639) (k0_pay10 (cutK x4 (k0_off4 i k0_t1 1#32) (k0_off4_inb i k0_t1 0)) (cutQ x3 ![0, 768, 0] inb_S2x1024x512_S1x256x512_0_768_0)) (k0_pay11 (cutK x4 (k0_off4 i k0_t1 1#32) (k0_off4_inb i k0_t1 0)) (cutQ x3 ![1, 768, 0] inb_S2x1024x512_S1x256x512_1_768_0))))) ∗ (arg9.view.loc (c : Thread nD τ) ↦[arg9.view.set]{fullShare} (harg9.unread (S8 m0 m1 m2 m3 m4 m5 m6 m7)))) -∗ K ⟨k0_pay14 a0 m0, k0_pay15 a0 m0, k0_pay16 a0 m0⟩))
    ⊢ wp frame (wpE (defs₀ (F := F)) Variants.none c none) E (k0_part3 i arg3 harg3 arg4 harg4 arg5 harg5 arg6 harg6 arg7 harg7 arg8 harg8 arg9 harg9 arg10 harg10 k0_t1 v588 v639) K := by
  rw [k0_part3_eq_skeleton]; unfold k0_part3_skel
  iintro ⟨H3, H4, H7, H8, H9, Hk⟩
  sl_exec
  sl_step
  try unfold part3.sl.v658
  try unfold part3.sl.v649
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H3]; · iexact H3
  isplitl [H4]; · iexact H4
  isplitl [H7]; · iexact H7
  isplitl [H8]; · iexact H8
  iexact H9

set_option maxHeartbeats 400000 in
theorem part4 (k0_t1 : Fin (k0_t1_loop i).trips) (v585 : BitVec 32) (v667 : FVec F S1x512 .f32) (v669 : FVec F S1x512 .f32) (v672 : FVec F S512x512 .f32) (x5 : Vec F S1x8x576x512 .bf16) (a0 a1 a2 a3 a4 a5 a6 a7 : Vec F S1x512x512 .f32) (m0 m1 m2 m3 m4 m5 m6 m7 : Vec F S1x1x512 .f32) (n0 n1 n2 n3 n4 n5 n6 n7 : Vec F S1x144x512 .f32) (E : Set ℕ) (K : (Σ' (v695 : FVec F S1x512 .f32) (v700 : FVec F S512x512 .f32), FVec F S144x512 .f32) → sProp 𝕄) :
    iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 (k0_pay18 v667) m1 m2 m3 m4 m5 m6 m7))) ∗ (arg10.view.loc (c : Thread nD τ) ↦[arg10.view.set]{fullShare} (harg10.unread (S8 (k0_pay17 v669 v672 n0 (cutV x5 (k0_off5 i k0_t1) (k0_off5_inb i k0_t1))) n1 n2 n3 n4 n5 n6 n7)))) -∗ K ⟨k0_pay21 a1 m1, k0_pay22 a1 m1, k0_pay23 a1 m1 n1⟩))
    ⊢ wp frame (wpE (defs₀ (F := F)) Variants.none c none) E (k0_part4 i arg3 harg3 arg4 harg4 arg5 harg5 arg6 harg6 arg7 harg7 arg8 harg8 arg9 harg9 arg10 harg10 k0_t1 v585 v667 v669 v672) K := by
  rw [k0_part4_eq_skeleton]; unfold k0_part4_skel
  iintro ⟨H5, H7, H9, H10, Hk⟩
  sl_exec
  sl_step
  try unfold part4.sl.v701
  try unfold part4.sl.v691
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H7]; · iexact H7
  isplitl [H9]; · iexact H9
  iexact H10

set_option maxHeartbeats 400000 in
theorem part5 (k0_t1 : Fin (k0_t1_loop i).trips) (v585 : BitVec 32) (v695 : FVec F S1x512 .f32) (v700 : FVec F S512x512 .f32) (v704 : FVec F S144x512 .f32) (x5 : Vec F S1x8x576x512 .bf16) (a0 a1 a2 a3 a4 a5 a6 a7 : Vec F S1x512x512 .f32) (m0 m1 m2 m3 m4 m5 m6 m7 : Vec F S1x1x512 .f32) (n0 n1 n2 n3 n4 n5 n6 n7 : Vec F S1x144x512 .f32) (E : Set ℕ) (K : (Σ' (v723 : FVec F S1x512 .f32) (v738 : FVec F S144x512 .f32), Vec F S1x144x512 .f32) → sProp 𝕄) :
    iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 (k0_pay25 v695) m2 m3 m4 m5 m6 m7))) ∗ (arg10.view.loc (c : Thread nD τ) ↦[arg10.view.set]{fullShare} (harg10.unread (S8 n0 (k0_pay24 v700 v704 (cutV x5 (k0_off5 i k0_t1) (k0_off5_inb i k0_t1))) n2 n3 n4 n5 n6 n7)))) -∗ K ⟨k0_pay28 a2 m2, k0_pay29 a2 m2 n2 (cutV x5 (k0_off6 i k0_t1) (k0_off6_inb i k0_t1)), n2⟩))
    ⊢ wp frame (wpE (defs₀ (F := F)) Variants.none c none) E (k0_part5 i arg3 harg3 arg4 harg4 arg5 harg5 arg6 harg6 arg7 harg7 arg8 harg8 arg9 harg9 arg10 harg10 k0_t1 v585 v695 v700 v704) K := by
  rw [k0_part5_eq_skeleton]; unfold k0_part5_skel
  iintro ⟨H5, H7, H9, H10, Hk⟩
  sl_exec
  sl_step
  try unfold part5.sl.v739
  try unfold part5.sl.v729
  try unfold part5.sl.v719
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H7]; · iexact H7
  isplitl [H9]; · iexact H9
  iexact H10

set_option maxHeartbeats 400000 in
theorem part6 (k0_t1 : Fin (k0_t1_loop i).trips) (v585 : BitVec 32) (v723 : FVec F S1x512 .f32) (v738 : FVec F S144x512 .f32) (v739 : Vec F S1x144x512 .f32) (x5 : Vec F S1x8x576x512 .bf16) (a0 a1 a2 a3 a4 a5 a6 a7 : Vec F S1x512x512 .f32) (m0 m1 m2 m3 m4 m5 m6 m7 : Vec F S1x1x512 .f32) (n0 n1 n2 n3 n4 n5 n6 n7 : Vec F S1x144x512 .f32) (E : Set ℕ) (K : (PUnit) → sProp 𝕄) :
    iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 (k0_pay31 v723) (k0_pay36 a3 m3) m4 m5 m6 m7))) ∗ (arg10.view.loc (c : Thread nD τ) ↦[arg10.view.set]{fullShare} (harg10.unread (S8 n0 n1 (k0_pay30 v738) (k0_pay35 a3 m3 n3 (cutV x5 (k0_off6 i k0_t1) (k0_off6_inb i k0_t1))) n4 n5 n6 n7)))) -∗ K ⟨⟩))
    ⊢ wp frame (wpE (defs₀ (F := F)) Variants.none c none) E (k0_part6 i arg3 harg3 arg4 harg4 arg5 harg5 arg6 harg6 arg7 harg7 arg8 harg8 arg9 harg9 arg10 harg10 k0_t1 v585 v723 v738 v739) K := by
  rw [k0_part6_eq_skeleton]; unfold k0_part6_skel
  iintro ⟨H5, H7, H9, H10, Hk⟩
  sl_exec
  sl_step
  try unfold part6.sl.v770
  try unfold part6.sl.v767
  try unfold part6.sl.v757
  try unfold part6.sl.v747
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H7]; · iexact H7
  isplitl [H9]; · iexact H9
  iexact H10

end Cert.Attn

end
-- ==== Proof.Attn.PartsB.lean ====
/- What each stretch of the kernel's body does to the blocks it holds: loads read blocks, stores replace them. -/
module

public import proofs.«01_k».proof.Proof.Attn.Stack

@[expose] public section

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S2x1024x512 .bf16) (harg3 : arg3.IsWhole) (arg4 : Memref sig .tc .vmem S1x4096x1024 .bf16) (harg4 : arg4.IsWhole) (arg5 : Memref sig .tc .vmem S1x8x576x512 .bf16) (harg5 : arg5.IsWhole) (arg6 : Memref sig .tc .vmem S2x512x512 .bf16) (harg6 : arg6.IsWhole) (arg7 : Memref sig .tc .vmem S8x512x512 .f32) (harg7 : arg7.IsWhole) (arg8 : Memref sig .tc .vmem S8x512x512 .f32) (harg8 : arg8.IsWhole) (arg9 : Memref sig .tc .vmem S8x1x512 .f32) (harg9 : arg9.IsWhole) (arg10 : Memref sig .tc .vmem S8x144x512 .f32) (harg10 : arg10.IsWhole)

include arg3 harg3 arg4 harg4 arg5 harg5 arg6 harg6 arg7 harg7 arg8 harg8 arg9 harg9 arg10 harg10

set_option maxHeartbeats 400000 in
theorem part7 (k0_t1 : Fin (k0_t1_loop i).trips) (v585 : BitVec 32) (x5 : Vec F S1x8x576x512 .bf16) (a0 a1 a2 a3 a4 a5 a6 a7 : Vec F S1x512x512 .f32) (m0 m1 m2 m3 m4 m5 m6 m7 : Vec F S1x1x512 .f32) (n0 n1 n2 n3 n4 n5 n6 n7 : Vec F S1x144x512 .f32) (E : Set ℕ) (K : (Σ' (v802 : FVec F S512x512 .f32), FVec F S1x512 .f32) → sProp 𝕄) :
    iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 m2 m3 (k0_pay41 a4 m4) m5 m6 m7))) ∗ (arg10.view.loc (c : Thread nD τ) ↦[arg10.view.set]{fullShare} (harg10.unread (S8 n0 n1 n2 n3 (k0_pay40 a4 m4 n4 (cutV x5 (k0_off7 i k0_t1) (k0_off7_inb i k0_t1))) n5 n6 n7)))) -∗ K ⟨k0_pay42 a5, k0_pay43 m5⟩))
    ⊢ wp frame (wpE (defs₀ (F := F)) Variants.none c none) E (k0_part7 i arg3 harg3 arg4 harg4 arg5 harg5 arg6 harg6 arg7 harg7 arg8 harg8 arg9 harg9 arg10 harg10 k0_t1 v585) K := by
  rw [k0_part7_eq_skeleton]; unfold k0_part7_skel
  iintro ⟨H5, H7, H9, H10, Hk⟩
  sl_exec
  sl_step
  try unfold part7.sl.v803
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H7]; · iexact H7
  isplitl [H9]; · iexact H9
  iexact H10

set_option maxHeartbeats 400000 in
theorem part8 (k0_t1 : Fin (k0_t1_loop i).trips) (v585 : BitVec 32) (v802 : FVec F S512x512 .f32) (v804 : FVec F S1x512 .f32) (x5 : Vec F S1x8x576x512 .bf16) (a0 a1 a2 a3 a4 a5 a6 a7 : Vec F S1x512x512 .f32) (m0 m1 m2 m3 m4 m5 m6 m7 : Vec F S1x1x512 .f32) (n0 n1 n2 n3 n4 n5 n6 n7 : Vec F S1x144x512 .f32) (E : Set ℕ) (K : (Σ' (v835 : FVec F S1x512 .f32) (v837 : FVec F S1x512 .f32), FVec F S512x512 .f32) → sProp 𝕄) :
    iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 m2 m3 m4 (k0_pay46 v802 v804) m6 m7))) ∗ (arg10.view.loc (c : Thread nD τ) ↦[arg10.view.set]{fullShare} (harg10.unread (S8 n0 n1 n2 n3 n4 (k0_pay45 v802 v804 n5 (cutV x5 (k0_off7 i k0_t1) (k0_off7_inb i k0_t1))) n6 n7)))) -∗ K ⟨k0_pay49 a6 m6, k0_pay50 a6 m6, k0_pay51 a6 m6⟩))
    ⊢ wp frame (wpE (defs₀ (F := F)) Variants.none c none) E (k0_part8 i arg3 harg3 arg4 harg4 arg5 harg5 arg6 harg6 arg7 harg7 arg8 harg8 arg9 harg9 arg10 harg10 k0_t1 v585 v802 v804) K := by
  rw [k0_part8_eq_skeleton]; unfold k0_part8_skel
  iintro ⟨H5, H7, H9, H10, Hk⟩
  sl_exec
  sl_step
  try unfold part8.sl.v831
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H7]; · iexact H7
  isplitl [H9]; · iexact H9
  iexact H10

set_option maxHeartbeats 400000 in
theorem part9 (k0_t1 : Fin (k0_t1_loop i).trips) (v585 : BitVec 32) (v835 : FVec F S1x512 .f32) (v837 : FVec F S1x512 .f32) (v840 : FVec F S512x512 .f32) (x5 : Vec F S1x8x576x512 .bf16) (a0 a1 a2 a3 a4 a5 a6 a7 : Vec F S1x512x512 .f32) (m0 m1 m2 m3 m4 m5 m6 m7 : Vec F S1x1x512 .f32) (n0 n1 n2 n3 n4 n5 n6 n7 : Vec F S1x144x512 .f32) (E : Set ℕ) (K : (Σ' (v863 : FVec F S1x512 .f32) (v868 : FVec F S512x512 .f32), FVec F S144x512 .f32) → sProp 𝕄) :
    iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 m2 m3 m4 m5 (k0_pay53 v835) m7))) ∗ (arg10.view.loc (c : Thread nD τ) ↦[arg10.view.set]{fullShare} (harg10.unread (S8 n0 n1 n2 n3 n4 n5 (k0_pay52 v837 v840 n6 (cutV x5 (k0_off8 i k0_t1) (k0_off8_inb i k0_t1))) n7)))) -∗ K ⟨k0_pay56 a7 m7, k0_pay57 a7 m7, k0_pay58 a7 m7 n7⟩))
    ⊢ wp frame (wpE (defs₀ (F := F)) Variants.none c none) E (k0_part9 i arg3 harg3 arg4 harg4 arg5 harg5 arg6 harg6 arg7 harg7 arg8 harg8 arg9 harg9 arg10 harg10 k0_t1 v585 v835 v837 v840) K := by
  rw [k0_part9_eq_skeleton]; unfold k0_part9_skel
  iintro ⟨H5, H7, H9, H10, Hk⟩
  sl_exec
  sl_step
  try unfold part9.sl.v869
  try unfold part9.sl.v859
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H7]; · iexact H7
  isplitl [H9]; · iexact H9
  iexact H10

set_option maxHeartbeats 400000 in
theorem part10 (k0_t1 : Fin (k0_t1_loop i).trips) (v585 : BitVec 32) (v863 : FVec F S1x512 .f32) (v868 : FVec F S512x512 .f32) (v872 : FVec F S144x512 .f32) (x3 : Vec F S2x1024x512 .bf16) (x4 : Vec F S1x4096x1024 .bf16) (x5 : Vec F S1x8x576x512 .bf16) (a0 a1 a2 a3 a4 a5 a6 a7 : Vec F S1x512x512 .f32) (m0 m1 m2 m3 m4 m5 m6 m7 : Vec F S1x1x512 .f32) (n0 n1 n2 n3 n4 n5 n6 n7 : Vec F S1x144x512 .f32) (E : Set ℕ) (K : (Σ' (v887 : BitVec 32) (v902 : FVec F S512x512 .f32), Vec F S1x512x512 .f32) → sProp 𝕄) :
    iprop((arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg7.view.loc (c : Thread nD τ) ↦[arg7.view.set]{fullShare} (harg7.unread (S8 (k0_pay61 (cutK x4 (k0_off1 i k0_t1 2#32) (k0_off1_inb i k0_t1 1)) (cutQ x3 ![0, 0, 0] inb_S2x1024x512_S1x256x512_0_0_0)) a1 a2 a3 a4 a5 a6 a7))) ∗ (arg9.view.loc (c : Thread nD τ) ↦[arg9.view.set]{fullShare} (harg9.unread (S8 m0 m1 m2 m3 m4 m5 m6 (k0_pay60 v863)))) ∗ (arg10.view.loc (c : Thread nD τ) ↦[arg10.view.set]{fullShare} (harg10.unread (S8 n0 n1 n2 n3 n4 n5 n6 (k0_pay59 v868 v872 (cutV x5 (k0_off8 i k0_t1) (k0_off8_inb i k0_t1))))))) -∗ K ⟨((Scalar.muli (Scalar.addi v585 2#32) 512#32)), k0_pay62 (cutK x4 (k0_off1 i k0_t1 2#32) (k0_off1_inb i k0_t1 1)) (cutQ x3 ![1, 0, 0] inb_S2x1024x512_S1x256x512_1_0_0), a1⟩))
    ⊢ wp frame (wpE (defs₀ (F := F)) Variants.none c none) E (k0_part10 i arg3 harg3 arg4 harg4 arg5 harg5 arg6 harg6 arg7 harg7 arg8 harg8 arg9 harg9 arg10 harg10 k0_t1 v585 v863 v868 v872) K := by
  rw [k0_part10_eq_skeleton]; unfold k0_part10_skel
  iintro ⟨H3, H4, H5, H7, H9, H10, Hk⟩
  sl_exec
  sl_step
  try unfold part10.sl.v903
  try unfold part10.sl.v887
  try unfold part10.sl.v886
  try unfold part10.sl.v885
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H3]; · iexact H3
  isplitl [H4]; · iexact H4
  isplitl [H5]; · iexact H5
  isplitl [H7]; · iexact H7
  isplitl [H9]; · iexact H9
  iexact H10

set_option maxHeartbeats 400000 in
theorem part11 (k0_t1 : Fin (k0_t1_loop i).trips) (v887 : BitVec 32) (v902 : FVec F S512x512 .f32) (v903 : Vec F S1x512x512 .f32) (x3 : Vec F S2x1024x512 .bf16) (x4 : Vec F S1x4096x1024 .bf16) (a0 a1 a2 a3 a4 a5 a6 a7 : Vec F S1x512x512 .f32) (E : Set ℕ) (K : (PUnit) → sProp 𝕄) :
    iprop((arg3.view.loc (c : Thread nD τ) ↦[arg3.view.set]{fullShare} (harg3.unread x3)) ∗ (arg4.view.loc (c : Thread nD τ) ↦[arg4.view.set]{fullShare} (harg4.unread x4)) ∗ (arg7.view.loc (c : Thread nD τ) ↦[arg7.view.set]{fullShare} (harg7.unread (S8 a0 a1 a2 a3 a4 a5 a6 a7))) ∗ (iprop((arg3.view.loc (c : Thread nD τ) ↦[arg3.view.set]{fullShare} (harg3.unread x3)) ∗ (arg4.view.loc (c : Thread nD τ) ↦[arg4.view.set]{fullShare} (harg4.unread x4)) ∗ (arg7.view.loc (c : Thread nD τ) ↦[arg7.view.set]{fullShare} (harg7.unread (S8 a0 (k0_pay63 v902) (k0_pay64 (cutK x4 (k0_off2 i k0_t1 2#32) (k0_off2_inb i k0_t1 1)) (cutQ x3 ![0, 256, 0] inb_S2x1024x512_S1x256x512_0_256_0)) (k0_pay65 (cutK x4 (k0_off2 i k0_t1 2#32) (k0_off2_inb i k0_t1 1)) (cutQ x3 ![1, 256, 0] inb_S2x1024x512_S1x256x512_1_256_0)) (k0_pay66 (cutK x4 (k0_off3 i k0_t1 2#32) (k0_off3_inb i k0_t1 1)) (cutQ x3 ![0, 512, 0] inb_S2x1024x512_S1x256x512_0_512_0)) a5 a6 a7)))) -∗ K ⟨⟩))
    ⊢ wp frame (wpE (defs₀ (F := F)) Variants.none c none) E (k0_part11 i arg3 harg3 arg4 harg4 arg5 harg5 arg6 harg6 arg7 harg7 arg8 harg8 arg9 harg9 arg10 harg10 k0_t1 v887 v902 v903) K := by
  rw [k0_part11_eq_skeleton]; unfold k0_part11_skel
  iintro ⟨H3, H4, H7, Hk⟩
  sl_exec
  sl_step
  try unfold part11.sl.v930
  try unfold part11.sl.v921
  try unfold part11.sl.v912
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H3]; · iexact H3
  isplitl [H4]; · iexact H4
  iexact H7

set_option maxHeartbeats 400000 in
theorem part12 (k0_t1 : Fin (k0_t1_loop i).trips) (v585 : BitVec 32) (v887 : BitVec 32) (x3 : Vec F S2x1024x512 .bf16) (x4 : Vec F S1x4096x1024 .bf16) (a0 a1 a2 a3 a4 a5 a6 a7 : Vec F S1x512x512 .f32) (E : Set ℕ) (K : (BitVec 32) → sProp 𝕄) :
    iprop((arg3.view.loc (c : Thread nD τ) ↦[arg3.view.set]{fullShare} (harg3.unread x3)) ∗ (arg4.view.loc (c : Thread nD τ) ↦[arg4.view.set]{fullShare} (harg4.unread x4)) ∗ (arg7.view.loc (c : Thread nD τ) ↦[arg7.view.set]{fullShare} (harg7.unread (S8 a0 a1 a2 a3 a4 a5 a6 a7))) ∗ (iprop((arg3.view.loc (c : Thread nD τ) ↦[arg3.view.set]{fullShare} (harg3.unread x3)) ∗ (arg4.view.loc (c : Thread nD τ) ↦[arg4.view.set]{fullShare} (harg4.unread x4)) ∗ (arg7.view.loc (c : Thread nD τ) ↦[arg7.view.set]{fullShare} (harg7.unread (S8 a0 a1 a2 a3 a4 (k0_pay67 (cutK x4 (k0_off3 i k0_t1 2#32) (k0_off3_inb i k0_t1 1)) (cutQ x3 ![1, 512, 0] inb_S2x1024x512_S1x256x512_1_512_0)) (k0_pay68 (cutK x4 (k0_off4 i k0_t1 2#32) (k0_off4_inb i k0_t1 1)) (cutQ x3 ![0, 768, 0] inb_S2x1024x512_S1x256x512_0_768_0)) (k0_pay69 (cutK x4 (k0_off4 i k0_t1 2#32) (k0_off4_inb i k0_t1 1)) (cutQ x3 ![1, 768, 0] inb_S2x1024x512_S1x256x512_1_768_0)))))) -∗ K (Scalar.addi v585 1#32)))
    ⊢ wp frame (wpE (defs₀ (F := F)) Variants.none c none) E (k0_part12 i arg3 harg3 arg4 harg4 arg5 harg5 arg6 harg6 arg7 harg7 arg8 harg8 arg9 harg9 arg10 harg10 k0_t1 v585 v887) K := by
  rw [k0_part12_eq_skeleton]; unfold k0_part12_skel
  iintro ⟨H3, H4, H7, Hk⟩
  sl_exec
  sl_step
  try unfold part12.sl.v960
  try unfold part12.sl.v957
  try unfold part12.sl.v948
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H3]; · iexact H3
  isplitl [H4]; · iexact H4
  iexact H7

end Cert.Attn

end
-- ==== Proof.Attn.PartsC.lean ====
/- What each stretch of the kernel's body does to the blocks it holds: loads read blocks, stores replace them. -/
module

public import proofs.«01_k».proof.Proof.Attn.Stack

@[expose] public section

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S2x1024x512 .bf16) (harg3 : arg3.IsWhole) (arg4 : Memref sig .tc .vmem S1x4096x1024 .bf16) (harg4 : arg4.IsWhole) (arg5 : Memref sig .tc .vmem S1x8x576x512 .bf16) (harg5 : arg5.IsWhole) (arg6 : Memref sig .tc .vmem S2x512x512 .bf16) (harg6 : arg6.IsWhole) (arg7 : Memref sig .tc .vmem S8x512x512 .f32) (harg7 : arg7.IsWhole) (arg8 : Memref sig .tc .vmem S8x512x512 .f32) (harg8 : arg8.IsWhole) (arg9 : Memref sig .tc .vmem S8x1x512 .f32) (harg9 : arg9.IsWhole) (arg10 : Memref sig .tc .vmem S8x144x512 .f32) (harg10 : arg10.IsWhole)

include arg3 harg3 arg4 harg4 arg5 harg5 arg6 harg6 arg7 harg7 arg8 harg8 arg9 harg9 arg10 harg10

set_option maxHeartbeats 400000 in
theorem part13 (k0_t1 : Fin (k0_t1_loop i).trips) (v960 : BitVec 32) (x5 : Vec F S1x8x576x512 .bf16) (b0 b1 b2 b3 b4 b5 b6 b7 : Vec F S1x512x512 .f32) (m0 m1 m2 m3 m4 m5 m6 m7 : Vec F S1x1x512 .f32) (n0 n1 n2 n3 n4 n5 n6 n7 : Vec F S1x144x512 .f32) (E : Set ℕ) (K : (Σ' (v990 : FVec F S512x512 .f32), FVec F S1x512 .f32) → sProp 𝕄) :
    iprop((arg5.view.loc (c : Thread nD τ) ↦[arg5.view.set]{fullShare} (harg5.unread x5)) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 (k0_pay74 b0 m0) m1 m2 m3 m4 m5 m6 m7))) ∗ (arg10.view.loc (c : Thread nD τ) ↦[arg10.view.set]{fullShare} (harg10.unread (S8 (k0_pay73 b0 m0 n0 (cutV x5 (k0_off9 i k0_t1) (k0_off9_inb i k0_t1))) n1 n2 n3 n4 n5 n6 n7)))) -∗ K ⟨k0_pay75 b1, k0_pay76 m1⟩))
    ⊢ wp frame (wpE (defs₀ (F := F)) Variants.none c none) E (k0_part13 i arg3 harg3 arg4 harg4 arg5 harg5 arg6 harg6 arg7 harg7 arg8 harg8 arg9 harg9 arg10 harg10 k0_t1 v960) K := by
  rw [k0_part13_eq_skeleton]; unfold k0_part13_skel
  iintro ⟨H5, H8, H9, H10, Hk⟩
  sl_exec
  sl_step
  try unfold part13.sl.v991
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H8]; · iexact H8
  isplitl [H9]; · iexact H9
  iexact H10

set_option maxHeartbeats 400000 in
theorem part14 (k0_t1 : Fin (k0_t1_loop i).trips) (v960 : BitVec 32) (v990 : FVec F S512x512 .f32) (v992 : FVec F S1x512 .f32) (x5 : Vec F S1x8x576x512 .bf16) (b0 b1 b2 b3 b4 b5 b6 b7 : Vec F S1x512x512 .f32) (m0 m1 m2 m3 m4 m5 m6 m7 : Vec F S1x1x512 .f32) (n0 n1 n2 n3 n4 n5 n6 n7 : Vec F S1x144x512 .f32) (E : Set ℕ) (K : (Σ' (v1023 : FVec F S1x512 .f32) (v1025 : FVec F S1x512 .f32), FVec F S512x512 .f32) → sProp 𝕄) :
    iprop((arg5.view.loc (c : Thread nD τ) ↦[arg5.view.set]{fullShare} (harg5.unread x5)) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 (k0_pay79 v990 v992) m2 m3 m4 m5 m6 m7))) ∗ (arg10.view.loc (c : Thread nD τ) ↦[arg10.view.set]{fullShare} (harg10.unread (S8 n0 (k0_pay78 v990 v992 n1 (cutV x5 (k0_off9 i k0_t1) (k0_off9_inb i k0_t1))) n2 n3 n4 n5 n6 n7)))) -∗ K ⟨k0_pay82 b2 m2, k0_pay83 b2 m2, k0_pay84 b2 m2⟩))
    ⊢ wp frame (wpE (defs₀ (F := F)) Variants.none c none) E (k0_part14 i arg3 harg3 arg4 harg4 arg5 harg5 arg6 harg6 arg7 harg7 arg8 harg8 arg9 harg9 arg10 harg10 k0_t1 v960 v990 v992) K := by
  rw [k0_part14_eq_skeleton]; unfold k0_part14_skel
  iintro ⟨H5, H8, H9, H10, Hk⟩
  sl_exec
  sl_step
  try unfold part14.sl.v1019
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H8]; · iexact H8
  isplitl [H9]; · iexact H9
  iexact H10

set_option maxHeartbeats 400000 in
theorem part15 (k0_t1 : Fin (k0_t1_loop i).trips) (v960 : BitVec 32) (v1023 : FVec F S1x512 .f32) (v1025 : FVec F S1x512 .f32) (v1028 : FVec F S512x512 .f32) (x5 : Vec F S1x8x576x512 .bf16) (b0 b1 b2 b3 b4 b5 b6 b7 : Vec F S1x512x512 .f32) (m0 m1 m2 m3 m4 m5 m6 m7 : Vec F S1x1x512 .f32) (n0 n1 n2 n3 n4 n5 n6 n7 : Vec F S1x144x512 .f32) (E : Set ℕ) (K : (Σ' (v1051 : FVec F S1x512 .f32) (v1056 : FVec F S512x512 .f32) (v1060 : FVec F S144x512 .f32), Vec F S1x1x144x512 .bf16) → sProp 𝕄) :
    iprop((arg5.view.loc (c : Thread nD τ) ↦[arg5.view.set]{fullShare} (harg5.unread x5)) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 m1 (k0_pay86 v1023) m3 m4 m5 m6 m7))) ∗ (arg10.view.loc (c : Thread nD τ) ↦[arg10.view.set]{fullShare} (harg10.unread (S8 n0 n1 (k0_pay85 v1025 v1028 n2 (cutV x5 (k0_off10 i k0_t1) (k0_off10_inb i k0_t1))) n3 n4 n5 n6 n7)))) -∗ K ⟨k0_pay89 b3 m3, k0_pay90 b3 m3, k0_pay91 b3 m3 n3, (cutV x5 (k0_off10 i k0_t1) (k0_off10_inb i k0_t1))⟩))
    ⊢ wp frame (wpE (defs₀ (F := F)) Variants.none c none) E (k0_part15 i arg3 harg3 arg4 harg4 arg5 harg5 arg6 harg6 arg7 harg7 arg8 harg8 arg9 harg9 arg10 harg10 k0_t1 v960 v1023 v1025 v1028) K := by
  rw [k0_part15_eq_skeleton]; unfold k0_part15_skel
  iintro ⟨H5, H8, H9, H10, Hk⟩
  sl_exec
  sl_step
  try unfold part15.sl.v1057
  try unfold part15.sl.v1047
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H8]; · iexact H8
  isplitl [H9]; · iexact H9
  iexact H10

set_option maxHeartbeats 400000 in
theorem part16 (k0_t1 : Fin (k0_t1_loop i).trips) (v960 : BitVec 32) (v1051 : FVec F S1x512 .f32) (v1056 : FVec F S512x512 .f32) (v1060 : FVec F S144x512 .f32) (v1062 : Vec F S1x1x144x512 .bf16) (x5 : Vec F S1x8x576x512 .bf16) (b0 b1 b2 b3 b4 b5 b6 b7 : Vec F S1x512x512 .f32) (m0 m1 m2 m3 m4 m5 m6 m7 : Vec F S1x1x512 .f32) (n0 n1 n2 n3 n4 n5 n6 n7 : Vec F S1x144x512 .f32) (E : Set ℕ) (K : (Σ' (v1079 : FVec F S1x512 .f32), FVec F S144x512 .f32) → sProp 𝕄) :
    iprop((arg5.view.loc (c : Thread nD τ) ↦[arg5.view.set]{fullShare} (harg5.unread x5)) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 m1 m2 (k0_pay93 v1051) m4 m5 m6 m7))) ∗ (arg10.view.loc (c : Thread nD τ) ↦[arg10.view.set]{fullShare} (harg10.unread (S8 n0 n1 n2 (k0_pay92 v1056 v1060 v1062) n4 n5 n6 n7)))) -∗ K ⟨k0_pay96 b4 m4, k0_pay97 b4 m4 n4 (cutV x5 (k0_off11 i k0_t1) (k0_off11_inb i k0_t1))⟩))
    ⊢ wp frame (wpE (defs₀ (F := F)) Variants.none c none) E (k0_part16 i arg3 harg3 arg4 harg4 arg5 harg5 arg6 harg6 arg7 harg7 arg8 harg8 arg9 harg9 arg10 harg10 k0_t1 v960 v1051 v1056 v1060 v1062) K := by
  rw [k0_part16_eq_skeleton]; unfold k0_part16_skel
  iintro ⟨H5, H8, H9, H10, Hk⟩
  sl_exec
  sl_step
  try unfold part16.sl.v1095
  try unfold part16.sl.v1085
  try unfold part16.sl.v1075
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H8]; · iexact H8
  isplitl [H9]; · iexact H9
  iexact H10

set_option maxHeartbeats 400000 in
theorem part17 (k0_t1 : Fin (k0_t1_loop i).trips) (v960 : BitVec 32) (v1079 : FVec F S1x512 .f32) (v1094 : FVec F S144x512 .f32) (x5 : Vec F S1x8x576x512 .bf16) (b0 b1 b2 b3 b4 b5 b6 b7 : Vec F S1x512x512 .f32) (m0 m1 m2 m3 m4 m5 m6 m7 : Vec F S1x1x512 .f32) (n0 n1 n2 n3 n4 n5 n6 n7 : Vec F S1x144x512 .f32) (E : Set ℕ) (K : (PUnit) → sProp 𝕄) :
    iprop((arg5.view.loc (c : Thread nD τ) ↦[arg5.view.set]{fullShare} (harg5.unread x5)) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 m1 m2 m3 (k0_pay99 v1079) (k0_pay104 b5 m5) m6 m7))) ∗ (arg10.view.loc (c : Thread nD τ) ↦[arg10.view.set]{fullShare} (harg10.unread (S8 n0 n1 n2 n3 (k0_pay98 v1094) (k0_pay103 b5 m5 n5 (cutV x5 (k0_off11 i k0_t1) (k0_off11_inb i k0_t1))) n6 n7)))) -∗ K ⟨⟩))
    ⊢ wp frame (wpE (defs₀ (F := F)) Variants.none c none) E (k0_part17 i arg3 harg3 arg4 harg4 arg5 harg5 arg6 harg6 arg7 harg7 arg8 harg8 arg9 harg9 arg10 harg10 k0_t1 v960 v1079 v1094) K := by
  rw [k0_part17_eq_skeleton]; unfold k0_part17_skel
  iintro ⟨H5, H8, H9, H10, Hk⟩
  sl_exec
  sl_step
  try unfold part17.sl.v1126
  try unfold part17.sl.v1123
  try unfold part17.sl.v1113
  try unfold part17.sl.v1103
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H8]; · iexact H8
  isplitl [H9]; · iexact H9
  iexact H10

set_option maxHeartbeats 400000 in
theorem part18 (k0_t1 : Fin (k0_t1_loop i).trips) (v960 : BitVec 32) (x5 : Vec F S1x8x576x512 .bf16) (b0 b1 b2 b3 b4 b5 b6 b7 : Vec F S1x512x512 .f32) (m0 m1 m2 m3 m4 m5 m6 m7 : Vec F S1x1x512 .f32) (n0 n1 n2 n3 n4 n5 n6 n7 : Vec F S1x144x512 .f32) (E : Set ℕ) (K : (Σ' (v1158 : FVec F S512x512 .f32), FVec F S1x512 .f32) → sProp 𝕄) :
    iprop((arg5.view.loc (c : Thread nD τ) ↦[arg5.view.set]{fullShare} (harg5.unread x5)) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 m1 m2 m3 m4 m5 (k0_pay109 b6 m6) m7))) ∗ (arg10.view.loc (c : Thread nD τ) ↦[arg10.view.set]{fullShare} (harg10.unread (S8 n0 n1 n2 n3 n4 n5 (k0_pay108 b6 m6 n6 (cutV x5 (k0_off12 i k0_t1) (k0_off12_inb i k0_t1))) n7)))) -∗ K ⟨k0_pay110 b7, k0_pay111 m7⟩))
    ⊢ wp frame (wpE (defs₀ (F := F)) Variants.none c none) E (k0_part18 i arg3 harg3 arg4 harg4 arg5 harg5 arg6 harg6 arg7 harg7 arg8 harg8 arg9 harg9 arg10 harg10 k0_t1 v960) K := by
  rw [k0_part18_eq_skeleton]; unfold k0_part18_skel
  iintro ⟨H5, H8, H9, H10, Hk⟩
  sl_exec
  sl_step
  try unfold part18.sl.v1159
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H8]; · iexact H8
  isplitl [H9]; · iexact H9
  iexact H10

end Cert.Attn

end
-- ==== Proof.Attn.Trip.lean ====
/- One trip of the kernel's loop over pairs of key tiles. -/
module

public import proofs.«01_k».proof.Proof.Attn.PartsA
public import proofs.«01_k».proof.Proof.Attn.PartsB
public import proofs.«01_k».proof.Proof.Attn.PartsC

@[expose] public section

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the four carried buffers hold: two tiles of scores, the running maxima and the running sums. -/
structure St (F : FTy → Type) [FloatOps F] where
  a : Fin 8 → Vec F S1x512x512 .f32
  b : Fin 8 → Vec F S1x512x512 .f32
  m : Fin 8 → Vec F S1x1x512 .f32
  n : Fin 8 → Vec F S1x144x512 .f32

/-- What a trip makes of them. -/
def tripSt (i : grid0.Coords) (x3 : Vec F S2x1024x512 .bf16) (x4 : Vec F S1x4096x1024 .bf16) (x5 : Vec F S1x8x576x512 .bf16) (k0_t1 : Fin (k0_t1_loop i).trips) (s : St F) : St F where
  a := ![(k0_pay61 (cutK x4 (k0_off1 i k0_t1 2#32) (k0_off1_inb i k0_t1 1)) (cutQ x3 ![0, 0, 0] inb_S2x1024x512_S1x256x512_0_0_0)), (k0_pay63 (k0_pay62 (cutK x4 (k0_off1 i k0_t1 2#32) (k0_off1_inb i k0_t1 1)) (cutQ x3 ![1, 0, 0] inb_S2x1024x512_S1x256x512_1_0_0))), (k0_pay64 (cutK x4 (k0_off2 i k0_t1 2#32) (k0_off2_inb i k0_t1 1)) (cutQ x3 ![0, 256, 0] inb_S2x1024x512_S1x256x512_0_256_0)), (k0_pay65 (cutK x4 (k0_off2 i k0_t1 2#32) (k0_off2_inb i k0_t1 1)) (cutQ x3 ![1, 256, 0] inb_S2x1024x512_S1x256x512_1_256_0)), (k0_pay66 (cutK x4 (k0_off3 i k0_t1 2#32) (k0_off3_inb i k0_t1 1)) (cutQ x3 ![0, 512, 0] inb_S2x1024x512_S1x256x512_0_512_0)), (k0_pay67 (cutK x4 (k0_off3 i k0_t1 2#32) (k0_off3_inb i k0_t1 1)) (cutQ x3 ![1, 512, 0] inb_S2x1024x512_S1x256x512_1_512_0)), (k0_pay68 (cutK x4 (k0_off4 i k0_t1 2#32) (k0_off4_inb i k0_t1 1)) (cutQ x3 ![0, 768, 0] inb_S2x1024x512_S1x256x512_0_768_0)), (k0_pay69 (cutK x4 (k0_off4 i k0_t1 2#32) (k0_off4_inb i k0_t1 1)) (cutQ x3 ![1, 768, 0] inb_S2x1024x512_S1x256x512_1_768_0))]
  b := ![(k0_pay2 (cutK x4 (k0_off1 i k0_t1 1#32) (k0_off1_inb i k0_t1 0)) (cutQ x3 ![0, 0, 0] inb_S2x1024x512_S1x256x512_0_0_0)), (k0_pay3 (cutK x4 (k0_off1 i k0_t1 1#32) (k0_off1_inb i k0_t1 0)) (cutQ x3 ![1, 0, 0] inb_S2x1024x512_S1x256x512_1_0_0)), (k0_pay5 (k0_pay4 (cutK x4 (k0_off2 i k0_t1 1#32) (k0_off2_inb i k0_t1 0)) (cutQ x3 ![0, 256, 0] inb_S2x1024x512_S1x256x512_0_256_0))), (k0_pay6 (cutK x4 (k0_off2 i k0_t1 1#32) (k0_off2_inb i k0_t1 0)) (cutQ x3 ![1, 256, 0] inb_S2x1024x512_S1x256x512_1_256_0)), (k0_pay7 (cutK x4 (k0_off3 i k0_t1 1#32) (k0_off3_inb i k0_t1 0)) (cutQ x3 ![0, 512, 0] inb_S2x1024x512_S1x256x512_0_512_0)), (k0_pay9 (k0_pay8 (cutK x4 (k0_off3 i k0_t1 1#32) (k0_off3_inb i k0_t1 0)) (cutQ x3 ![1, 512, 0] inb_S2x1024x512_S1x256x512_1_512_0))), (k0_pay10 (cutK x4 (k0_off4 i k0_t1 1#32) (k0_off4_inb i k0_t1 0)) (cutQ x3 ![0, 768, 0] inb_S2x1024x512_S1x256x512_0_768_0)), (k0_pay11 (cutK x4 (k0_off4 i k0_t1 1#32) (k0_off4_inb i k0_t1 0)) (cutQ x3 ![1, 768, 0] inb_S2x1024x512_S1x256x512_1_768_0))]
  m := ![(k0_pay74 (k0_pay2 (cutK x4 (k0_off1 i k0_t1 1#32) (k0_off1_inb i k0_t1 0)) (cutQ x3 ![0, 0, 0] inb_S2x1024x512_S1x256x512_0_0_0)) (k0_pay18 (k0_pay14 (s.a 0) (s.m 0)))), (k0_pay79 (k0_pay75 (k0_pay3 (cutK x4 (k0_off1 i k0_t1 1#32) (k0_off1_inb i k0_t1 0)) (cutQ x3 ![1, 0, 0] inb_S2x1024x512_S1x256x512_1_0_0))) (k0_pay76 (k0_pay25 (k0_pay21 (s.a 1) (s.m 1))))), (k0_pay86 (k0_pay82 (k0_pay5 (k0_pay4 (cutK x4 (k0_off2 i k0_t1 1#32) (k0_off2_inb i k0_t1 0)) (cutQ x3 ![0, 256, 0] inb_S2x1024x512_S1x256x512_0_256_0))) (k0_pay31 (k0_pay28 (s.a 2) (s.m 2))))), (k0_pay93 (k0_pay89 (k0_pay6 (cutK x4 (k0_off2 i k0_t1 1#32) (k0_off2_inb i k0_t1 0)) (cutQ x3 ![1, 256, 0] inb_S2x1024x512_S1x256x512_1_256_0)) (k0_pay36 (s.a 3) (s.m 3)))), (k0_pay99 (k0_pay96 (k0_pay7 (cutK x4 (k0_off3 i k0_t1 1#32) (k0_off3_inb i k0_t1 0)) (cutQ x3 ![0, 512, 0] inb_S2x1024x512_S1x256x512_0_512_0)) (k0_pay41 (s.a 4) (s.m 4)))), (k0_pay104 (k0_pay9 (k0_pay8 (cutK x4 (k0_off3 i k0_t1 1#32) (k0_off3_inb i k0_t1 0)) (cutQ x3 ![1, 512, 0] inb_S2x1024x512_S1x256x512_1_512_0))) (k0_pay46 (k0_pay42 (s.a 5)) (k0_pay43 (s.m 5)))), (k0_pay109 (k0_pay10 (cutK x4 (k0_off4 i k0_t1 1#32) (k0_off4_inb i k0_t1 0)) (cutQ x3 ![0, 768, 0] inb_S2x1024x512_S1x256x512_0_768_0)) (k0_pay53 (k0_pay49 (s.a 6) (s.m 6)))), (k0_pay234 (k0_pay110 (k0_pay11 (cutK x4 (k0_off4 i k0_t1 1#32) (k0_off4_inb i k0_t1 0)) (cutQ x3 ![1, 768, 0] inb_S2x1024x512_S1x256x512_1_768_0))) (k0_pay111 (k0_pay60 (k0_pay56 (s.a 7) (s.m 7)))))]
  n := ![(k0_pay73 (k0_pay2 (cutK x4 (k0_off1 i k0_t1 1#32) (k0_off1_inb i k0_t1 0)) (cutQ x3 ![0, 0, 0] inb_S2x1024x512_S1x256x512_0_0_0)) (k0_pay18 (k0_pay14 (s.a 0) (s.m 0))) (k0_pay17 (k0_pay15 (s.a 0) (s.m 0)) (k0_pay16 (s.a 0) (s.m 0)) (s.n 0) (cutV x5 (k0_off5 i k0_t1) (k0_off5_inb i k0_t1))) (cutV x5 (k0_off9 i k0_t1) (k0_off9_inb i k0_t1))), (k0_pay78 (k0_pay75 (k0_pay3 (cutK x4 (k0_off1 i k0_t1 1#32) (k0_off1_inb i k0_t1 0)) (cutQ x3 ![1, 0, 0] inb_S2x1024x512_S1x256x512_1_0_0))) (k0_pay76 (k0_pay25 (k0_pay21 (s.a 1) (s.m 1)))) (k0_pay24 (k0_pay22 (s.a 1) (s.m 1)) (k0_pay23 (s.a 1) (s.m 1) (s.n 1)) (cutV x5 (k0_off5 i k0_t1) (k0_off5_inb i k0_t1))) (cutV x5 (k0_off9 i k0_t1) (k0_off9_inb i k0_t1))), (k0_pay85 (k0_pay83 (k0_pay5 (k0_pay4 (cutK x4 (k0_off2 i k0_t1 1#32) (k0_off2_inb i k0_t1 0)) (cutQ x3 ![0, 256, 0] inb_S2x1024x512_S1x256x512_0_256_0))) (k0_pay31 (k0_pay28 (s.a 2) (s.m 2)))) (k0_pay84 (k0_pay5 (k0_pay4 (cutK x4 (k0_off2 i k0_t1 1#32) (k0_off2_inb i k0_t1 0)) (cutQ x3 ![0, 256, 0] inb_S2x1024x512_S1x256x512_0_256_0))) (k0_pay31 (k0_pay28 (s.a 2) (s.m 2)))) (k0_pay30 (k0_pay29 (s.a 2) (s.m 2) (s.n 2) (cutV x5 (k0_off6 i k0_t1) (k0_off6_inb i k0_t1)))) (cutV x5 (k0_off10 i k0_t1) (k0_off10_inb i k0_t1))), (k0_pay92 (k0_pay90 (k0_pay6 (cutK x4 (k0_off2 i k0_t1 1#32) (k0_off2_inb i k0_t1 0)) (cutQ x3 ![1, 256, 0] inb_S2x1024x512_S1x256x512_1_256_0)) (k0_pay36 (s.a 3) (s.m 3))) (k0_pay91 (k0_pay6 (cutK x4 (k0_off2 i k0_t1 1#32) (k0_off2_inb i k0_t1 0)) (cutQ x3 ![1, 256, 0] inb_S2x1024x512_S1x256x512_1_256_0)) (k0_pay36 (s.a 3) (s.m 3)) (k0_pay35 (s.a 3) (s.m 3) (s.n 3) (cutV x5 (k0_off6 i k0_t1) (k0_off6_inb i k0_t1)))) (cutV x5 (k0_off10 i k0_t1) (k0_off10_inb i k0_t1))), (k0_pay98 (k0_pay97 (k0_pay7 (cutK x4 (k0_off3 i k0_t1 1#32) (k0_off3_inb i k0_t1 0)) (cutQ x3 ![0, 512, 0] inb_S2x1024x512_S1x256x512_0_512_0)) (k0_pay41 (s.a 4) (s.m 4)) (k0_pay40 (s.a 4) (s.m 4) (s.n 4) (cutV x5 (k0_off7 i k0_t1) (k0_off7_inb i k0_t1))) (cutV x5 (k0_off11 i k0_t1) (k0_off11_inb i k0_t1)))), (k0_pay103 (k0_pay9 (k0_pay8 (cutK x4 (k0_off3 i k0_t1 1#32) (k0_off3_inb i k0_t1 0)) (cutQ x3 ![1, 512, 0] inb_S2x1024x512_S1x256x512_1_512_0))) (k0_pay46 (k0_pay42 (s.a 5)) (k0_pay43 (s.m 5))) (k0_pay45 (k0_pay42 (s.a 5)) (k0_pay43 (s.m 5)) (s.n 5) (cutV x5 (k0_off7 i k0_t1) (k0_off7_inb i k0_t1))) (cutV x5 (k0_off11 i k0_t1) (k0_off11_inb i k0_t1))), (k0_pay108 (k0_pay10 (cutK x4 (k0_off4 i k0_t1 1#32) (k0_off4_inb i k0_t1 0)) (cutQ x3 ![0, 768, 0] inb_S2x1024x512_S1x256x512_0_768_0)) (k0_pay53 (k0_pay49 (s.a 6) (s.m 6))) (k0_pay52 (k0_pay50 (s.a 6) (s.m 6)) (k0_pay51 (s.a 6) (s.m 6)) (s.n 6) (cutV x5 (k0_off8 i k0_t1) (k0_off8_inb i k0_t1))) (cutV x5 (k0_off12 i k0_t1) (k0_off12_inb i k0_t1))), (k0_pay233 (k0_pay110 (k0_pay11 (cutK x4 (k0_off4 i k0_t1 1#32) (k0_off4_inb i k0_t1 0)) (cutQ x3 ![1, 768, 0] inb_S2x1024x512_S1x256x512_1_768_0))) (k0_pay111 (k0_pay60 (k0_pay56 (s.a 7) (s.m 7)))) (k0_pay59 (k0_pay57 (s.a 7) (s.m 7)) (k0_pay58 (s.a 7) (s.m 7) (s.n 7)) (cutV x5 (k0_off8 i k0_t1) (k0_off8_inb i k0_t1))) (cutV x5 (k0_off12 i k0_t1) (k0_off12_inb i k0_t1)))]

theorem fst_mk {α β : Sort*} (x : α) (y : β) : (PSigma.mk x y : Σ' _ : α, β).1 = x := rfl
theorem snd_mk {α β : Sort*} (x : α) (y : β) : (PSigma.mk x y : Σ' _ : α, β).2 = y := rfl

theorem stk_eta {a b : ℕ} {e : EltTy} (M : Fin 8 → Vec F ⟨3, ![1, a, b]⟩ e) :
    stk M = S8 (M 0) (M 1) (M 2) (M 3) (M 4) (M 5) (M 6) (M 7) :=
  congrArg stk (by funext n; fin_cases n <;> rfl)

variable (c : Dev nD) (i : grid0.Coords) (arg3 : Memref sig .tc .vmem S2x1024x512 .bf16) (harg3 : arg3.IsWhole) (arg4 : Memref sig .tc .vmem S1x4096x1024 .bf16) (harg4 : arg4.IsWhole) (arg5 : Memref sig .tc .vmem S1x8x576x512 .bf16) (harg5 : arg5.IsWhole) (arg6 : Memref sig .tc .vmem S2x512x512 .bf16) (harg6 : arg6.IsWhole) (arg7 : Memref sig .tc .vmem S8x512x512 .f32) (harg7 : arg7.IsWhole) (arg8 : Memref sig .tc .vmem S8x512x512 .f32) (harg8 : arg8.IsWhole) (arg9 : Memref sig .tc .vmem S8x1x512 .f32) (harg9 : arg9.IsWhole) (arg10 : Memref sig .tc .vmem S8x144x512 .f32) (harg10 : arg10.IsWhole)

include arg3 harg3 arg4 harg4 arg5 harg5 arg6 harg6 arg7 harg7 arg8 harg8 arg9 harg9 arg10 harg10

set_option maxHeartbeats 4000000 in
theorem trip (x3 : Vec F S2x1024x512 .bf16) (x4 : Vec F S1x4096x1024 .bf16) (x5 : Vec F S1x8x576x512 .bf16) (w0 w1 w2 w3 : BitVec 32) (k0_t1 : Fin (k0_t1_loop i).trips) (s : St F) (E : Set ℕ) (K : Unit → sProp 𝕄) :
    iprop((arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg7.view.loc (c : Thread nD τ) ↦[arg7.view.set]{fullShare} (harg7.unread (stk s.a))) ∗ (arg8.view.loc (c : Thread nD τ) ↦[arg8.view.set]{fullShare} (harg8.unread (stk s.b))) ∗ (arg9.view.loc (c : Thread nD τ) ↦[arg9.view.set]{fullShare} (harg9.unread (stk s.m))) ∗ (arg10.view.loc (c : Thread nD τ) ↦[arg10.view.set]{fullShare} (harg10.unread (stk s.n))) ∗ (iprop((arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg7.view.loc (c : Thread nD τ) ↦[arg7.view.set]{fullShare} (harg7.unread (stk (tripSt i x3 x4 x5 k0_t1 s).a))) ∗ (arg8.view.loc (c : Thread nD τ) ↦[arg8.view.set]{fullShare} (harg8.unread (stk (tripSt i x3 x4 x5 k0_t1 s).b))) ∗ (arg9.view.loc (c : Thread nD τ) ↦[arg9.view.set]{fullShare} (harg9.unread (stk (tripSt i x3 x4 x5 k0_t1 s).m))) ∗ (arg10.view.loc (c : Thread nD τ) ↦[arg10.view.set]{fullShare} (harg10.unread (stk (tripSt i x3 x4 x5 k0_t1 s).n)))) -∗ K ()))
    ⊢ wp frame (wpE (defs₀ (F := F)) Variants.none c none) E (k0_t1_body i arg3 harg3 arg4 harg4 arg5 harg5 arg6 harg6 arg7 harg7 arg8 harg8 arg9 harg9 arg10 harg10 w0 w1 w2 w3 k0_t1 ()) K := by
  unfold k0_t1_body
  rw [stk_eta s.a, stk_eta s.b, stk_eta s.m, stk_eta s.n]
  iintro ⟨H3, H4, H5, H7, H8, H9, H10, Hk⟩
  try dsimp -proj only [fst_mk, snd_mk]
  rw [wp_bind]
  iapply (part1 c i arg3 harg3 arg4 harg4 arg5 harg5 arg6 harg6 arg7 harg7 arg8 harg8 arg9 harg9 arg10 harg10 _ _ _ _ _ _ _ _ _ _ _ _ _ E _)
  isplitl [H3]; · iexact H3
  isplitl [H4]; · iexact H4
  isplitl [H8]; · iexact H8
  iintro ⟨H3, H4, H8⟩
  try dsimp -proj only [fst_mk, snd_mk]
  rw [wp_bind]
  iapply (part2 c i arg3 harg3 arg4 harg4 arg5 harg5 arg6 harg6 arg7 harg7 arg8 harg8 arg9 harg9 arg10 harg10 _ _ _ _ _ _ _ _ _ _ _ _ _ E _)
  isplitl [H3]; · iexact H3
  isplitl [H4]; · iexact H4
  isplitl [H8]; · iexact H8
  iintro ⟨H3, H4, H8⟩
  try dsimp -proj only [fst_mk, snd_mk]
  rw [wp_bind]
  iapply (part3 c i arg3 harg3 arg4 harg4 arg5 harg5 arg6 harg6 arg7 harg7 arg8 harg8 arg9 harg9 arg10 harg10 _ _ _ _ _ _ _ _ _ _ _ _ _ _ _ _ _ _ _ _ _ _ _ _ _ _ _ _ _ E _)
  isplitl [H3]; · iexact H3
  isplitl [H4]; · iexact H4
  isplitl [H7]; · iexact H7
  isplitl [H8]; · iexact H8
  isplitl [H9]; · iexact H9
  iintro ⟨H3, H4, H7, H8, H9⟩
  try dsimp -proj only [fst_mk, snd_mk]
  rw [wp_bind]
  iapply (part4 c i arg3 harg3 arg4 harg4 arg5 harg5 arg6 harg6 arg7 harg7 arg8 harg8 arg9 harg9 arg10 harg10 _ _ _ _ _ _ _ _ _ _ _ _ _ _ _ _ _ _ _ _ _ _ _ _ _ _ _ _ _ _ E _)
  isplitl [H5]; · iexact H5
  isplitl [H7]; · iexact H7
  isplitl [H9]; · iexact H9
  isplitl [H10]; · iexact H10
  iintro ⟨H5, H7, H9, H10⟩
  try dsimp -proj only [fst_mk, snd_mk]
  rw [wp_bind]
  iapply (part5 c i arg3 harg3 arg4 harg4 arg5 harg5 arg6 harg6 arg7 harg7 arg8 harg8 arg9 harg9 arg10 harg10 _ _ _ _ _ _ _ _ _ _ _ _ _ _ _ _ _ _ _ _ _ _ _ _ _ _ _ _ _ _ E _)
  isplitl [H5]; · iexact H5
  isplitl [H7]; · iexact H7
  isplitl [H9]; · iexact H9
  isplitl [H10]; · iexact H10
  iintro ⟨H5, H7, H9, H10⟩
  try dsimp -proj only [fst_mk, snd_mk]
  rw [wp_bind]
  iapply (part6 c i arg3 harg3 arg4 harg4 arg5 harg5 arg6 harg6 arg7 harg7 arg8 harg8 arg9 harg9 arg10 harg10 _ _ _ _ _ _ _ _ _ _ _ _ _ _ _ _ _ _ _ _ _ _ _ _ _ _ _ _ _ _ E _)
  isplitl [H5]; · iexact H5
  isplitl [H7]; · iexact H7
  isplitl [H9]; · iexact H9
  isplitl [H10]; · iexact H10
  iintro ⟨H5, H7, H9, H10⟩
  try dsimp -proj only [fst_mk, snd_mk]
  rw [wp_bind]
  iapply (part7 c i arg3 harg3 arg4 harg4 arg5 harg5 arg6 harg6 arg7 harg7 arg8 harg8 arg9 harg9 arg10 harg10 _ _ _ _ _ _ _ _ _ _ _ _ _ _ _ _ _ _ _ _ _ _ _ _ _ _ _ E _)
  isplitl [H5]; · iexact H5
  isplitl [H7]; · iexact H7
  isplitl [H9]; · iexact H9
  isplitl [H10]; · iexact H10
  iintro ⟨H5, H7, H9, H10⟩
  try dsimp -proj only [fst_mk, snd_mk]
  rw [wp_bind]
  iapply (part8 c i arg3 harg3 arg4 harg4 arg5 harg5 arg6 harg6 arg7 harg7 arg8 harg8 arg9 harg9 arg10 harg10 _ _ _ _ _ _ _ _ _ _ _ _ _ _ _ _ _ _ _ _ _ _ _ _ _ _ _ _ _ E _)
  isplitl [H5]; · iexact H5
  isplitl [H7]; · iexact H7
  isplitl [H9]; · iexact H9
  isplitl [H10]; · iexact H10
  iintro ⟨H5, H7, H9, H10⟩
  try dsimp -proj only [fst_mk, snd_mk]
  rw [wp_bind]
  iapply (part9 c i arg3 harg3 arg4 harg4 arg5 harg5 arg6 harg6 arg7 harg7 arg8 harg8 arg9 harg9 arg10 harg10 _ _ _ _ _ _ _ _ _ _ _ _ _ _ _ _ _ _ _ _ _ _ _ _ _ _ _ _ _ _ E _)
  isplitl [H5]; · iexact H5
  isplitl [H7]; · iexact H7
  isplitl [H9]; · iexact H9
  isplitl [H10]; · iexact H10
  iintro ⟨H5, H7, H9, H10⟩
  try dsimp -proj only [fst_mk, snd_mk]
  rw [wp_bind]
  iapply (part10 c i arg3 harg3 arg4 harg4 arg5 harg5 arg6 harg6 arg7 harg7 arg8 harg8 arg9 harg9 arg10 harg10 _ _ _ _ _ _ _ _ _ _ _ _ _ _ _ _ _ _ _ _ _ _ _ _ _ _ _ _ _ _ _ _ E _)
  isplitl [H3]; · iexact H3
  isplitl [H4]; · iexact H4
  isplitl [H5]; · iexact H5
  isplitl [H7]; · iexact H7
  isplitl [H9]; · iexact H9
  isplitl [H10]; · iexact H10
  iintro ⟨H3, H4, H5, H7, H9, H10⟩
  try dsimp -proj only [fst_mk, snd_mk]
  rw [wp_bind]
  iapply (part11 c i arg3 harg3 arg4 harg4 arg5 harg5 arg6 harg6 arg7 harg7 arg8 harg8 arg9 harg9 arg10 harg10 _ _ _ _ _ _ _ _ _ _ _ _ _ _ E _)
  isplitl [H3]; · iexact H3
  isplitl [H4]; · iexact H4
  isplitl [H7]; · iexact H7
  iintro ⟨H3, H4, H7⟩
  try dsimp -proj only [fst_mk, snd_mk]
  rw [wp_bind]
  iapply (part12 c i arg3 harg3 arg4 harg4 arg5 harg5 arg6 harg6 arg7 harg7 arg8 harg8 arg9 harg9 arg10 harg10 _ _ _ _ _ _ _ _ _ _ _ _ _ E _)
  isplitl [H3]; · iexact H3
  isplitl [H4]; · iexact H4
  isplitl [H7]; · iexact H7
  iintro ⟨H3, H4, H7⟩
  try dsimp -proj only [fst_mk, snd_mk]
  rw [wp_bind]
  iapply (part13 c i arg3 harg3 arg4 harg4 arg5 harg5 arg6 harg6 arg7 harg7 arg8 harg8 arg9 harg9 arg10 harg10 _ _ _ _ _ _ _ _ _ _ _ _ _ _ _ _ _ _ _ _ _ _ _ _ _ _ _ E _)
  isplitl [H5]; · iexact H5
  isplitl [H8]; · iexact H8
  isplitl [H9]; · iexact H9
  isplitl [H10]; · iexact H10
  iintro ⟨H5, H8, H9, H10⟩
  try dsimp -proj only [fst_mk, snd_mk]
  rw [wp_bind]
  iapply (part14 c i arg3 harg3 arg4 harg4 arg5 harg5 arg6 harg6 arg7 harg7 arg8 harg8 arg9 harg9 arg10 harg10 _ _ _ _ _ _ _ _ _ _ _ _ _ _ _ _ _ _ _ _ _ _ _ _ _ _ _ _ _ E _)
  isplitl [H5]; · iexact H5
  isplitl [H8]; · iexact H8
  isplitl [H9]; · iexact H9
  isplitl [H10]; · iexact H10
  iintro ⟨H5, H8, H9, H10⟩
  try dsimp -proj only [fst_mk, snd_mk]
  rw [wp_bind]
  iapply (part15 c i arg3 harg3 arg4 harg4 arg5 harg5 arg6 harg6 arg7 harg7 arg8 harg8 arg9 harg9 arg10 harg10 _ _ _ _ _ _ _ _ _ _ _ _ _ _ _ _ _ _ _ _ _ _ _ _ _ _ _ _ _ _ E _)
  isplitl [H5]; · iexact H5
  isplitl [H8]; · iexact H8
  isplitl [H9]; · iexact H9
  isplitl [H10]; · iexact H10
  iintro ⟨H5, H8, H9, H10⟩
  try dsimp -proj only [fst_mk, snd_mk]
  rw [wp_bind]
  iapply (part16 c i arg3 harg3 arg4 harg4 arg5 harg5 arg6 harg6 arg7 harg7 arg8 harg8 arg9 harg9 arg10 harg10 _ _ _ _ _ _ _ _ _ _ _ _ _ _ _ _ _ _ _ _ _ _ _ _ _ _ _ _ _ _ _ E _)
  isplitl [H5]; · iexact H5
  isplitl [H8]; · iexact H8
  isplitl [H9]; · iexact H9
  isplitl [H10]; · iexact H10
  iintro ⟨H5, H8, H9, H10⟩
  try dsimp -proj only [fst_mk, snd_mk]
  rw [wp_bind]
  iapply (part17 c i arg3 harg3 arg4 harg4 arg5 harg5 arg6 harg6 arg7 harg7 arg8 harg8 arg9 harg9 arg10 harg10 _ _ _ _ _ _ _ _ _ _ _ _ _ _ _ _ _ _ _ _ _ _ _ _ _ _ _ _ _ E _)
  isplitl [H5]; · iexact H5
  isplitl [H8]; · iexact H8
  isplitl [H9]; · iexact H9
  isplitl [H10]; · iexact H10
  iintro ⟨H5, H8, H9, H10⟩
  try dsimp -proj only [fst_mk, snd_mk]
  rw [wp_bind]
  iapply (part18 c i arg3 harg3 arg4 harg4 arg5 harg5 arg6 harg6 arg7 harg7 arg8 harg8 arg9 harg9 arg10 harg10 _ _ _ _ _ _ _ _ _ _ _ _ _ _ _ _ _ _ _ _ _ _ _ _ _ _ _ E _)
  isplitl [H5]; · iexact H5
  isplitl [H8]; · iexact H8
  isplitl [H9]; · iexact H9
  isplitl [H10]; · iexact H10
  iintro ⟨H5, H8, H9, H10⟩
  try dsimp -proj only [fst_mk, snd_mk]
  sl_exec
  try unfold trip.sl.v1182
  try unfold trip.sl.v1179
  try unfold trip.sl.v1169
  simp -proj only [wr2, readQ, readK, readV, wrFull9, wrFull10, rd_512_512_0, wr_512_512_0, rd_512_512_1, wr_512_512_1, rd_512_512_2, wr_512_512_2, rd_512_512_3, wr_512_512_3, rd_512_512_4, wr_512_512_4, rd_512_512_5, wr_512_512_5, rd_512_512_6, wr_512_512_6, rd_512_512_7, wr_512_512_7, rd_1_512_0, wr_1_512_0, rd_1_512_1, wr_1_512_1, rd_1_512_2, wr_1_512_2, rd_1_512_3, wr_1_512_3, rd_1_512_4, wr_1_512_4, rd_1_512_5, wr_1_512_5, rd_1_512_6, wr_1_512_6, rd_1_512_7, wr_1_512_7, rd_144_512_0, wr_144_512_0, rd_144_512_1, wr_144_512_1, rd_144_512_2, wr_144_512_2, rd_144_512_3, wr_144_512_3, rd_144_512_4, wr_144_512_4, rd_144_512_5, wr_144_512_5, rd_144_512_6, wr_144_512_6, rd_144_512_7, wr_144_512_7, rdTop_0, rdRow_0, rdTop_1, rdRow_1, rdTop_2, rdRow_2, rdTop_3, rdRow_3, rdTop_4, rdRow_4, rdTop_5, rdRow_5, rdTop_6, rdRow_6, rdTop_7, rdRow_7]
  sl_step
  iapply Hk
  isplitl [H3]; · iexact H3
  isplitl [H4]; · iexact H4
  isplitl [H5]; · iexact H5
  isplitl [H7]; · iexact H7
  isplitl [H8]; · iexact H8
  isplitl [H9]; · iexact H9
  iexact H10

end Cert.Attn

end
-- ==== Proof.Attn.PartsD.lean ====
/- What each stretch of the kernel's body does to the blocks it holds: loads read blocks, stores replace them. -/
module

public import proofs.«01_k».proof.Proof.Attn.Stack

@[expose] public section

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S2x1024x512 .bf16) (harg3 : arg3.IsWhole) (arg4 : Memref sig .tc .vmem S1x4096x1024 .bf16) (harg4 : arg4.IsWhole) (arg5 : Memref sig .tc .vmem S1x8x576x512 .bf16) (harg5 : arg5.IsWhole) (arg6 : Memref sig .tc .vmem S2x512x512 .bf16) (harg6 : arg6.IsWhole) (arg7 : Memref sig .tc .vmem S8x512x512 .f32) (harg7 : arg7.IsWhole) (arg8 : Memref sig .tc .vmem S8x512x512 .f32) (harg8 : arg8.IsWhole) (arg9 : Memref sig .tc .vmem S8x1x512 .f32) (harg9 : arg9.IsWhole) (arg10 : Memref sig .tc .vmem S8x144x512 .f32) (harg10 : arg10.IsWhole)

include arg3 harg3 arg4 harg4 arg5 harg5 arg6 harg6 arg7 harg7 arg8 harg8 arg9 harg9 arg10 harg10

set_option maxHeartbeats 400000 in
theorem part37  (x3 : Vec F S2x1024x512 .bf16) (x4 : Vec F S1x4096x1024 .bf16) (a0 a1 a2 a3 a4 a5 a6 a7 : Vec F S1x512x512 .f32) (m0 m1 m2 m3 m4 m5 m6 m7 : Vec F S1x1x512 .f32) (n0 n1 n2 n3 n4 n5 n6 n7 : Vec F S1x144x512 .f32) (E : Set ℕ) (K : (Σ' (arg2 : BitVec 32) (v8 : BitVec 32), FVec F S1x512x512 .f32) → sProp 𝕄) :
    iprop((arg3.view.loc (c : Thread nD τ) ↦[arg3.view.set]{fullShare} (harg3.unread x3)) ∗ (arg4.view.loc (c : Thread nD τ) ↦[arg4.view.set]{fullShare} (harg4.unread x4)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg3.view.loc (c : Thread nD τ) ↦[arg3.view.set]{fullShare} (harg3.unread x3)) ∗ (arg4.view.loc (c : Thread nD τ) ↦[arg4.view.set]{fullShare} (harg4.unread x4)) ∗ (arg7.view.loc (c : Thread nD τ) ↦[arg7.view.set]{fullShare} (harg7.unread (S8 (k0_pay224 (cutK x4 ![0, 0, 0] inb_S1x4096x1024_S1x512x256_0_0_0) (cutQ x3 ![0, 0, 0] inb_S2x1024x512_S1x256x512_0_0_0)) a1 a2 a3 a4 a5 a6 a7))) ∗ (arg9.view.loc (c : Thread nD τ) ↦[arg9.view.set]{fullShare} (harg9.unread (S8 neg neg neg neg neg neg neg neg))) ∗ (arg10.view.loc (c : Thread nD τ) ↦[arg10.view.set]{fullShare} (harg10.unread (S8 zer zer zer zer zer zer zer zer)))) -∗ K ⟨(BitVec.ofNat 32 (i 2).val), (0#32), k0_pay225 (cutK x4 ![0, 0, 0] inb_S1x4096x1024_S1x512x256_0_0_0) (cutQ x3 ![1, 0, 0] inb_S2x1024x512_S1x256x512_1_0_0)⟩))
    ⊢ wp frame (wpE (defs₀ (F := F)) Variants.none c none) E (k0_part37 i arg3 harg3 arg4 harg4 arg5 harg5 arg6 harg6 arg7 harg7 arg8 harg8 arg9 harg9 arg10 harg10 ) K := by
  rw [k0_part37_eq_skeleton]; unfold k0_part37_skel
  iintro ⟨H3, H4, H7, H9, H10, Hk⟩
  sl_exec
  sl_step
  try unfold part37.sl.v24
  try unfold part37.sl.v8
  try unfold part37.sl.arg2
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H3]; · iexact H3
  isplitl [H4]; · iexact H4
  isplitl [H7]; · iexact H7
  isplitl [H9]; · iexact H9
  iexact H10

set_option maxHeartbeats 400000 in
theorem part38 (v8 : BitVec 32) (v26 : FVec F S1x512x512 .f32) (x3 : Vec F S2x1024x512 .bf16) (x4 : Vec F S1x4096x1024 .bf16) (a0 a1 a2 a3 a4 a5 a6 a7 : Vec F S1x512x512 .f32) (E : Set ℕ) (K : (PUnit) → sProp 𝕄) :
    iprop((arg3.view.loc (c : Thread nD τ) ↦[arg3.view.set]{fullShare} (harg3.unread x3)) ∗ (arg4.view.loc (c : Thread nD τ) ↦[arg4.view.set]{fullShare} (harg4.unread x4)) ∗ (arg7.view.loc (c : Thread nD τ) ↦[arg7.view.set]{fullShare} (harg7.unread (S8 a0 a1 a2 a3 a4 a5 a6 a7))) ∗ (iprop((arg3.view.loc (c : Thread nD τ) ↦[arg3.view.set]{fullShare} (harg3.unread x3)) ∗ (arg4.view.loc (c : Thread nD τ) ↦[arg4.view.set]{fullShare} (harg4.unread x4)) ∗ (arg7.view.loc (c : Thread nD τ) ↦[arg7.view.set]{fullShare} (harg7.unread (S8 a0 (v26) (k0_pay226 (cutK x4 ![0, 0, 256] inb_S1x4096x1024_S1x512x256_0_0_256) (cutQ x3 ![0, 256, 0] inb_S2x1024x512_S1x256x512_0_256_0)) (k0_pay227 (cutK x4 ![0, 0, 256] inb_S1x4096x1024_S1x512x256_0_0_256) (cutQ x3 ![1, 256, 0] inb_S2x1024x512_S1x256x512_1_256_0)) (k0_pay228 (cutK x4 ![0, 0, 512] inb_S1x4096x1024_S1x512x256_0_0_512) (cutQ x3 ![0, 512, 0] inb_S2x1024x512_S1x256x512_0_512_0)) a5 a6 a7)))) -∗ K ⟨⟩))
    ⊢ wp frame (wpE (defs₀ (F := F)) Variants.none c none) E (k0_part38 i arg3 harg3 arg4 harg4 arg5 harg5 arg6 harg6 arg7 harg7 arg8 harg8 arg9 harg9 arg10 harg10 v8 v26) K := by
  rw [k0_part38_eq_skeleton]; unfold k0_part38_skel
  iintro ⟨H3, H4, H7, Hk⟩
  sl_exec
  sl_step
  try unfold part38.sl.v51
  try unfold part38.sl.v42
  try unfold part38.sl.v33
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H3]; · iexact H3
  isplitl [H4]; · iexact H4
  iexact H7

set_option maxHeartbeats 400000 in
theorem part39 (arg2 : BitVec 32) (v8 : BitVec 32) (x3 : Vec F S2x1024x512 .bf16) (x4 : Vec F S1x4096x1024 .bf16) (a0 a1 a2 a3 a4 a5 a6 a7 : Vec F S1x512x512 .f32) (E : Set ℕ) (K : (Σ' (c0_i32_69 : BitVec 32) (v81 : BitVec 32), BitVec 32) → sProp 𝕄) :
    iprop((arg3.view.loc (c : Thread nD τ) ↦[arg3.view.set]{fullShare} (harg3.unread x3)) ∗ (arg4.view.loc (c : Thread nD τ) ↦[arg4.view.set]{fullShare} (harg4.unread x4)) ∗ (arg7.view.loc (c : Thread nD τ) ↦[arg7.view.set]{fullShare} (harg7.unread (S8 a0 a1 a2 a3 a4 a5 a6 a7))) ∗ (iprop((arg3.view.loc (c : Thread nD τ) ↦[arg3.view.set]{fullShare} (harg3.unread x3)) ∗ (arg4.view.loc (c : Thread nD τ) ↦[arg4.view.set]{fullShare} (harg4.unread x4)) ∗ (arg7.view.loc (c : Thread nD τ) ↦[arg7.view.set]{fullShare} (harg7.unread (S8 a0 a1 a2 a3 a4 (k0_pay229 (cutK x4 ![0, 0, 512] inb_S1x4096x1024_S1x512x256_0_0_512) (cutQ x3 ![1, 512, 0] inb_S2x1024x512_S1x256x512_1_512_0)) (k0_pay230 (cutK x4 ![0, 0, 768] inb_S1x4096x1024_S1x512x256_0_0_768) (cutQ x3 ![0, 768, 0] inb_S2x1024x512_S1x256x512_0_768_0)) (k0_pay231 (cutK x4 ![0, 0, 768] inb_S1x4096x1024_S1x512x256_0_0_768) (cutQ x3 ![1, 768, 0] inb_S2x1024x512_S1x256x512_1_768_0)))))) -∗ K ⟨0#32, (Scalar.subi arg2 0#32), 1#32⟩))
    ⊢ wp frame (wpE (defs₀ (F := F)) Variants.none c none) E (k0_part39 i arg3 harg3 arg4 harg4 arg5 harg5 arg6 harg6 arg7 harg7 arg8 harg8 arg9 harg9 arg10 harg10 arg2 v8) K := by
  rw [k0_part39_eq_skeleton]; unfold k0_part39_skel
  iintro ⟨H3, H4, H7, Hk⟩
  sl_exec
  sl_step
  try unfold part39.sl.v81
  try unfold part39.sl.v78
  try unfold part39.sl.v69
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H3]; · iexact H3
  isplitl [H4]; · iexact H4
  iexact H7

set_option maxHeartbeats 400000 in
theorem part41 (arg2 : BitVec 32) (v89 : BitVec 32) (v110 : FVec F S512x256 .bf16) (x3 : Vec F S2x1024x512 .bf16) (x4 : Vec F S1x4096x1024 .bf16) (a0 a1 a2 a3 a4 a5 a6 a7 : Vec F S1x512x512 .f32) (b0 b1 b2 b3 b4 b5 b6 b7 : Vec F S1x512x512 .f32) (m0 m1 m2 m3 m4 m5 m6 m7 : Vec F S1x1x512 .f32) (E : Set ℕ) (K : (Σ' (v126 : BitVec 32) (v138 : FVec F S1x512 .f32) (v140 : FVec F S1x512 .f32), FVec F S512x512 .f32) → sProp 𝕄) :
    iprop((arg3.view.loc (c : Thread nD τ) ↦[arg3.view.set]{fullShare} (harg3.unread x3)) ∗ (arg4.view.loc (c : Thread nD τ) ↦[arg4.view.set]{fullShare} (harg4.unread x4)) ∗ (arg7.view.loc (c : Thread nD τ) ↦[arg7.view.set]{fullShare} (harg7.unread (S8 a0 a1 a2 a3 a4 a5 a6 a7))) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 m1 m2 m3 m4 m5 m6 m7))) ∗ (iprop((arg3.view.loc (c : Thread nD τ) ↦[arg3.view.set]{fullShare} (harg3.unread x3)) ∗ (arg4.view.loc (c : Thread nD τ) ↦[arg4.view.set]{fullShare} (harg4.unread x4)) ∗ (arg7.view.loc (c : Thread nD τ) ↦[arg7.view.set]{fullShare} (harg7.unread (S8 a0 a1 a2 a3 a4 a5 a6 a7))) ∗ (arg8.view.loc (c : Thread nD τ) ↦[arg8.view.set]{fullShare} (harg8.unread (S8 b0 b1 b2 b3 b4 (k0_pay241 v110 (cutQ x3 ![1, 512, 0] inb_S2x1024x512_S1x256x512_1_512_0)) b6 (k0_pay242 (cutK x4 (k0_off28 i) (k0_off28_inb i)) (cutQ x3 ![1, 768, 0] inb_S2x1024x512_S1x256x512_1_768_0))))) ∗ (arg9.view.loc (c : Thread nD τ) ↦[arg9.view.set]{fullShare} (harg9.unread (S8 m0 m1 m2 m3 m4 m5 m6 m7)))) -∗ K ⟨(Scalar.muli 2#32 arg2), k0_pay245 a0 m0, k0_pay246 a0 m0, k0_pay247 a0 m0⟩))
    ⊢ wp frame (wpE (defs₀ (F := F)) Variants.none c none) E (k0_part41 i arg3 harg3 arg4 harg4 arg5 harg5 arg6 harg6 arg7 harg7 arg8 harg8 arg9 harg9 arg10 harg10 arg2 v89 v110) K := by
  rw [k0_part41_eq_skeleton]; unfold k0_part41_skel
  iintro ⟨H3, H4, H7, H8, H9, Hk⟩
  sl_exec
  sl_step
  try unfold part41.sl.v126
  try unfold part41.sl.v123
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H3]; · iexact H3
  isplitl [H4]; · iexact H4
  isplitl [H7]; · iexact H7
  isplitl [H8]; · iexact H8
  iexact H9

set_option maxHeartbeats 400000 in
theorem part42 (v126 : BitVec 32) (v138 : FVec F S1x512 .f32) (v140 : FVec F S1x512 .f32) (v143 : FVec F S512x512 .f32) (x5 : Vec F S1x8x576x512 .bf16) (a0 a1 a2 a3 a4 a5 a6 a7 : Vec F S1x512x512 .f32) (m0 m1 m2 m3 m4 m5 m6 m7 : Vec F S1x1x512 .f32) (n0 n1 n2 n3 n4 n5 n6 n7 : Vec F S1x144x512 .f32) (E : Set ℕ) (K : (Σ' (v166 : FVec F S1x512 .f32) (v171 : FVec F S512x512 .f32) (v175 : FVec F S144x512 .f32), FVec F S144x512 .bf16) → sProp 𝕄) :
    iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 (k0_pay249 v138) m1 m2 m3 m4 m5 m6 m7))) ∗ (arg10.view.loc (c : Thread nD τ) ↦[arg10.view.set]{fullShare} (harg10.unread (S8 (k0_pay248 v140 v143 n0 (cutV x5 (k0_off29 i) (k0_off29_inb i))) n1 n2 n3 n4 n5 n6 n7)))) -∗ K ⟨k0_pay252 a1 m1, k0_pay253 a1 m1, k0_pay254 a1 m1 n1, k0_pay255 (cutV x5 (k0_off29 i) (k0_off29_inb i))⟩))
    ⊢ wp frame (wpE (defs₀ (F := F)) Variants.none c none) E (k0_part42 i arg3 harg3 arg4 harg4 arg5 harg5 arg6 harg6 arg7 harg7 arg8 harg8 arg9 harg9 arg10 harg10 v126 v138 v140 v143) K := by
  rw [k0_part42_eq_skeleton]; unfold k0_part42_skel
  iintro ⟨H5, H7, H9, H10, Hk⟩
  sl_exec
  sl_step
  try unfold part42.sl.v172
  try unfold part42.sl.v162
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H7]; · iexact H7
  isplitl [H9]; · iexact H9
  iexact H10

set_option maxHeartbeats 400000 in
theorem part43 (v126 : BitVec 32) (v166 : FVec F S1x512 .f32) (v171 : FVec F S512x512 .f32) (v175 : FVec F S144x512 .f32) (v178 : FVec F S144x512 .bf16) (x5 : Vec F S1x8x576x512 .bf16) (a0 a1 a2 a3 a4 a5 a6 a7 : Vec F S1x512x512 .f32) (m0 m1 m2 m3 m4 m5 m6 m7 : Vec F S1x1x512 .f32) (n0 n1 n2 n3 n4 n5 n6 n7 : Vec F S1x144x512 .f32) (E : Set ℕ) (K : (Σ' (v199 : FVec F S1x512 .f32), FVec F S144x512 .f32) → sProp 𝕄) :
    iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 (k0_pay257 v166) m2 m3 m4 m5 m6 m7))) ∗ (arg10.view.loc (c : Thread nD τ) ↦[arg10.view.set]{fullShare} (harg10.unread (S8 n0 (k0_pay256 v171 v175 v178) n2 n3 n4 n5 n6 n7)))) -∗ K ⟨k0_pay260 a2 m2, k0_pay261 a2 m2 n2 (cutV x5 (k0_off30 i) (k0_off30_inb i))⟩))
    ⊢ wp frame (wpE (defs₀ (F := F)) Variants.none c none) E (k0_part43 i arg3 harg3 arg4 harg4 arg5 harg5 arg6 harg6 arg7 harg7 arg8 harg8 arg9 harg9 arg10 harg10 v126 v166 v171 v175 v178) K := by
  rw [k0_part43_eq_skeleton]; unfold k0_part43_skel
  iintro ⟨H5, H7, H9, H10, Hk⟩
  sl_exec
  sl_step
  try unfold part43.sl.v205
  try unfold part43.sl.v195
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H7]; · iexact H7
  isplitl [H9]; · iexact H9
  iexact H10

end Cert.Attn

end
-- ==== Proof.Attn.PartsE.lean ====
/- What each stretch of the kernel's body does to the blocks it holds: loads read blocks, stores replace them. -/
module

public import proofs.«01_k».proof.Proof.Attn.Stack

@[expose] public section

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S2x1024x512 .bf16) (harg3 : arg3.IsWhole) (arg4 : Memref sig .tc .vmem S1x4096x1024 .bf16) (harg4 : arg4.IsWhole) (arg5 : Memref sig .tc .vmem S1x8x576x512 .bf16) (harg5 : arg5.IsWhole) (arg6 : Memref sig .tc .vmem S2x512x512 .bf16) (harg6 : arg6.IsWhole) (arg7 : Memref sig .tc .vmem S8x512x512 .f32) (harg7 : arg7.IsWhole) (arg8 : Memref sig .tc .vmem S8x512x512 .f32) (harg8 : arg8.IsWhole) (arg9 : Memref sig .tc .vmem S8x1x512 .f32) (harg9 : arg9.IsWhole) (arg10 : Memref sig .tc .vmem S8x144x512 .f32) (harg10 : arg10.IsWhole)

include arg3 harg3 arg4 harg4 arg5 harg5 arg6 harg6 arg7 harg7 arg8 harg8 arg9 harg9 arg10 harg10

set_option maxHeartbeats 400000 in
theorem part44 (v126 : BitVec 32) (v199 : FVec F S1x512 .f32) (v214 : FVec F S144x512 .f32) (x5 : Vec F S1x8x576x512 .bf16) (a0 a1 a2 a3 a4 a5 a6 a7 : Vec F S1x512x512 .f32) (m0 m1 m2 m3 m4 m5 m6 m7 : Vec F S1x1x512 .f32) (n0 n1 n2 n3 n4 n5 n6 n7 : Vec F S1x144x512 .f32) (E : Set ℕ) (K : (FVec F S1x512 .f32) → sProp 𝕄) :
    iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 (k0_pay263 v199) m3 m4 m5 m6 m7))) ∗ (arg10.view.loc (c : Thread nD τ) ↦[arg10.view.set]{fullShare} (harg10.unread (S8 n0 n1 (k0_pay262 v214) (k0_pay267 a3 m3 n3 (cutV x5 (k0_off30 i) (k0_off30_inb i))) n4 n5 n6 n7)))) -∗ K (k0_pay266 a3 m3)))
    ⊢ wp frame (wpE (defs₀ (F := F)) Variants.none c none) E (k0_part44 i arg3 harg3 arg4 harg4 arg5 harg5 arg6 harg6 arg7 harg7 arg8 harg8 arg9 harg9 arg10 harg10 v126 v199 v214) K := by
  rw [k0_part44_eq_skeleton]; unfold k0_part44_skel
  iintro ⟨H5, H7, H9, H10, Hk⟩
  sl_exec
  sl_step
  try unfold part44.sl.v243
  try unfold part44.sl.v233
  try unfold part44.sl.v223
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H7]; · iexact H7
  isplitl [H9]; · iexact H9
  iexact H10

set_option maxHeartbeats 400000 in
theorem part45 (v126 : BitVec 32) (v227 : FVec F S1x512 .f32) (x5 : Vec F S1x8x576x512 .bf16) (a0 a1 a2 a3 a4 a5 a6 a7 : Vec F S1x512x512 .f32) (m0 m1 m2 m3 m4 m5 m6 m7 : Vec F S1x1x512 .f32) (n0 n1 n2 n3 n4 n5 n6 n7 : Vec F S1x144x512 .f32) (E : Set ℕ) (K : (PUnit) → sProp 𝕄) :
    iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 m2 (k0_pay268 v227) (k0_pay273 a4 m4) m5 m6 m7))) ∗ (arg10.view.loc (c : Thread nD τ) ↦[arg10.view.set]{fullShare} (harg10.unread (S8 n0 n1 n2 n3 (k0_pay272 a4 m4 n4 (cutV x5 (k0_off31 i) (k0_off31_inb i))) n5 n6 n7)))) -∗ K ⟨⟩))
    ⊢ wp frame (wpE (defs₀ (F := F)) Variants.none c none) E (k0_part45 i arg3 harg3 arg4 harg4 arg5 harg5 arg6 harg6 arg7 harg7 arg8 harg8 arg9 harg9 arg10 harg10 v126 v227) K := by
  rw [k0_part45_eq_skeleton]; unfold k0_part45_skel
  iintro ⟨H5, H7, H9, H10, Hk⟩
  sl_exec
  sl_step
  try unfold part45.sl.v279
  try unfold part45.sl.v256
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H7]; · iexact H7
  isplitl [H9]; · iexact H9
  iexact H10

set_option maxHeartbeats 400000 in
theorem part46 (v126 : BitVec 32) (x5 : Vec F S1x8x576x512 .bf16) (a0 a1 a2 a3 a4 a5 a6 a7 : Vec F S1x512x512 .f32) (m0 m1 m2 m3 m4 m5 m6 m7 : Vec F S1x1x512 .f32) (n0 n1 n2 n3 n4 n5 n6 n7 : Vec F S1x144x512 .f32) (E : Set ℕ) (K : (Σ' (v311 : FVec F S512x512 .f32) (v314 : IVec S512x512 1), FVec F S512x512 .f32) → sProp 𝕄) :
    iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 m2 m3 m4 (k0_pay278 a5 m5) m6 m7))) ∗ (arg10.view.loc (c : Thread nD τ) ↦[arg10.view.set]{fullShare} (harg10.unread (S8 n0 n1 n2 n3 n4 (k0_pay277 a5 m5 n5 (cutV x5 (k0_off31 i) (k0_off31_inb i))) n6 n7)))) -∗ K ⟨k0_pay279 a6, k0_pay280, k0_pay281 (F := F)⟩))
    ⊢ wp frame (wpE (defs₀ (F := F)) Variants.none c none) E (k0_part46 i arg3 harg3 arg4 harg4 arg5 harg5 arg6 harg6 arg7 harg7 arg8 harg8 arg9 harg9 arg10 harg10 v126) K := by
  rw [k0_part46_eq_skeleton]; unfold k0_part46_skel
  iintro ⟨H5, H7, H9, H10, Hk⟩
  sl_exec
  sl_step
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H7]; · iexact H7
  isplitl [H9]; · iexact H9
  iexact H10

set_option maxHeartbeats 400000 in
theorem part47 (v126 : BitVec 32) (v311 : FVec F S512x512 .f32) (v314 : IVec S512x512 1) (v315 : FVec F S512x512 .f32) (x5 : Vec F S1x8x576x512 .bf16) (a0 a1 a2 a3 a4 a5 a6 a7 : Vec F S1x512x512 .f32) (m0 m1 m2 m3 m4 m5 m6 m7 : Vec F S1x1x512 .f32) (n0 n1 n2 n3 n4 n5 n6 n7 : Vec F S1x144x512 .f32) (E : Set ℕ) (K : (Σ' (v344 : FVec F S512x512 .f32) (v346 : FVec F S1x512 .f32), FVec F S1x512 .f32) → sProp 𝕄) :
    iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg7.view.loc (c : Thread nD τ) ↦[arg7.view.set]{fullShare} (harg7.unread (S8 a0 a1 a2 a3 a4 a5 a6 a7))) ∗ (arg9.view.loc (c : Thread nD τ) ↦[arg9.view.set]{fullShare} (harg9.unread (S8 m0 m1 m2 m3 m4 m5 (k0_pay286 v311 v314 v315 m6) m7))) ∗ (arg10.view.loc (c : Thread nD τ) ↦[arg10.view.set]{fullShare} (harg10.unread (S8 n0 n1 n2 n3 n4 n5 (k0_pay285 v311 v314 v315 m6 n6 (cutV x5 (k0_off32 i) (k0_off32_inb i))) n7)))) -∗ K ⟨k0_pay287 a7, k0_pay288 m7, k0_pay289 a7 m7⟩))
    ⊢ wp frame (wpE (defs₀ (F := F)) Variants.none c none) E (k0_part47 i arg3 harg3 arg4 harg4 arg5 harg5 arg6 harg6 arg7 harg7 arg8 harg8 arg9 harg9 arg10 harg10 v126 v311 v314 v315) K := by
  rw [k0_part47_eq_skeleton]; unfold k0_part47_skel
  iintro ⟨H5, H7, H9, H10, Hk⟩
  sl_exec
  sl_step
  try unfold part47.sl.v345
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H7]; · iexact H7
  isplitl [H9]; · iexact H9
  iexact H10

set_option maxHeartbeats 400000 in
theorem part48 (arg2 : BitVec 32) (v126 : BitVec 32) (v344 : FVec F S512x512 .f32) (v346 : FVec F S1x512 .f32) (v349 : FVec F S1x512 .f32) (x5 : Vec F S1x8x576x512 .bf16) (b0 b1 b2 b3 b4 b5 b6 b7 : Vec F S1x512x512 .f32) (m0 m1 m2 m3 m4 m5 m6 m7 : Vec F S1x1x512 .f32) (n0 n1 n2 n3 n4 n5 n6 n7 : Vec F S1x144x512 .f32) (E : Set ℕ) (K : (Σ' (v372 : BitVec 32) (v379 : FVec F S512x512 .f32) (v381 : FVec F S1x512 .f32), FVec F S1x512 .f32) → sProp 𝕄) :
    iprop((arg5.view.loc (c : Thread nD τ) ↦[arg5.view.set]{fullShare} (harg5.unread x5)) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 m1 m2 m3 m4 m5 m6 (k0_pay291 v349)))) ∗ (arg10.view.loc (c : Thread nD τ) ↦[arg10.view.set]{fullShare} (harg10.unread (S8 n0 n1 n2 n3 n4 n5 n6 (k0_pay290 v344 v346 v349 n7 (cutV x5 (k0_off32 i) (k0_off32_inb i))))))) -∗ K ⟨(Scalar.addi (Scalar.muli 2#32 arg2) 1#32), k0_pay292 b1, k0_pay293 m1, k0_pay294 b1 m1⟩))
    ⊢ wp frame (wpE (defs₀ (F := F)) Variants.none c none) E (k0_part48 i arg3 harg3 arg4 harg4 arg5 harg5 arg6 harg6 arg7 harg7 arg8 harg8 arg9 harg9 arg10 harg10 arg2 v126 v344 v346 v349) K := by
  rw [k0_part48_eq_skeleton]; unfold k0_part48_skel
  iintro ⟨H5, H8, H9, H10, Hk⟩
  sl_exec
  sl_step
  try unfold part48.sl.v380
  try unfold part48.sl.v372
  try unfold part48.sl.v371
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H8]; · iexact H8
  isplitl [H9]; · iexact H9
  iexact H10

end Cert.Attn

end
-- ==== Proof.Attn.PartsF.lean ====
/- What each stretch of the kernel's body does to the blocks it holds: loads read blocks, stores replace them. -/
module

public import proofs.«01_k».proof.Proof.Attn.Stack

@[expose] public section

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S2x1024x512 .bf16) (harg3 : arg3.IsWhole) (arg4 : Memref sig .tc .vmem S1x4096x1024 .bf16) (harg4 : arg4.IsWhole) (arg5 : Memref sig .tc .vmem S1x8x576x512 .bf16) (harg5 : arg5.IsWhole) (arg6 : Memref sig .tc .vmem S2x512x512 .bf16) (harg6 : arg6.IsWhole) (arg7 : Memref sig .tc .vmem S8x512x512 .f32) (harg7 : arg7.IsWhole) (arg8 : Memref sig .tc .vmem S8x512x512 .f32) (harg8 : arg8.IsWhole) (arg9 : Memref sig .tc .vmem S8x1x512 .f32) (harg9 : arg9.IsWhole) (arg10 : Memref sig .tc .vmem S8x144x512 .f32) (harg10 : arg10.IsWhole)

include arg3 harg3 arg4 harg4 arg5 harg5 arg6 harg6 arg7 harg7 arg8 harg8 arg9 harg9 arg10 harg10

set_option maxHeartbeats 400000 in
theorem part49 (v372 : BitVec 32) (v379 : FVec F S512x512 .f32) (v381 : FVec F S1x512 .f32) (v384 : FVec F S1x512 .f32) (x5 : Vec F S1x8x576x512 .bf16) (b0 b1 b2 b3 b4 b5 b6 b7 : Vec F S1x512x512 .f32) (m0 m1 m2 m3 m4 m5 m6 m7 : Vec F S1x1x512 .f32) (n0 n1 n2 n3 n4 n5 n6 n7 : Vec F S1x144x512 .f32) (E : Set ℕ) (K : (Σ' (v417 : FVec F S1x512 .f32) (v419 : FVec F S1x512 .f32), FVec F S512x512 .f32) → sProp 𝕄) :
    iprop((arg5.view.loc (c : Thread nD τ) ↦[arg5.view.set]{fullShare} (harg5.unread x5)) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 (k0_pay296 v384) m2 m3 m4 m5 m6 m7))) ∗ (arg10.view.loc (c : Thread nD τ) ↦[arg10.view.set]{fullShare} (harg10.unread (S8 n0 (k0_pay295 v379 v381 v384 n1 (cutV x5 (k0_off33 i) (k0_off33_inb i))) n2 n3 n4 n5 n6 n7)))) -∗ K ⟨k0_pay299 b3 m3, k0_pay300 b3 m3, k0_pay301 b3 m3⟩))
    ⊢ wp frame (wpE (defs₀ (F := F)) Variants.none c none) E (k0_part49 i arg3 harg3 arg4 harg4 arg5 harg5 arg6 harg6 arg7 harg7 arg8 harg8 arg9 harg9 arg10 harg10 v372 v379 v381 v384) K := by
  rw [k0_part49_eq_skeleton]; unfold k0_part49_skel
  iintro ⟨H5, H8, H9, H10, Hk⟩
  sl_exec
  sl_step
  try unfold part49.sl.v413
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H8]; · iexact H8
  isplitl [H9]; · iexact H9
  iexact H10

set_option maxHeartbeats 400000 in
theorem part50 (v372 : BitVec 32) (v417 : FVec F S1x512 .f32) (v419 : FVec F S1x512 .f32) (v421 : FVec F S512x512 .f32) (x5 : Vec F S1x8x576x512 .bf16) (b0 b1 b2 b3 b4 b5 b6 b7 : Vec F S1x512x512 .f32) (m0 m1 m2 m3 m4 m5 m6 m7 : Vec F S1x1x512 .f32) (n0 n1 n2 n3 n4 n5 n6 n7 : Vec F S1x144x512 .f32) (E : Set ℕ) (K : (Σ' (v450 : FVec F S1x512 .f32) (v452 : FVec F S1x512 .f32), FVec F S512x512 .f32) → sProp 𝕄) :
    iprop((arg5.view.loc (c : Thread nD τ) ↦[arg5.view.set]{fullShare} (harg5.unread x5)) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 m1 m2 (k0_pay303 v417) m4 m5 m6 m7))) ∗ (arg10.view.loc (c : Thread nD τ) ↦[arg10.view.set]{fullShare} (harg10.unread (S8 n0 n1 n2 (k0_pay302 v419 v421 n3 (cutV x5 (k0_off34 i) (k0_off34_inb i))) n4 n5 n6 n7)))) -∗ K ⟨k0_pay306 b5 m5, k0_pay307 b5 m5, k0_pay308 b5 m5⟩))
    ⊢ wp frame (wpE (defs₀ (F := F)) Variants.none c none) E (k0_part50 i arg3 harg3 arg4 harg4 arg5 harg5 arg6 harg6 arg7 harg7 arg8 harg8 arg9 harg9 arg10 harg10 v372 v417 v419 v421) K := by
  rw [k0_part50_eq_skeleton]; unfold k0_part50_skel
  iintro ⟨H5, H8, H9, H10, Hk⟩
  sl_exec
  sl_step
  try unfold part50.sl.v446
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H8]; · iexact H8
  isplitl [H9]; · iexact H9
  iexact H10

set_option maxHeartbeats 400000 in
theorem part51 (v372 : BitVec 32) (v450 : FVec F S1x512 .f32) (v452 : FVec F S1x512 .f32) (v455 : FVec F S512x512 .f32) (x5 : Vec F S1x8x576x512 .bf16) (b0 b1 b2 b3 b4 b5 b6 b7 : Vec F S1x512x512 .f32) (m0 m1 m2 m3 m4 m5 m6 m7 : Vec F S1x1x512 .f32) (n0 n1 n2 n3 n4 n5 n6 n7 : Vec F S1x144x512 .f32) (E : Set ℕ) (K : (Σ' (v483 : FVec F S1x512 .f32) (v488 : FVec F S512x512 .f32), FVec F S144x512 .f32) → sProp 𝕄) :
    iprop((arg5.view.loc (c : Thread nD τ) ↦[arg5.view.set]{fullShare} (harg5.unread x5)) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg8.view.loc (c : Thread nD τ) ↦[arg8.view.set]{fullShare} (harg8.unread (S8 b0 b1 b2 b3 b4 b5 b6 b7))) ∗ (arg9.view.loc (c : Thread nD τ) ↦[arg9.view.set]{fullShare} (harg9.unread (S8 m0 m1 m2 m3 m4 (k0_pay310 v450) m6 m7))) ∗ (arg10.view.loc (c : Thread nD τ) ↦[arg10.view.set]{fullShare} (harg10.unread (S8 n0 n1 n2 n3 n4 (k0_pay309 v452 v455 n5 (cutV x5 (k0_off35 i) (k0_off35_inb i))) n6 n7)))) -∗ K ⟨k0_pay313 b7 m7, k0_pay314 b7 m7, k0_pay315 b7 m7 n7⟩))
    ⊢ wp frame (wpE (defs₀ (F := F)) Variants.none c none) E (k0_part51 i arg3 harg3 arg4 harg4 arg5 harg5 arg6 harg6 arg7 harg7 arg8 harg8 arg9 harg9 arg10 harg10 v372 v450 v452 v455) K := by
  rw [k0_part51_eq_skeleton]; unfold k0_part51_skel
  iintro ⟨H5, H8, H9, H10, Hk⟩
  sl_exec
  sl_step
  try unfold part51.sl.v489
  try unfold part51.sl.v479
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H8]; · iexact H8
  isplitl [H9]; · iexact H9
  iexact H10

set_option maxHeartbeats 400000 in
theorem part52 (v372 : BitVec 32) (v483 : FVec F S1x512 .f32) (v488 : FVec F S512x512 .f32) (v492 : FVec F S144x512 .f32) (x5 : Vec F S1x8x576x512 .bf16) (f6 : BufTy.Contents (Elt F) arg6.view.ty) (l6 : List (View.Piece (Elt F) S2x512x512 .bf16)) (m0 m1 m2 m3 m4 m5 m6 m7 : Vec F S1x1x512 .f32) (n0 n1 n2 n3 n4 n5 n6 n7 : Vec F S1x144x512 .f32) (E : Set ℕ) (K : (FVec F S128x512 .bf16) → sProp 𝕄) :
    iprop((arg5.view.loc (c : Thread nD τ) ↦[arg5.view.set]{fullShare} (harg5.unread x5)) ∗ (arg6.view.loc (c : Thread nD τ) ↦[arg6.view.set]{fullShare} (arg6.view.writes (Elt F) f6 l6)) ∗ (arg9.view.loc (c : Thread nD τ) ↦[arg9.view.set]{fullShare} (harg9.unread (S8 m0 m1 m2 m3 m4 m5 m6 m7))) ∗ (arg10.view.loc (c : Thread nD τ) ↦[arg10.view.set]{fullShare} (harg10.unread (S8 n0 n1 n2 n3 n4 n5 n6 n7))) ∗ (iprop((arg5.view.loc (c : Thread nD τ) ↦[arg5.view.set]{fullShare} (harg5.unread x5)) ∗ (arg6.view.loc (c : Thread nD τ) ↦[arg6.view.set]{fullShare} (arg6.view.writes (Elt F) f6 (⟨Rect.unit (s := S2x512x512) ![0, 0, 0] S1x128x512.size inb_S2x512x512_S1x128x512_0_0_0, (k0_pay318 (top n0) (row n0))⟩ :: l6))) ∗ (arg9.view.loc (c : Thread nD τ) ↦[arg9.view.set]{fullShare} (harg9.unread (S8 m0 m1 m2 m3 m4 m5 m6 (k0_pay317 v483)))) ∗ (arg10.view.loc (c : Thread nD τ) ↦[arg10.view.set]{fullShare} (harg10.unread (S8 n0 n1 n2 n3 n4 n5 n6 (k0_pay316 v488 v492 (cutV x5 (k0_off36 i) (k0_off36_inb i))))))) -∗ K (k0_pay319 (top n1) (row n1))))
    ⊢ wp frame (wpE (defs₀ (F := F)) Variants.none c none) E (k0_part52 i arg3 harg3 arg4 harg4 arg5 harg5 arg6 harg6 arg7 harg7 arg8 harg8 arg9 harg9 arg10 harg10 v372 v483 v488 v492) K := by
  rw [k0_part52_eq_skeleton]; unfold k0_part52_skel
  iintro ⟨H5, H6, H9, H10, Hk⟩
  sl_exec
  sl_step
  try unfold part52.sl.v517
  try unfold part52.sl.v515
  try unfold part52.sl.v507
  try unfold part52.sl.v505
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H5]; · iexact H5
  isplitl [H6]; · iexact H6
  isplitl [H9]; · iexact H9
  iexact H10

set_option maxHeartbeats 400000 in
theorem part53 (v521 : FVec F S128x512 .bf16) (f6 : BufTy.Contents (Elt F) arg6.view.ty) (l6 : List (View.Piece (Elt F) S2x512x512 .bf16)) (n0 n1 n2 n3 n4 n5 n6 n7 : Vec F S1x144x512 .f32) (E : Set ℕ) (K : (FVec F S128x512 .bf16) → sProp 𝕄) :
    iprop((arg6.view.loc (c : Thread nD τ) ↦[arg6.view.set]{fullShare} (arg6.view.writes (Elt F) f6 l6)) ∗ (arg10.view.loc (c : Thread nD τ) ↦[arg10.view.set]{fullShare} (harg10.unread (S8 n0 n1 n2 n3 n4 n5 n6 n7))) ∗ (iprop((arg6.view.loc (c : Thread nD τ) ↦[arg6.view.set]{fullShare} (arg6.view.writes (Elt F) f6 (⟨Rect.unit (s := S2x512x512) ![1, 128, 0] S1x128x512.size inb_S2x512x512_S1x128x512_1_128_0, (k0_pay322 (top n3) (row n3))⟩ :: ⟨Rect.unit (s := S2x512x512) ![0, 128, 0] S1x128x512.size inb_S2x512x512_S1x128x512_0_128_0, (k0_pay321 (top n2) (row n2))⟩ :: ⟨Rect.unit (s := S2x512x512) ![1, 0, 0] S1x128x512.size inb_S2x512x512_S1x128x512_1_0_0, (k0_pay320 v521)⟩ :: l6))) ∗ (arg10.view.loc (c : Thread nD τ) ↦[arg10.view.set]{fullShare} (harg10.unread (S8 n0 n1 n2 n3 n4 n5 n6 n7)))) -∗ K (k0_pay323 (top n4) (row n4))))
    ⊢ wp frame (wpE (defs₀ (F := F)) Variants.none c none) E (k0_part53 i arg3 harg3 arg4 harg4 arg5 harg5 arg6 harg6 arg7 harg7 arg8 harg8 arg9 harg9 arg10 harg10 v521) K := by
  rw [k0_part53_eq_skeleton]; unfold k0_part53_skel
  iintro ⟨H6, H10, Hk⟩
  sl_exec
  sl_step
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H6]; · iexact H6
  iexact H10

set_option maxHeartbeats 400000 in
theorem part54 (v551 : FVec F S128x512 .bf16) (f6 : BufTy.Contents (Elt F) arg6.view.ty) (l6 : List (View.Piece (Elt F) S2x512x512 .bf16)) (n0 n1 n2 n3 n4 n5 n6 n7 : Vec F S1x144x512 .f32) (E : Set ℕ) (K : (FVec F S128x512 .bf16) → sProp 𝕄) :
    iprop((arg6.view.loc (c : Thread nD τ) ↦[arg6.view.set]{fullShare} (arg6.view.writes (Elt F) f6 l6)) ∗ (arg10.view.loc (c : Thread nD τ) ↦[arg10.view.set]{fullShare} (harg10.unread (S8 n0 n1 n2 n3 n4 n5 n6 n7))) ∗ (iprop((arg6.view.loc (c : Thread nD τ) ↦[arg6.view.set]{fullShare} (arg6.view.writes (Elt F) f6 (⟨Rect.unit (s := S2x512x512) ![0, 384, 0] S1x128x512.size inb_S2x512x512_S1x128x512_0_384_0, (k0_pay326 (top n6) (row n6))⟩ :: ⟨Rect.unit (s := S2x512x512) ![1, 256, 0] S1x128x512.size inb_S2x512x512_S1x128x512_1_256_0, (k0_pay325 (top n5) (row n5))⟩ :: ⟨Rect.unit (s := S2x512x512) ![0, 256, 0] S1x128x512.size inb_S2x512x512_S1x128x512_0_256_0, (k0_pay324 v551)⟩ :: l6))) ∗ (arg10.view.loc (c : Thread nD τ) ↦[arg10.view.set]{fullShare} (harg10.unread (S8 n0 n1 n2 n3 n4 n5 n6 n7)))) -∗ K (k0_pay327 (top n7) (row n7))))
    ⊢ wp frame (wpE (defs₀ (F := F)) Variants.none c none) E (k0_part54 i arg3 harg3 arg4 harg4 arg5 harg5 arg6 harg6 arg7 harg7 arg8 harg8 arg9 harg9 arg10 harg10 v551) K := by
  rw [k0_part54_eq_skeleton]; unfold k0_part54_skel
  iintro ⟨H6, H10, Hk⟩
  sl_exec
  sl_step
  simp -proj only [wr2, readQ, readK, readV, wrFull9, wrFull10, rd_512_512_0, wr_512_512_0, rdl_512_512_0, rd_512_512_1, wr_512_512_1, rdl_512_512_1, rd_512_512_2, wr_512_512_2, rdl_512_512_2, rd_512_512_3, wr_512_512_3, rdl_512_512_3, rd_512_512_4, wr_512_512_4, rdl_512_512_4, rd_512_512_5, wr_512_512_5, rdl_512_512_5, rd_512_512_6, wr_512_512_6, rdl_512_512_6, rd_512_512_7, wr_512_512_7, rdl_512_512_7, rd_1_512_0, wr_1_512_0, rdl_1_512_0, rd_1_512_1, wr_1_512_1, rdl_1_512_1, rd_1_512_2, wr_1_512_2, rdl_1_512_2, rd_1_512_3, wr_1_512_3, rdl_1_512_3, rd_1_512_4, wr_1_512_4, rdl_1_512_4, rd_1_512_5, wr_1_512_5, rdl_1_512_5, rd_1_512_6, wr_1_512_6, rdl_1_512_6, rd_1_512_7, wr_1_512_7, rdl_1_512_7, rd_144_512_0, wr_144_512_0, rdl_144_512_0, rd_144_512_1, wr_144_512_1, rdl_144_512_1, rd_144_512_2, wr_144_512_2, rdl_144_512_2, rd_144_512_3, wr_144_512_3, rdl_144_512_3, rd_144_512_4, wr_144_512_4, rdl_144_512_4, rd_144_512_5, wr_144_512_5, rdl_144_512_5, rd_144_512_6, wr_144_512_6, rdl_144_512_6, rd_144_512_7, wr_144_512_7, rdl_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H6]; · iexact H6
  iexact H10

end Cert.Attn

end
-- ==== Proof.Attn.Loop.lean ====
/- The loop of the kernel, and the states its body passes through. -/
module

public import proofs.«01_k».proof.Proof.Attn.Trip
public import proofs.«01_k».proof.Proof.Attn.PartsD
public import proofs.«01_k».proof.Proof.Attn.PartsE
public import proofs.«01_k».proof.Proof.Attn.PartsF

@[expose] public section

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers before the loop: the first tile's scores, no maximum and no sum. -/
def iniSt (i : grid0.Coords) (x3 : Vec F S2x1024x512 .bf16) (x4 : Vec F S1x4096x1024 .bf16) (x5 : Vec F S1x8x576x512 .bf16) (s : St F) : St F where
  a := ![(k0_pay224 (cutK x4 ![0, 0, 0] inb_S1x4096x1024_S1x512x256_0_0_0) (cutQ x3 ![0, 0, 0] inb_S2x1024x512_S1x256x512_0_0_0)), (k0_pay225 (cutK x4 ![0, 0, 0] inb_S1x4096x1024_S1x512x256_0_0_0) (cutQ x3 ![1, 0, 0] inb_S2x1024x512_S1x256x512_1_0_0)), (k0_pay226 (cutK x4 ![0, 0, 256] inb_S1x4096x1024_S1x512x256_0_0_256) (cutQ x3 ![0, 256, 0] inb_S2x1024x512_S1x256x512_0_256_0)), (k0_pay227 (cutK x4 ![0, 0, 256] inb_S1x4096x1024_S1x512x256_0_0_256) (cutQ x3 ![1, 256, 0] inb_S2x1024x512_S1x256x512_1_256_0)), (k0_pay228 (cutK x4 ![0, 0, 512] inb_S1x4096x1024_S1x512x256_0_0_512) (cutQ x3 ![0, 512, 0] inb_S2x1024x512_S1x256x512_0_512_0)), (k0_pay229 (cutK x4 ![0, 0, 512] inb_S1x4096x1024_S1x512x256_0_0_512) (cutQ x3 ![1, 512, 0] inb_S2x1024x512_S1x256x512_1_512_0)), (k0_pay230 (cutK x4 ![0, 0, 768] inb_S1x4096x1024_S1x512x256_0_0_768) (cutQ x3 ![0, 768, 0] inb_S2x1024x512_S1x256x512_0_768_0)), (k0_pay231 (cutK x4 ![0, 0, 768] inb_S1x4096x1024_S1x512x256_0_0_768) (cutQ x3 ![1, 768, 0] inb_S2x1024x512_S1x256x512_1_768_0))]
  b := s.b
  m := ![neg, neg, neg, neg, neg, neg, neg, neg]
  n := ![zer, zer, zer, zer, zer, zer, zer, zer]

/-- The buffers after `k` trips. -/
def tripN (i : grid0.Coords) (x3 : Vec F S2x1024x512 .bf16) (x4 : Vec F S1x4096x1024 .bf16) (x5 : Vec F S1x8x576x512 .bf16) (s : St F) : ℕ → St F
  | 0 => s
  | k + 1 => if h : k < (k0_t1_loop i).trips then tripSt i x3 x4 x5 ⟨k, h⟩ (tripN i x3 x4 x5 s k) else tripN i x3 x4 x5 s k

theorem tripN_succ (i : grid0.Coords) (x3 : Vec F S2x1024x512 .bf16) (x4 : Vec F S1x4096x1024 .bf16) (x5 : Vec F S1x8x576x512 .bf16) (s : St F) (k : Fin (k0_t1_loop i).trips) :
    tripN i x3 x4 x5 s (k.val + 1) = tripSt i x3 x4 x5 k (tripN i x3 x4 x5 s k.val) := by
  show (if h : k.val < (k0_t1_loop i).trips then tripSt i x3 x4 x5 ⟨k.val, h⟩ (tripN i x3 x4 x5 s k.val) else tripN i x3 x4 x5 s k.val) = _
  rw [dif_pos k.isLt]

/-- The buffers with the last tile's scores begun. -/
def oddSt (i : grid0.Coords) (x3 : Vec F S2x1024x512 .bf16) (x4 : Vec F S1x4096x1024 .bf16) (x5 : Vec F S1x8x576x512 .bf16) (s : St F) : St F where
  a := s.a
  b := ![(s.b 0), (k0_pay238 (cutK x4 (k0_off25 i) (k0_off25_inb i)) (cutQ x3 ![1, 0, 0] inb_S2x1024x512_S1x256x512_1_0_0)), (s.b 2), (k0_pay239 (cutK x4 (k0_off26 i) (k0_off26_inb i)) (cutQ x3 ![1, 256, 0] inb_S2x1024x512_S1x256x512_1_256_0)), (s.b 4), (s.b 5), (s.b 6), (s.b 7)]
  m := s.m
  n := s.n

/-- The buffers at the end, -/
def finSt (i : grid0.Coords) (x3 : Vec F S2x1024x512 .bf16) (x4 : Vec F S1x4096x1024 .bf16) (x5 : Vec F S1x8x576x512 .bf16) (s : St F) : St F where
  a := ![(s.a 0), (s.a 1), (s.a 2), (s.a 3), (s.a 4), (s.a 5), (s.a 6), (s.a 7)]
  b := ![(s.b 0), (s.b 1), (s.b 2), (s.b 3), (s.b 4), (k0_pay241 (k0_pay240 (cutK x4 (k0_off27 i) (k0_off27_inb i))) (cutQ x3 ![1, 512, 0] inb_S2x1024x512_S1x256x512_1_512_0)), (s.b 6), (k0_pay242 (cutK x4 (k0_off28 i) (k0_off28_inb i)) (cutQ x3 ![1, 768, 0] inb_S2x1024x512_S1x256x512_1_768_0))]
  m := ![(k0_pay249 (k0_pay245 (s.a 0) (s.m 0))), (k0_pay296 (k0_pay294 (s.b 1) (k0_pay257 (k0_pay252 (s.a 1) (s.m 1))))), (k0_pay263 (k0_pay260 (s.a 2) (s.m 2))), (k0_pay303 (k0_pay299 (s.b 3) (k0_pay268 (k0_pay266 (s.a 3) (s.m 3))))), (k0_pay273 (s.a 4) (s.m 4)), (k0_pay310 (k0_pay306 (k0_pay241 (k0_pay240 (cutK x4 (k0_off27 i) (k0_off27_inb i))) (cutQ x3 ![1, 512, 0] inb_S2x1024x512_S1x256x512_1_512_0)) (k0_pay278 (s.a 5) (s.m 5)))), (k0_pay286 (k0_pay279 (s.a 6)) k0_pay280 (k0_pay281 (F := F)) (s.m 6)), (k0_pay317 (k0_pay313 (k0_pay242 (cutK x4 (k0_off28 i) (k0_off28_inb i)) (cutQ x3 ![1, 768, 0] inb_S2x1024x512_S1x256x512_1_768_0)) (k0_pay291 (k0_pay289 (s.a 7) (s.m 7)))))]
  n := ![(k0_pay248 (k0_pay246 (s.a 0) (s.m 0)) (k0_pay247 (s.a 0) (s.m 0)) (s.n 0) (cutV x5 (k0_off29 i) (k0_off29_inb i))), (k0_pay295 (k0_pay292 (s.b 1)) (k0_pay293 (k0_pay257 (k0_pay252 (s.a 1) (s.m 1)))) (k0_pay294 (s.b 1) (k0_pay257 (k0_pay252 (s.a 1) (s.m 1)))) (k0_pay256 (k0_pay253 (s.a 1) (s.m 1)) (k0_pay254 (s.a 1) (s.m 1) (s.n 1)) (k0_pay255 (cutV x5 (k0_off29 i) (k0_off29_inb i)))) (cutV x5 (k0_off33 i) (k0_off33_inb i))), (k0_pay262 (k0_pay261 (s.a 2) (s.m 2) (s.n 2) (cutV x5 (k0_off30 i) (k0_off30_inb i)))), (k0_pay302 (k0_pay300 (s.b 3) (k0_pay268 (k0_pay266 (s.a 3) (s.m 3)))) (k0_pay301 (s.b 3) (k0_pay268 (k0_pay266 (s.a 3) (s.m 3)))) (k0_pay267 (s.a 3) (s.m 3) (s.n 3) (cutV x5 (k0_off30 i) (k0_off30_inb i))) (cutV x5 (k0_off34 i) (k0_off34_inb i))), (k0_pay272 (s.a 4) (s.m 4) (s.n 4) (cutV x5 (k0_off31 i) (k0_off31_inb i))), (k0_pay309 (k0_pay307 (k0_pay241 (k0_pay240 (cutK x4 (k0_off27 i) (k0_off27_inb i))) (cutQ x3 ![1, 512, 0] inb_S2x1024x512_S1x256x512_1_512_0)) (k0_pay278 (s.a 5) (s.m 5))) (k0_pay308 (k0_pay241 (k0_pay240 (cutK x4 (k0_off27 i) (k0_off27_inb i))) (cutQ x3 ![1, 512, 0] inb_S2x1024x512_S1x256x512_1_512_0)) (k0_pay278 (s.a 5) (s.m 5))) (k0_pay277 (s.a 5) (s.m 5) (s.n 5) (cutV x5 (k0_off31 i) (k0_off31_inb i))) (cutV x5 (k0_off35 i) (k0_off35_inb i))), (k0_pay285 (k0_pay279 (s.a 6)) k0_pay280 (k0_pay281 (F := F)) (s.m 6) (s.n 6) (cutV x5 (k0_off32 i) (k0_off32_inb i))), (k0_pay316 (k0_pay314 (k0_pay242 (cutK x4 (k0_off28 i) (k0_off28_inb i)) (cutQ x3 ![1, 768, 0] inb_S2x1024x512_S1x256x512_1_768_0)) (k0_pay291 (k0_pay289 (s.a 7) (s.m 7)))) (k0_pay315 (k0_pay242 (cutK x4 (k0_off28 i) (k0_off28_inb i)) (cutQ x3 ![1, 768, 0] inb_S2x1024x512_S1x256x512_1_768_0)) (k0_pay291 (k0_pay289 (s.a 7) (s.m 7))) (k0_pay290 (k0_pay287 (s.a 7)) (k0_pay288 (s.m 7)) (k0_pay289 (s.a 7) (s.m 7)) (s.n 7) (cutV x5 (k0_off32 i) (k0_off32_inb i)))) (cutV x5 (k0_off36 i) (k0_off36_inb i)))]

/-- and the pieces stored into the result block, the last first. -/
def outL (i : grid0.Coords) (x3 : Vec F S2x1024x512 .bf16) (x4 : Vec F S1x4096x1024 .bf16) (x5 : Vec F S1x8x576x512 .bf16) (s : St F) : List (View.Piece (Elt F) S2x512x512 .bf16) :=
  [ ⟨Rect.unit (s := S2x512x512) ![1, 384, 0] S1x128x512.size inb_S2x512x512_S1x128x512_1_384_0, (k0_pay1 (k0_pay327 (top (k0_pay316 (k0_pay314 (k0_pay242 (cutK x4 (k0_off28 i) (k0_off28_inb i)) (cutQ x3 ![1, 768, 0] inb_S2x1024x512_S1x256x512_1_768_0)) (k0_pay291 (k0_pay289 (s.a 7) (s.m 7)))) (k0_pay315 (k0_pay242 (cutK x4 (k0_off28 i) (k0_off28_inb i)) (cutQ x3 ![1, 768, 0] inb_S2x1024x512_S1x256x512_1_768_0)) (k0_pay291 (k0_pay289 (s.a 7) (s.m 7))) (k0_pay290 (k0_pay287 (s.a 7)) (k0_pay288 (s.m 7)) (k0_pay289 (s.a 7) (s.m 7)) (s.n 7) (cutV x5 (k0_off32 i) (k0_off32_inb i)))) (cutV x5 (k0_off36 i) (k0_off36_inb i)))) (row (k0_pay316 (k0_pay314 (k0_pay242 (cutK x4 (k0_off28 i) (k0_off28_inb i)) (cutQ x3 ![1, 768, 0] inb_S2x1024x512_S1x256x512_1_768_0)) (k0_pay291 (k0_pay289 (s.a 7) (s.m 7)))) (k0_pay315 (k0_pay242 (cutK x4 (k0_off28 i) (k0_off28_inb i)) (cutQ x3 ![1, 768, 0] inb_S2x1024x512_S1x256x512_1_768_0)) (k0_pay291 (k0_pay289 (s.a 7) (s.m 7))) (k0_pay290 (k0_pay287 (s.a 7)) (k0_pay288 (s.m 7)) (k0_pay289 (s.a 7) (s.m 7)) (s.n 7) (cutV x5 (k0_off32 i) (k0_off32_inb i)))) (cutV x5 (k0_off36 i) (k0_off36_inb i))))))⟩,
    ⟨Rect.unit (s := S2x512x512) ![0, 384, 0] S1x128x512.size inb_S2x512x512_S1x128x512_0_384_0, (k0_pay326 (top (k0_pay285 (k0_pay279 (s.a 6)) k0_pay280 (k0_pay281 (F := F)) (s.m 6) (s.n 6) (cutV x5 (k0_off32 i) (k0_off32_inb i)))) (row (k0_pay285 (k0_pay279 (s.a 6)) k0_pay280 (k0_pay281 (F := F)) (s.m 6) (s.n 6) (cutV x5 (k0_off32 i) (k0_off32_inb i)))))⟩,
    ⟨Rect.unit (s := S2x512x512) ![1, 256, 0] S1x128x512.size inb_S2x512x512_S1x128x512_1_256_0, (k0_pay325 (top (k0_pay309 (k0_pay307 (k0_pay241 (k0_pay240 (cutK x4 (k0_off27 i) (k0_off27_inb i))) (cutQ x3 ![1, 512, 0] inb_S2x1024x512_S1x256x512_1_512_0)) (k0_pay278 (s.a 5) (s.m 5))) (k0_pay308 (k0_pay241 (k0_pay240 (cutK x4 (k0_off27 i) (k0_off27_inb i))) (cutQ x3 ![1, 512, 0] inb_S2x1024x512_S1x256x512_1_512_0)) (k0_pay278 (s.a 5) (s.m 5))) (k0_pay277 (s.a 5) (s.m 5) (s.n 5) (cutV x5 (k0_off31 i) (k0_off31_inb i))) (cutV x5 (k0_off35 i) (k0_off35_inb i)))) (row (k0_pay309 (k0_pay307 (k0_pay241 (k0_pay240 (cutK x4 (k0_off27 i) (k0_off27_inb i))) (cutQ x3 ![1, 512, 0] inb_S2x1024x512_S1x256x512_1_512_0)) (k0_pay278 (s.a 5) (s.m 5))) (k0_pay308 (k0_pay241 (k0_pay240 (cutK x4 (k0_off27 i) (k0_off27_inb i))) (cutQ x3 ![1, 512, 0] inb_S2x1024x512_S1x256x512_1_512_0)) (k0_pay278 (s.a 5) (s.m 5))) (k0_pay277 (s.a 5) (s.m 5) (s.n 5) (cutV x5 (k0_off31 i) (k0_off31_inb i))) (cutV x5 (k0_off35 i) (k0_off35_inb i)))))⟩,
    ⟨Rect.unit (s := S2x512x512) ![0, 256, 0] S1x128x512.size inb_S2x512x512_S1x128x512_0_256_0, (k0_pay324 (k0_pay323 (top (k0_pay272 (s.a 4) (s.m 4) (s.n 4) (cutV x5 (k0_off31 i) (k0_off31_inb i)))) (row (k0_pay272 (s.a 4) (s.m 4) (s.n 4) (cutV x5 (k0_off31 i) (k0_off31_inb i))))))⟩,
    ⟨Rect.unit (s := S2x512x512) ![1, 128, 0] S1x128x512.size inb_S2x512x512_S1x128x512_1_128_0, (k0_pay322 (top (k0_pay302 (k0_pay300 (s.b 3) (k0_pay268 (k0_pay266 (s.a 3) (s.m 3)))) (k0_pay301 (s.b 3) (k0_pay268 (k0_pay266 (s.a 3) (s.m 3)))) (k0_pay267 (s.a 3) (s.m 3) (s.n 3) (cutV x5 (k0_off30 i) (k0_off30_inb i))) (cutV x5 (k0_off34 i) (k0_off34_inb i)))) (row (k0_pay302 (k0_pay300 (s.b 3) (k0_pay268 (k0_pay266 (s.a 3) (s.m 3)))) (k0_pay301 (s.b 3) (k0_pay268 (k0_pay266 (s.a 3) (s.m 3)))) (k0_pay267 (s.a 3) (s.m 3) (s.n 3) (cutV x5 (k0_off30 i) (k0_off30_inb i))) (cutV x5 (k0_off34 i) (k0_off34_inb i)))))⟩,
    ⟨Rect.unit (s := S2x512x512) ![0, 128, 0] S1x128x512.size inb_S2x512x512_S1x128x512_0_128_0, (k0_pay321 (top (k0_pay262 (k0_pay261 (s.a 2) (s.m 2) (s.n 2) (cutV x5 (k0_off30 i) (k0_off30_inb i))))) (row (k0_pay262 (k0_pay261 (s.a 2) (s.m 2) (s.n 2) (cutV x5 (k0_off30 i) (k0_off30_inb i))))))⟩,
    ⟨Rect.unit (s := S2x512x512) ![1, 0, 0] S1x128x512.size inb_S2x512x512_S1x128x512_1_0_0, (k0_pay320 (k0_pay319 (top (k0_pay295 (k0_pay292 (s.b 1)) (k0_pay293 (k0_pay257 (k0_pay252 (s.a 1) (s.m 1)))) (k0_pay294 (s.b 1) (k0_pay257 (k0_pay252 (s.a 1) (s.m 1)))) (k0_pay256 (k0_pay253 (s.a 1) (s.m 1)) (k0_pay254 (s.a 1) (s.m 1) (s.n 1)) (k0_pay255 (cutV x5 (k0_off29 i) (k0_off29_inb i)))) (cutV x5 (k0_off33 i) (k0_off33_inb i)))) (row (k0_pay295 (k0_pay292 (s.b 1)) (k0_pay293 (k0_pay257 (k0_pay252 (s.a 1) (s.m 1)))) (k0_pay294 (s.b 1) (k0_pay257 (k0_pay252 (s.a 1) (s.m 1)))) (k0_pay256 (k0_pay253 (s.a 1) (s.m 1)) (k0_pay254 (s.a 1) (s.m 1) (s.n 1)) (k0_pay255 (cutV x5 (k0_off29 i) (k0_off29_inb i)))) (cutV x5 (k0_off33 i) (k0_off33_inb i))))))⟩,
    ⟨Rect.unit (s := S2x512x512) ![0, 0, 0] S1x128x512.size inb_S2x512x512_S1x128x512_0_0_0, (k0_pay318 (top (k0_pay248 (k0_pay246 (s.a 0) (s.m 0)) (k0_pay247 (s.a 0) (s.m 0)) (s.n 0) (cutV x5 (k0_off29 i) (k0_off29_inb i)))) (row (k0_pay248 (k0_pay246 (s.a 0) (s.m 0)) (k0_pay247 (s.a 0) (s.m 0)) (s.n 0) (cutV x5 (k0_off29 i) (k0_off29_inb i)))))⟩]

theorem trips_t1 (i : grid0.Coords) : (k0_t1_loop i).trips = (i 2).val := by
  have h : (i 2).val < 4 := (i 2).isLt
  have e : ∀ n : Fin 4, Scf.trips (0#32) (Scalar.addi (0#32) (Scalar.muli (Scalar.divsi (Scalar.subi (BitVec.ofNat 32 n.val) (0#32)) (1#32)) (1#32))) (1#32) = n.val := by decide +kernel
  exact e ⟨(i 2).val, h⟩

theorem trips_t2 (i : grid0.Coords) : (k0_t2_loop i).trips = 0 := by
  have h : (i 2).val < 4 := (i 2).isLt
  have e : ∀ n : Fin 4, Scf.trips (Scalar.addi (0#32) (Scalar.muli (Scalar.divsi (Scalar.subi (BitVec.ofNat 32 n.val) (0#32)) (1#32)) (1#32))) (Scalar.addi (0#32) (Scalar.subi (BitVec.ofNat 32 n.val) (0#32))) (1#32) = 0 := by decide +kernel
  exact e ⟨(i 2).val, h⟩

variable (c : Dev nD) (i : grid0.Coords) (arg3 : Memref sig .tc .vmem S2x1024x512 .bf16) (harg3 : arg3.IsWhole) (arg4 : Memref sig .tc .vmem S1x4096x1024 .bf16) (harg4 : arg4.IsWhole) (arg5 : Memref sig .tc .vmem S1x8x576x512 .bf16) (harg5 : arg5.IsWhole) (arg6 : Memref sig .tc .vmem S2x512x512 .bf16) (harg6 : arg6.IsWhole) (arg7 : Memref sig .tc .vmem S8x512x512 .f32) (harg7 : arg7.IsWhole) (arg8 : Memref sig .tc .vmem S8x512x512 .f32) (harg8 : arg8.IsWhole) (arg9 : Memref sig .tc .vmem S8x1x512 .f32) (harg9 : arg9.IsWhole) (arg10 : Memref sig .tc .vmem S8x144x512 .f32) (harg10 : arg10.IsWhole)

include arg3 harg3 arg4 harg4 arg5 harg5 arg6 harg6 arg7 harg7 arg8 harg8 arg9 harg9 arg10 harg10

/-- The loop over pairs of tiles. -/
theorem loop1 (x3 : Vec F S2x1024x512 .bf16) (x4 : Vec F S1x4096x1024 .bf16) (x5 : Vec F S1x8x576x512 .bf16) (w0 w1 w2 w3 : BitVec 32) (s : St F) (E : Set ℕ) (K : Unit → sProp 𝕄) :
    iprop((arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg7.view.loc (c : Thread nD τ) ↦[arg7.view.set]{fullShare} (harg7.unread (stk s.a))) ∗ (arg8.view.loc (c : Thread nD τ) ↦[arg8.view.set]{fullShare} (harg8.unread (stk s.b))) ∗ (arg9.view.loc (c : Thread nD τ) ↦[arg9.view.set]{fullShare} (harg9.unread (stk s.m))) ∗ (arg10.view.loc (c : Thread nD τ) ↦[arg10.view.set]{fullShare} (harg10.unread (stk s.n))) ∗ (iprop((arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg7.view.loc (c : Thread nD τ) ↦[arg7.view.set]{fullShare} (harg7.unread (stk (tripN i x3 x4 x5 s (k0_t1_loop i).trips).a))) ∗ (arg8.view.loc (c : Thread nD τ) ↦[arg8.view.set]{fullShare} (harg8.unread (stk (tripN i x3 x4 x5 s (k0_t1_loop i).trips).b))) ∗ (arg9.view.loc (c : Thread nD τ) ↦[arg9.view.set]{fullShare} (harg9.unread (stk (tripN i x3 x4 x5 s (k0_t1_loop i).trips).m))) ∗ (arg10.view.loc (c : Thread nD τ) ↦[arg10.view.set]{fullShare} (harg10.unread (stk (tripN i x3 x4 x5 s (k0_t1_loop i).trips).n)))) -∗ K ()))
    ⊢ wp frame (wpE (defs₀ (F := F)) Variants.none c none) E (Scf.Loop.for (k0_t1_loop i) (k0_t1_ok i) ⟨⟩ (k0_t1_body i arg3 harg3 arg4 harg4 arg5 harg5 arg6 harg6 arg7 harg7 arg8 harg8 arg9 harg9 arg10 harg10 w0 w1 w2 w3)) K := by
  have hb : ∀ (k : Fin (k0_t1_loop i).trips) (acc : Unit),
      (fun (k : ℕ) (_ : Unit) => (iprop((arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg7.view.loc (c : Thread nD τ) ↦[arg7.view.set]{fullShare} (harg7.unread (stk (tripN i x3 x4 x5 s k).a))) ∗ (arg8.view.loc (c : Thread nD τ) ↦[arg8.view.set]{fullShare} (harg8.unread (stk (tripN i x3 x4 x5 s k).b))) ∗ (arg9.view.loc (c : Thread nD τ) ↦[arg9.view.set]{fullShare} (harg9.unread (stk (tripN i x3 x4 x5 s k).m))) ∗ (arg10.view.loc (c : Thread nD τ) ↦[arg10.view.set]{fullShare} (harg10.unread (stk (tripN i x3 x4 x5 s k).n)))) : sProp 𝕄)) k acc ⊢ wp frame (wpE (defs₀ (F := F)) Variants.none c none) E (k0_t1_body i arg3 harg3 arg4 harg4 arg5 harg5 arg6 harg6 arg7 harg7 arg8 harg8 arg9 harg9 arg10 harg10 w0 w1 w2 w3 k acc) ((fun (k : ℕ) (_ : Unit) => (iprop((arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg7.view.loc (c : Thread nD τ) ↦[arg7.view.set]{fullShare} (harg7.unread (stk (tripN i x3 x4 x5 s k).a))) ∗ (arg8.view.loc (c : Thread nD τ) ↦[arg8.view.set]{fullShare} (harg8.unread (stk (tripN i x3 x4 x5 s k).b))) ∗ (arg9.view.loc (c : Thread nD τ) ↦[arg9.view.set]{fullShare} (harg9.unread (stk (tripN i x3 x4 x5 s k).m))) ∗ (arg10.view.loc (c : Thread nD τ) ↦[arg10.view.set]{fullShare} (harg10.unread (stk (tripN i x3 x4 x5 s k).n)))) : sProp 𝕄)) (k.val + 1)) := by
    intro k acc
    dsimp only
    rw [tripN_succ i x3 x4 x5 s k]
    iintro ⟨H3, H4, H5, H7, H8, H9, H10⟩
    iapply (trip c i arg3 harg3 arg4 harg4 arg5 harg5 arg6 harg6 arg7 harg7 arg8 harg8 arg9 harg9 arg10 harg10 x3 x4 x5 w0 w1 w2 w3 k (tripN i x3 x4 x5 s k.val) E _)
    isplitl [H3]; · iexact H3
    isplitl [H4]; · iexact H4
    isplitl [H5]; · iexact H5
    isplitl [H7]; · iexact H7
    isplitl [H8]; · iexact H8
    isplitl [H9]; · iexact H9
    isplitl [H10]; · iexact H10
    iintro H
    iexact H
  iintro ⟨H3, H4, H5, H7, H8, H9, H10, Hk⟩
  iapply (Scf.wp_for Idealize.ShloMosaic.frame (wpE (defs₀ (F := F)) Variants.none c none) E (k0_t1_loop i).lb (k0_t1_loop i).ub (k0_t1_loop i).st (k0_t1_ok i) () (k0_t1_body i arg3 harg3 arg4 harg4 arg5 harg5 arg6 harg6 arg7 harg7 arg8 harg8 arg9 harg9 arg10 harg10 w0 w1 w2 w3) (fun (k : ℕ) (_ : Unit) => (iprop((arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg7.view.loc (c : Thread nD τ) ↦[arg7.view.set]{fullShare} (harg7.unread (stk (tripN i x3 x4 x5 s k).a))) ∗ (arg8.view.loc (c : Thread nD τ) ↦[arg8.view.set]{fullShare} (harg8.unread (stk (tripN i x3 x4 x5 s k).b))) ∗ (arg9.view.loc (c : Thread nD τ) ↦[arg9.view.set]{fullShare} (harg9.unread (stk (tripN i x3 x4 x5 s k).m))) ∗ (arg10.view.loc (c : Thread nD τ) ↦[arg10.view.set]{fullShare} (harg10.unread (stk (tripN i x3 x4 x5 s k).n)))) : sProp 𝕄)) hb)
  isplitl [H3 H4 H5 H7 H8 H9 H10]
  · dsimp only [tripN]
    isplitl [H3]; · iexact H3
    isplitl [H4]; · iexact H4
    isplitl [H5]; · iexact H5
    isplitl [H7]; · iexact H7
    isplitl [H8]; · iexact H8
    isplitl [H9]; · iexact H9
    iexact H10
  · iintro %_ H
    iapply Hk
    iexact H

/-- The loop for what the pairs leave over has nothing to do. -/
theorem loop2 (w0 w1 w2 w3 w4 : BitVec 32) (E : Set ℕ) (K : Unit → sProp 𝕄) :
    K () ⊢ wp frame (wpE (defs₀ (F := F)) Variants.none c none) E (Scf.Loop.for (k0_t2_loop i) (k0_t2_ok i) ⟨⟩ (k0_t2_body i arg3 harg3 arg4 harg4 arg5 harg5 arg6 harg6 arg7 harg7 arg8 harg8 arg9 harg9 arg10 harg10 w0 w1 w2 w3 w4)) K := by
  have hb : ∀ (k : Fin (k0_t2_loop i).trips) (acc : Unit),
      (fun (_ : ℕ) (_ : Unit) => (K () : sProp 𝕄)) k acc ⊢ wp frame (wpE (defs₀ (F := F)) Variants.none c none) E (k0_t2_body i arg3 harg3 arg4 harg4 arg5 harg5 arg6 harg6 arg7 harg7 arg8 harg8 arg9 harg9 arg10 harg10 w0 w1 w2 w3 w4 k acc) ((fun (_ : ℕ) (_ : Unit) => (K () : sProp 𝕄)) (k.val + 1)) :=
    fun k => absurd k.isLt (by have := trips_t2 i; omega)
  iintro HP
  iapply (Scf.wp_for Idealize.ShloMosaic.frame (wpE (defs₀ (F := F)) Variants.none c none) E (k0_t2_loop i).lb (k0_t2_loop i).ub (k0_t2_loop i).st (k0_t2_ok i) () (k0_t2_body i arg3 harg3 arg4 harg4 arg5 harg5 arg6 harg6 arg7 harg7 arg8 harg8 arg9 harg9 arg10 harg10 w0 w1 w2 w3 w4) (fun (_ : ℕ) (_ : Unit) => (K () : sProp 𝕄)) hb)
  isplitl [HP]
  · iexact HP
  · iintro %_ H
    iexact H

set_option maxHeartbeats 1000000 in
theorem part40 (arg2 c0_i32_69 v81 c1_i32 : BitVec 32) (x3 : Vec F S2x1024x512 .bf16) (x4 : Vec F S1x4096x1024 .bf16) (x5 : Vec F S1x8x576x512 .bf16) (s : St F) (E : Set ℕ) (K : (Σ' (_ : BitVec 32), FVec F S512x256 .bf16) → sProp 𝕄) :
    iprop((arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg7.view.loc (c : Thread nD τ) ↦[arg7.view.set]{fullShare} (harg7.unread (stk s.a))) ∗ (arg8.view.loc (c : Thread nD τ) ↦[arg8.view.set]{fullShare} (harg8.unread (stk s.b))) ∗ (arg9.view.loc (c : Thread nD τ) ↦[arg9.view.set]{fullShare} (harg9.unread (stk s.m))) ∗ (arg10.view.loc (c : Thread nD τ) ↦[arg10.view.set]{fullShare} (harg10.unread (stk s.n))) ∗ (iprop((arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg7.view.loc (c : Thread nD τ) ↦[arg7.view.set]{fullShare} (harg7.unread (stk (oddSt i x3 x4 x5 (tripN i x3 x4 x5 s (k0_t1_loop i).trips)).a))) ∗ (arg8.view.loc (c : Thread nD τ) ↦[arg8.view.set]{fullShare} (harg8.unread (stk (oddSt i x3 x4 x5 (tripN i x3 x4 x5 s (k0_t1_loop i).trips)).b))) ∗ (arg9.view.loc (c : Thread nD τ) ↦[arg9.view.set]{fullShare} (harg9.unread (stk (oddSt i x3 x4 x5 (tripN i x3 x4 x5 s (k0_t1_loop i).trips)).m))) ∗ (arg10.view.loc (c : Thread nD τ) ↦[arg10.view.set]{fullShare} (harg10.unread (stk (oddSt i x3 x4 x5 (tripN i x3 x4 x5 s (k0_t1_loop i).trips)).n)))) -∗ K ⟨((Scalar.muli (Scalar.addi (Scalar.muli 2#32 arg2) 1#32) 512#32)), k0_pay240 (cutK x4 (k0_off27 i) (k0_off27_inb i))⟩))
    ⊢ wp frame (wpE (defs₀ (F := F)) Variants.none c none) E (k0_part40 i arg3 harg3 arg4 harg4 arg5 harg5 arg6 harg6 arg7 harg7 arg8 harg8 arg9 harg9 arg10 harg10 arg2 c0_i32_69 v81 c1_i32) K := by
  rw [k0_part40_eq_skeleton]; unfold k0_part40_skel
  iintro ⟨H3, H4, H5, H7, H8, H9, H10, Hk⟩
  try dsimp -proj only
  rw [wp_bind]
  iapply (loop1 c i arg3 harg3 arg4 harg4 arg5 harg5 arg6 harg6 arg7 harg7 arg8 harg8 arg9 harg9 arg10 harg10 x3 x4 x5 _ _ _ _ s E _)
  isplitl [H3]; · iexact H3
  isplitl [H4]; · iexact H4
  isplitl [H5]; · iexact H5
  isplitl [H7]; · iexact H7
  isplitl [H8]; · iexact H8
  isplitl [H9]; · iexact H9
  isplitl [H10]; · iexact H10
  iintro ⟨H3, H4, H5, H7, H8, H9, H10⟩
  rw [wp_bind]
  iapply (loop2 c i arg3 harg3 arg4 harg4 arg5 harg5 arg6 harg6 arg7 harg7 arg8 harg8 arg9 harg9 arg10 harg10 _ _ _ _ _ E _)
  generalize tripN i x3 x4 x5 s (k0_t1_loop i).trips = s'
  rw [stk_eta s'.b]
  sl_exec
  sl_step
  simp -proj only [wr2, readQ, readK, readV, wrFull9, wrFull10, rd_512_512_0, wr_512_512_0, rd_512_512_1, wr_512_512_1, rd_512_512_2, wr_512_512_2, rd_512_512_3, wr_512_512_3, rd_512_512_4, wr_512_512_4, rd_512_512_5, wr_512_512_5, rd_512_512_6, wr_512_512_6, rd_512_512_7, wr_512_512_7, rd_1_512_0, wr_1_512_0, rd_1_512_1, wr_1_512_1, rd_1_512_2, wr_1_512_2, rd_1_512_3, wr_1_512_3, rd_1_512_4, wr_1_512_4, rd_1_512_5, wr_1_512_5, rd_1_512_6, wr_1_512_6, rd_1_512_7, wr_1_512_7, rd_144_512_0, wr_144_512_0, rd_144_512_1, wr_144_512_1, rd_144_512_2, wr_144_512_2, rd_144_512_3, wr_144_512_3, rd_144_512_4, wr_144_512_4, rd_144_512_5, wr_144_512_5, rd_144_512_6, wr_144_512_6, rd_144_512_7, wr_144_512_7, rdTop_0, rdRow_0, rdTop_1, rdRow_1, rdTop_2, rdRow_2, rdTop_3, rdRow_3, rdTop_4, rdRow_4, rdTop_5, rdRow_5, rdTop_6, rdRow_6, rdTop_7, rdRow_7]
  iapply Hk
  isplitl [H3]; · iexact H3
  isplitl [H4]; · iexact H4
  isplitl [H5]; · iexact H5
  isplitl [H7]; · iexact H7
  isplitl [H8]; · iexact H8
  isplitl [H9]; · iexact H9
  iexact H10

end Cert.Attn

end
-- ==== Proof.Attn.Uni.lean ====
/- The states of the kernel's body, chain by chain: every chain does the same. -/
module

public import proofs.«01_k».proof.Proof.Attn.Loop

@[expose] public section

set_option maxRecDepth 16384

noncomputable section

namespace Cert.Attn

open Cert.KernelIdeal Cert.KernelIdeal.Gen
open Idealize.ShloMosaic Idealize.ShloMosaic.TcCoe

variable {F : FTy → Type} [FloatOps F]

/-- A tile of keys against a tile of queries. -/
def score (K : Vec F S1x512x256 .bf16) (Q : Vec F S1x256x512 .bf16) : Vec F S1x512x512 .f32 := k0_pay2 K Q

/-- The running maximum after a tile, -/
def mx (s : Vec F S1x512x512 .f32) (m : Vec F S1x1x512 .f32) : Vec F S1x1x512 .f32 := k0_pay25 (k0_pay21 s m)

/-- and the running sums. -/
def ac (s : Vec F S1x512x512 .f32) (m : Vec F S1x1x512 .f32) (n : Vec F S1x144x512 .f32) (V : Vec F S1x1x144x512 .bf16) : Vec F S1x144x512 .f32 :=
  k0_pay24 (k0_pay22 s m) (k0_pay23 s m n) V

/-- The running sums after a tile whose later keys are hidden. -/
def dac (s : Vec F S1x512x512 .f32) (m : Vec F S1x1x512 .f32) (n : Vec F S1x144x512 .f32) (V : Vec F S1x1x144x512 .bf16) : Vec F S1x144x512 .f32 :=
  k0_pay248 (k0_pay246 s m) (k0_pay247 s m) n V

/-- The sums divided by the sum of the weights. -/
def fo (n : Vec F S1x144x512 .f32) : Vec F S1x128x512 .bf16 := k0_pay318 (top n) (row n)

variable (i : grid0.Coords) (x3 : Vec F S2x1024x512 .bf16) (x4 : Vec F S1x4096x1024 .bf16) (x5 : Vec F S1x8x576x512 .bf16)

/-- The queries of each chain. -/
def qC : Fin 8 → Vec F S1x256x512 .bf16 := ![cutQ x3 ![0, 0, 0] inb_S2x1024x512_S1x256x512_0_0_0, cutQ x3 ![1, 0, 0] inb_S2x1024x512_S1x256x512_1_0_0,
  cutQ x3 ![0, 256, 0] inb_S2x1024x512_S1x256x512_0_256_0, cutQ x3 ![1, 256, 0] inb_S2x1024x512_S1x256x512_1_256_0,
  cutQ x3 ![0, 512, 0] inb_S2x1024x512_S1x256x512_0_512_0, cutQ x3 ![1, 512, 0] inb_S2x1024x512_S1x256x512_1_512_0,
  cutQ x3 ![0, 768, 0] inb_S2x1024x512_S1x256x512_0_768_0, cutQ x3 ![1, 768, 0] inb_S2x1024x512_S1x256x512_1_768_0]

/-- The first tile's keys of each head. -/
def kC0 : Fin 8 → Vec F S1x512x256 .bf16 := ![cutK x4 ![0, 0, 0] inb_S1x4096x1024_S1x512x256_0_0_0, cutK x4 ![0, 0, 0] inb_S1x4096x1024_S1x512x256_0_0_0,
  cutK x4 ![0, 0, 256] inb_S1x4096x1024_S1x512x256_0_0_256, cutK x4 ![0, 0, 256] inb_S1x4096x1024_S1x512x256_0_0_256,
  cutK x4 ![0, 0, 512] inb_S1x4096x1024_S1x512x256_0_0_512, cutK x4 ![0, 0, 512] inb_S1x4096x1024_S1x512x256_0_0_512,
  cutK x4 ![0, 0, 768] inb_S1x4096x1024_S1x512x256_0_0_768, cutK x4 ![0, 0, 768] inb_S1x4096x1024_S1x512x256_0_0_768]

/-- The keys of a trip's second tile, -/
def kC1 (t : Fin (k0_t1_loop i).trips) : Fin 8 → Vec F S1x512x256 .bf16 :=
  ![cutK x4 (k0_off1 i t 1#32) (k0_off1_inb i t 0), cutK x4 (k0_off1 i t 1#32) (k0_off1_inb i t 0),
    cutK x4 (k0_off2 i t 1#32) (k0_off2_inb i t 0), cutK x4 (k0_off2 i t 1#32) (k0_off2_inb i t 0),
    cutK x4 (k0_off3 i t 1#32) (k0_off3_inb i t 0), cutK x4 (k0_off3 i t 1#32) (k0_off3_inb i t 0),
    cutK x4 (k0_off4 i t 1#32) (k0_off4_inb i t 0), cutK x4 (k0_off4 i t 1#32) (k0_off4_inb i t 0)]

/-- and of the tile after it. -/
def kC2 (t : Fin (k0_t1_loop i).trips) : Fin 8 → Vec F S1x512x256 .bf16 :=
  ![cutK x4 (k0_off1 i t 2#32) (k0_off1_inb i t 1), cutK x4 (k0_off1 i t 2#32) (k0_off1_inb i t 1),
    cutK x4 (k0_off2 i t 2#32) (k0_off2_inb i t 1), cutK x4 (k0_off2 i t 2#32) (k0_off2_inb i t 1),
    cutK x4 (k0_off3 i t 2#32) (k0_off3_inb i t 1), cutK x4 (k0_off3 i t 2#32) (k0_off3_inb i t 1),
    cutK x4 (k0_off4 i t 2#32) (k0_off4_inb i t 1), cutK x4 (k0_off4 i t 2#32) (k0_off4_inb i t 1)]

/-- The values of a trip's two tiles. -/
def vC0 (t : Fin (k0_t1_loop i).trips) : Fin 8 → Vec F S1x1x144x512 .bf16 :=
  ![cutV x5 (k0_off5 i t) (k0_off5_inb i t), cutV x5 (k0_off5 i t) (k0_off5_inb i t), cutV x5 (k0_off6 i t) (k0_off6_inb i t), cutV x5 (k0_off6 i t) (k0_off6_inb i t),
    cutV x5 (k0_off7 i t) (k0_off7_inb i t), cutV x5 (k0_off7 i t) (k0_off7_inb i t), cutV x5 (k0_off8 i t) (k0_off8_inb i t), cutV x5 (k0_off8 i t) (k0_off8_inb i t)]

@[inherit_doc vC0]
def vC1 (t : Fin (k0_t1_loop i).trips) : Fin 8 → Vec F S1x1x144x512 .bf16 :=
  ![cutV x5 (k0_off9 i t) (k0_off9_inb i t), cutV x5 (k0_off9 i t) (k0_off9_inb i t), cutV x5 (k0_off10 i t) (k0_off10_inb i t), cutV x5 (k0_off10 i t) (k0_off10_inb i t),
    cutV x5 (k0_off11 i t) (k0_off11_inb i t), cutV x5 (k0_off11 i t) (k0_off11_inb i t), cutV x5 (k0_off12 i t) (k0_off12_inb i t), cutV x5 (k0_off12 i t) (k0_off12_inb i t)]

/-- The last tile's keys and the last two tiles' values. -/
def kL : Fin 4 → Vec F S1x512x256 .bf16 :=
  ![cutK x4 (k0_off25 i) (k0_off25_inb i), cutK x4 (k0_off26 i) (k0_off26_inb i), cutK x4 (k0_off27 i) (k0_off27_inb i), cutK x4 (k0_off28 i) (k0_off28_inb i)]
@[inherit_doc kL]
def vL0 : Fin 4 → Vec F S1x1x144x512 .bf16 :=
  ![cutV x5 (k0_off29 i) (k0_off29_inb i), cutV x5 (k0_off30 i) (k0_off30_inb i), cutV x5 (k0_off31 i) (k0_off31_inb i), cutV x5 (k0_off32 i) (k0_off32_inb i)]
@[inherit_doc kL]
def vL1 : Fin 4 → Vec F S1x1x144x512 .bf16 :=
  ![cutV x5 (k0_off33 i) (k0_off33_inb i), cutV x5 (k0_off34 i) (k0_off34_inb i), cutV x5 (k0_off35 i) (k0_off35_inb i), cutV x5 (k0_off36 i) (k0_off36_inb i)]

theorem ini_a (s : St F) (c : Fin 8) : (iniSt i x3 x4 x5 s).a c = score (kC0 x4 c) (qC x3 c) := by fin_cases c <;> rfl
theorem ini_m (s : St F) (c : Fin 8) : (iniSt i x3 x4 x5 s).m c = neg := by fin_cases c <;> rfl
theorem ini_n (s : St F) (c : Fin 8) : (iniSt i x3 x4 x5 s).n c = zer := by fin_cases c <;> rfl

theorem trip_a (t) (s : St F) (c : Fin 8) : (tripSt i x3 x4 x5 t s).a c = score (kC2 i x4 t c) (qC x3 c) := by fin_cases c <;> rfl
theorem trip_m (t) (s : St F) (c : Fin 8) : (tripSt i x3 x4 x5 t s).m c = mx (score (kC1 i x4 t c) (qC x3 c)) (mx (s.a c) (s.m c)) := by fin_cases c <;> rfl
theorem trip_n (t) (s : St F) (c : Fin 8) :
    (tripSt i x3 x4 x5 t s).n c = ac (score (kC1 i x4 t c) (qC x3 c)) (mx (s.a c) (s.m c)) (ac (s.a c) (s.m c) (s.n c) (vC0 i x5 t c)) (vC1 i x5 t c) := by
  fin_cases c <;> rfl

/-- The sums at the end of a chain whose last tile is the first of the pair, -/
def end0 (s : St F) (h : Fin 4) : Vec F S1x144x512 .f32 := dac (s.a ⟨2 * h.val, by omega⟩) (s.m ⟨2 * h.val, by omega⟩) (s.n ⟨2 * h.val, by omega⟩) (vL0 i x5 h)

/-- and the second. -/
def end1 (s : St F) (h : Fin 4) : Vec F S1x144x512 .f32 :=
  dac (score (kL i x4 h) (qC x3 ⟨2 * h.val + 1, by omega⟩)) (mx (s.a ⟨2 * h.val + 1, by omega⟩) (s.m ⟨2 * h.val + 1, by omega⟩))
    (ac (s.a ⟨2 * h.val + 1, by omega⟩) (s.m ⟨2 * h.val + 1, by omega⟩) (s.n ⟨2 * h.val + 1, by omega⟩) (vL0 i x5 h)) (vL1 i x5 h)

theorem outL_eq (s : St F) : outL i x3 x4 x5 (oddSt i x3 x4 x5 s) =
    [⟨Rect.unit (s := S2x512x512) ![1, 384, 0] S1x128x512.size inb_S2x512x512_S1x128x512_1_384_0, fo (end1 i x3 x4 x5 s 3)⟩,
     ⟨Rect.unit (s := S2x512x512) ![0, 384, 0] S1x128x512.size inb_S2x512x512_S1x128x512_0_384_0, fo (end0 i x5 s 3)⟩,
     ⟨Rect.unit (s := S2x512x512) ![1, 256, 0] S1x128x512.size inb_S2x512x512_S1x128x512_1_256_0, fo (end1 i x3 x4 x5 s 2)⟩,
     ⟨Rect.unit (s := S2x512x512) ![0, 256, 0] S1x128x512.size inb_S2x512x512_S1x128x512_0_256_0, fo (end0 i x5 s 2)⟩,
     ⟨Rect.unit (s := S2x512x512) ![1, 128, 0] S1x128x512.size inb_S2x512x512_S1x128x512_1_128_0, fo (end1 i x3 x4 x5 s 1)⟩,
     ⟨Rect.unit (s := S2x512x512) ![0, 128, 0] S1x128x512.size inb_S2x512x512_S1x128x512_0_128_0, fo (end0 i x5 s 1)⟩,
     ⟨Rect.unit (s := S2x512x512) ![1, 0, 0] S1x128x512.size inb_S2x512x512_S1x128x512_1_0_0, fo (end1 i x3 x4 x5 s 0)⟩,
     ⟨Rect.unit (s := S2x512x512) ![0, 0, 0] S1x128x512.size inb_S2x512x512_S1x128x512_0_0_0, fo (end0 i x5 s 0)⟩] := rfl

end Cert.Attn

end
-- ==== Proof.Attn.RunA.lean ====
/- The run of the attention kernel: what one point stores. -/
module

public import proofs.«01_k».proof.Proof.Attn.Uni
public import Idealize.ShloMosaic.Lib.Claim
public import Idealize.ShloMosaic.Lib.Pipeline.Value

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a point starts from, whatever its buffers held. -/
def z : St F := ⟨fun _ _ => Scalar.ofBits .f32 0#32, fun _ _ => Scalar.ofBits .f32 0#32, fun _ => neg, fun _ => zer⟩

theorem tripN_same (i : grid0.Coords) (x3 : Vec F S2x1024x512 .bf16) (x4 : Vec F S1x4096x1024 .bf16) (x5 : Vec F S1x8x576x512 .bf16) (s s' : St F) (ha : s.a = s'.a) (hm : s.m = s'.m) (hn : s.n = s'.n) (k : ℕ) :
    (tripN i x3 x4 x5 s k).a = (tripN i x3 x4 x5 s' k).a ∧ (tripN i x3 x4 x5 s k).m = (tripN i x3 x4 x5 s' k).m ∧ (tripN i x3 x4 x5 s k).n = (tripN i x3 x4 x5 s' k).n := by
  induction k with
  | zero => exact ⟨ha, hm, hn⟩
  | succ k ih =>
    simp only [tripN]
    split
    · generalize tripN i x3 x4 x5 s k = u at ih ⊢
      generalize tripN i x3 x4 x5 s' k = v at ih ⊢
      obtain ⟨h1, h2, h3⟩ := ih
      refine ⟨funext fun c => ?_, funext fun c => ?_, funext fun c => ?_⟩
      · rw [trip_a, trip_a]
      · rw [trip_m, trip_m, h1, h2]
      · rw [trip_n, trip_n, h1, h2, h3]
    · exact ih

theorem end0_same (i : grid0.Coords) (x5 : Vec F S1x8x576x512 .bf16) (s s' : St F) (ha : s.a = s'.a) (hm : s.m = s'.m) (hn : s.n = s'.n) (h : Fin 4) : end0 i x5 s h = end0 i x5 s' h := by
  unfold end0; rw [ha, hm, hn]

theorem end1_same (i : grid0.Coords) (x3 : Vec F S2x1024x512 .bf16) (x4 : Vec F S1x4096x1024 .bf16) (x5 : Vec F S1x8x576x512 .bf16) (s s' : St F) (ha : s.a = s'.a) (hm : s.m = s'.m) (hn : s.n = s'.n) (h : Fin 4) : end1 i x3 x4 x5 s h = end1 i x3 x4 x5 s' h := by
  unfold end1; rw [ha, hm, hn]

/-- The state before the last tiles. -/
def lastSt (i : grid0.Coords) (x3 : Vec F S2x1024x512 .bf16) (x4 : Vec F S1x4096x1024 .bf16) (x5 : Vec F S1x8x576x512 .bf16) : St F := tripN i x3 x4 x5 (iniSt i x3 x4 x5 z) (k0_t1_loop i).trips

/-- The block a point stores, in eight pieces. -/
def pieces (u0 u1 : Fin 4 → Vec F S1x128x512 .bf16) : List (View.Piece (Elt F) S2x512x512 .bf16) :=
    [⟨Rect.unit (s := S2x512x512) ![1, 384, 0] S1x128x512.size inb_S2x512x512_S1x128x512_1_384_0, u1 3⟩,
     ⟨Rect.unit (s := S2x512x512) ![0, 384, 0] S1x128x512.size inb_S2x512x512_S1x128x512_0_384_0, u0 3⟩,
     ⟨Rect.unit (s := S2x512x512) ![1, 256, 0] S1x128x512.size inb_S2x512x512_S1x128x512_1_256_0, u1 2⟩,
     ⟨Rect.unit (s := S2x512x512) ![0, 256, 0] S1x128x512.size inb_S2x512x512_S1x128x512_0_256_0, u0 2⟩,
     ⟨Rect.unit (s := S2x512x512) ![1, 128, 0] S1x128x512.size inb_S2x512x512_S1x128x512_1_128_0, u1 1⟩,
     ⟨Rect.unit (s := S2x512x512) ![0, 128, 0] S1x128x512.size inb_S2x512x512_S1x128x512_0_128_0, u0 1⟩,
     ⟨Rect.unit (s := S2x512x512) ![1, 0, 0] S1x128x512.size inb_S2x512x512_S1x128x512_1_0_0, u1 0⟩,
     ⟨Rect.unit (s := S2x512x512) ![0, 0, 0] S1x128x512.size inb_S2x512x512_S1x128x512_0_0_0, u0 0⟩]

/-- The pieces a point stores, whatever its buffers held. -/
def pcs (i : grid0.Coords) (x3 : Vec F S2x1024x512 .bf16) (x4 : Vec F S1x4096x1024 .bf16) (x5 : Vec F S1x8x576x512 .bf16) : List (View.Piece (Elt F) S2x512x512 .bf16) :=
  pieces (fun h => fo (end0 i x5 (lastSt i x3 x4 x5) h)) (fun h => fo (end1 i x3 x4 x5 (lastSt i x3 x4 x5) h))

theorem pcs_eq (i : grid0.Coords) (x3 : Vec F S2x1024x512 .bf16) (x4 : Vec F S1x4096x1024 .bf16) (x5 : Vec F S1x8x576x512 .bf16) (s : St F) :
    outL i x3 x4 x5 (oddSt i x3 x4 x5 (tripN i x3 x4 x5 (iniSt i x3 x4 x5 s) (k0_t1_loop i).trips)) = pcs i x3 x4 x5 := by
  rw [outL_eq]
  obtain ⟨h1, h2, h3⟩ := tripN_same i x3 x4 x5 (iniSt i x3 x4 x5 s) (iniSt i x3 x4 x5 z) (funext fun c => by rw [ini_a, ini_a])
    (funext fun c => by rw [ini_m, ini_m]) (funext fun c => by rw [ini_n, ini_n]) (k0_t1_loop i).trips
  unfold pcs pieces
  simp only [end0_same i x5 _ (lastSt i x3 x4 x5) h1 h2 h3, end1_same i x3 x4 x5 _ (lastSt i x3 x4 x5) h1 h2 h3]

/-- The pieces cover the block. -/
theorem cover_pieces (u0 u1 : Fin 4 → Vec F S1x128x512 .bf16) (y : S2x512x512.Idx) : ∃ pc ∈ pieces u0 u1, y ∈ pc.1.set :=
  View.cover_of_tiledL (pieces u0 u1) S1x128x512.size (by sl_kernel_rfl) y

theorem cover (i : grid0.Coords) (x3 : Vec F S2x1024x512 .bf16) (x4 : Vec F S1x4096x1024 .bf16) (x5 : Vec F S1x8x576x512 .bf16) (y : S2x512x512.Idx) : ∃ pc ∈ pcs i x3 x4 x5, y ∈ pc.1.set := cover_pieces _ _ y

/-- What a point leaves in its result block. -/
def out (i : grid0.Coords) (x3 : Vec F S2x1024x512 .bf16) (x4 : Vec F S1x4096x1024 .bf16) (x5 : Vec F S1x8x576x512 .bf16) : Vec F S2x512x512 .bf16 :=
  VO0_3.read (Elt F) (VO0_3.writes (Elt F) VO0_3.junk (pcs i x3 x4 x5))

end Cert.Attn

end
-- ==== Proof.Attn.Body.lean ====
/- The whole body of the kernel: what it leaves in its result block. -/
module

public import proofs.«01_k».proof.Proof.Attn.Loop

@[expose] public section

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S2x1024x512 .bf16) (harg3 : arg3.IsWhole) (arg4 : Memref sig .tc .vmem S1x4096x1024 .bf16) (harg4 : arg4.IsWhole) (arg5 : Memref sig .tc .vmem S1x8x576x512 .bf16) (harg5 : arg5.IsWhole) (arg6 : Memref sig .tc .vmem S2x512x512 .bf16) (harg6 : arg6.IsWhole) (arg7 : Memref sig .tc .vmem S8x512x512 .f32) (harg7 : arg7.IsWhole) (arg8 : Memref sig .tc .vmem S8x512x512 .f32) (harg8 : arg8.IsWhole) (arg9 : Memref sig .tc .vmem S8x1x512 .f32) (harg9 : arg9.IsWhole) (arg10 : Memref sig .tc .vmem S8x144x512 .f32) (harg10 : arg10.IsWhole)

include arg3 harg3 arg4 harg4 arg5 harg5 arg6 harg6 arg7 harg7 arg8 harg8 arg9 harg9 arg10 harg10

set_option maxHeartbeats 4000000 in
theorem body (x3 : Vec F S2x1024x512 .bf16) (x4 : Vec F S1x4096x1024 .bf16) (x5 : Vec F S1x8x576x512 .bf16) (s : St F) (f6 : BufTy.Contents (Elt F) arg6.view.ty) (E : Set ℕ) (K : PUnit → sProp 𝕄) :
    iprop((arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg6.view.loc (c : Thread nD τ) ↦[arg6.view.set]{fullShare} (arg6.view.writes (Elt F) f6 [])) ∗ (arg7.view.loc (c : Thread nD τ) ↦[arg7.view.set]{fullShare} (harg7.unread (stk s.a))) ∗ (arg8.view.loc (c : Thread nD τ) ↦[arg8.view.set]{fullShare} (harg8.unread (stk s.b))) ∗ (arg9.view.loc (c : Thread nD τ) ↦[arg9.view.set]{fullShare} (harg9.unread (stk s.m))) ∗ (arg10.view.loc (c : Thread nD τ) ↦[arg10.view.set]{fullShare} (harg10.unread (stk s.n))) ∗ (iprop((arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg6.view.loc (c : Thread nD τ) ↦[arg6.view.set]{fullShare} (arg6.view.writes (Elt F) f6 (outL i x3 x4 x5 (oddSt i x3 x4 x5 (tripN i x3 x4 x5 (iniSt i x3 x4 x5 s) (k0_t1_loop i).trips))))) ∗ (arg7.view.loc (c : Thread nD τ) ↦[arg7.view.set]{fullShare} (harg7.unread (stk (finSt i x3 x4 x5 (oddSt i x3 x4 x5 (tripN i x3 x4 x5 (iniSt i x3 x4 x5 s) (k0_t1_loop i).trips))).a))) ∗ (arg8.view.loc (c : Thread nD τ) ↦[arg8.view.set]{fullShare} (harg8.unread (stk (finSt i x3 x4 x5 (oddSt i x3 x4 x5 (tripN i x3 x4 x5 (iniSt i x3 x4 x5 s) (k0_t1_loop i).trips))).b))) ∗ (arg9.view.loc (c : Thread nD τ) ↦[arg9.view.set]{fullShare} (harg9.unread (stk (finSt i x3 x4 x5 (oddSt i x3 x4 x5 (tripN i x3 x4 x5 (iniSt i x3 x4 x5 s) (k0_t1_loop i).trips))).m))) ∗ (arg10.view.loc (c : Thread nD τ) ↦[arg10.view.set]{fullShare} (harg10.unread (stk (finSt i x3 x4 x5 (oddSt i x3 x4 x5 (tripN i x3 x4 x5 (iniSt i x3 x4 x5 s) (k0_t1_loop i).trips))).n)))) -∗ K ⟨⟩))
    ⊢ wp frame (wpE (defs₀ (F := F)) Variants.none c none) E (cc0_mla i arg3 harg3 arg4 harg4 arg5 harg5 arg6 harg6 arg7 harg7 arg8 harg8 arg9 harg9 arg10 harg10) K := by
  rw [cc0_mla_eq_skeleton]; unfold cc0_mla_skel
  rw [stk_eta s.a, stk_eta s.m, stk_eta s.n]
  iintro ⟨H3, H4, H5, H6, H7, H8, H9, H10, Hk⟩
  try dsimp -proj only
  rw [wp_bind]
  iapply (part37 c i arg3 harg3 arg4 harg4 arg5 harg5 arg6 harg6 arg7 harg7 arg8 harg8 arg9 harg9 arg10 harg10 _ _ _ _ _ _ _ _ _ _ _ _ _ _ _ _ _ _ _ _ _ _ _ _ _ _ E _)
  isplitl [H3]; · iexact H3
  isplitl [H4]; · iexact H4
  isplitl [H7]; · iexact H7
  isplitl [H9]; · iexact H9
  isplitl [H10]; · iexact H10
  iintro ⟨H3, H4, H7, H9, H10⟩
  try dsimp -proj only [fst_mk, snd_mk]
  rw [wp_bind]
  iapply (part38 c i arg3 harg3 arg4 harg4 arg5 harg5 arg6 harg6 arg7 harg7 arg8 harg8 arg9 harg9 arg10 harg10 _ _ _ _ _ _ _ _ _ _ _ _ E _)
  isplitl [H3]; · iexact H3
  isplitl [H4]; · iexact H4
  isplitl [H7]; · iexact H7
  iintro ⟨H3, H4, H7⟩
  try dsimp -proj only [fst_mk, snd_mk]
  rw [wp_bind]
  iapply (part39 c i arg3 harg3 arg4 harg4 arg5 harg5 arg6 harg6 arg7 harg7 arg8 harg8 arg9 harg9 arg10 harg10 _ _ _ _ _ _ _ _ _ _ _ _ E _)
  isplitl [H3]; · iexact H3
  isplitl [H4]; · iexact H4
  isplitl [H7]; · iexact H7
  iintro ⟨H3, H4, H7⟩
  try dsimp -proj only [fst_mk, snd_mk]
  rw [wp_bind]
  iapply (part40 c i arg3 harg3 arg4 harg4 arg5 harg5 arg6 harg6 arg7 harg7 arg8 harg8 arg9 harg9 arg10 harg10 _ _ _ _ x3 x4 x5 (iniSt i x3 x4 x5 s) E _)
  isplitl [H3]; · iexact H3
  isplitl [H4]; · iexact H4
  isplitl [H5]; · iexact H5
  isplitl [H7]; · iexact H7
  isplitl [H8]; · iexact H8
  isplitl [H9]; · iexact H9
  isplitl [H10]; · iexact H10
  iintro ⟨H3, H4, H5, H7, H8, H9, H10⟩
  try dsimp -proj only [fst_mk, snd_mk]
  generalize (oddSt i x3 x4 x5 (tripN i x3 x4 x5 (iniSt i x3 x4 x5 s) (k0_t1_loop i).trips)) = s'
  rw [stk_eta s'.a, stk_eta s'.b, stk_eta s'.m, stk_eta s'.n]
  rw [wp_bind]
  iapply (part41 c i arg3 harg3 arg4 harg4 arg5 harg5 arg6 harg6 arg7 harg7 arg8 harg8 arg9 harg9 arg10 harg10 _ _ _ _ _ _ _ _ _ _ _ _ _ _ _ _ _ _ _ _ _ _ _ _ _ _ _ _ _ E _)
  isplitl [H3]; · iexact H3
  isplitl [H4]; · iexact H4
  isplitl [H7]; · iexact H7
  isplitl [H8]; · iexact H8
  isplitl [H9]; · iexact H9
  iintro ⟨H3, H4, H7, H8, H9⟩
  try dsimp -proj only [fst_mk, snd_mk]
  rw [wp_bind]
  iapply (part42 c i arg3 harg3 arg4 harg4 arg5 harg5 arg6 harg6 arg7 harg7 arg8 harg8 arg9 harg9 arg10 harg10 _ _ _ _ _ _ _ _ _ _ _ _ _ _ _ _ _ _ _ _ _ _ _ _ _ _ _ _ _ E _)
  isplitl [H5]; · iexact H5
  isplitl [H7]; · iexact H7
  isplitl [H9]; · iexact H9
  isplitl [H10]; · iexact H10
  iintro ⟨H5, H7, H9, H10⟩
  try dsimp -proj only [fst_mk, snd_mk]
  rw [wp_bind]
  iapply (part43 c i arg3 harg3 arg4 harg4 arg5 harg5 arg6 harg6 arg7 harg7 arg8 harg8 arg9 harg9 arg10 harg10 _ _ _ _ _ _ _ _ _ _ _ _ _ _ _ _ _ _ _ _ _ _ _ _ _ _ _ _ _ _ E _)
  isplitl [H5]; · iexact H5
  isplitl [H7]; · iexact H7
  isplitl [H9]; · iexact H9
  isplitl [H10]; · iexact H10
  iintro ⟨H5, H7, H9, H10⟩
  try dsimp -proj only [fst_mk, snd_mk]
  rw [wp_bind]
  iapply (part44 c i arg3 harg3 arg4 harg4 arg5 harg5 arg6 harg6 arg7 harg7 arg8 harg8 arg9 harg9 arg10 harg10 _ _ _ _ _ _ _ _ _ _ _ _ _ _ _ _ _ _ _ _ _ _ _ _ _ _ _ _ E _)
  isplitl [H5]; · iexact H5
  isplitl [H7]; · iexact H7
  isplitl [H9]; · iexact H9
  isplitl [H10]; · iexact H10
  iintro ⟨H5, H7, H9, H10⟩
  try dsimp -proj only [fst_mk, snd_mk]
  rw [wp_bind]
  iapply (part45 c i arg3 harg3 arg4 harg4 arg5 harg5 arg6 harg6 arg7 harg7 arg8 harg8 arg9 harg9 arg10 harg10 _ _ _ _ _ _ _ _ _ _ _ _ _ _ _ _ _ _ _ _ _ _ _ _ _ _ _ E _)
  isplitl [H5]; · iexact H5
  isplitl [H7]; · iexact H7
  isplitl [H9]; · iexact H9
  isplitl [H10]; · iexact H10
  iintro ⟨H5, H7, H9, H10⟩
  try dsimp -proj only [fst_mk, snd_mk]
  rw [wp_bind]
  iapply (part46 c i arg3 harg3 arg4 harg4 arg5 harg5 arg6 harg6 arg7 harg7 arg8 harg8 arg9 harg9 arg10 harg10 _ _ _ _ _ _ _ _ _ _ _ _ _ _ _ _ _ _ _ _ _ _ _ _ _ _ E _)
  isplitl [H5]; · iexact H5
  isplitl [H7]; · iexact H7
  isplitl [H9]; · iexact H9
  isplitl [H10]; · iexact H10
  iintro ⟨H5, H7, H9, H10⟩
  try dsimp -proj only [fst_mk, snd_mk]
  rw [wp_bind]
  iapply (part47 c i arg3 harg3 arg4 harg4 arg5 harg5 arg6 harg6 arg7 harg7 arg8 harg8 arg9 harg9 arg10 harg10 _ _ _ _ _ _ _ _ _ _ _ _ _ _ _ _ _ _ _ _ _ _ _ _ _ _ _ _ _ E _)
  isplitl [H5]; · iexact H5
  isplitl [H7]; · iexact H7
  isplitl [H9]; · iexact H9
  isplitl [H10]; · iexact H10
  iintro ⟨H5, H7, H9, H10⟩
  try dsimp -proj only [fst_mk, snd_mk]
  rw [wp_bind]
  iapply (part48 c i arg3 harg3 arg4 harg4 arg5 harg5 arg6 harg6 arg7 harg7 arg8 harg8 arg9 harg9 arg10 harg10 _ _ _ _ _ _ _ _ _ _ _ _ _ _ _ _ _ _ _ _ _ _ _ _ _ _ _ _ _ _ E _)
  isplitl [H5]; · iexact H5
  isplitl [H8]; · iexact H8
  isplitl [H9]; · iexact H9
  isplitl [H10]; · iexact H10
  iintro ⟨H5, H8, H9, H10⟩
  try dsimp -proj only [fst_mk, snd_mk]
  rw [wp_bind]
  iapply (part49 c i arg3 harg3 arg4 harg4 arg5 harg5 arg6 harg6 arg7 harg7 arg8 harg8 arg9 harg9 arg10 harg10 _ _ _ _ _ _ _ _ _ _ _ _ _ _ _ _ _ _ _ _ _ _ _ _ _ _ _ _ _ E _)
  isplitl [H5]; · iexact H5
  isplitl [H8]; · iexact H8
  isplitl [H9]; · iexact H9
  isplitl [H10]; · iexact H10
  iintro ⟨H5, H8, H9, H10⟩
  try dsimp -proj only [fst_mk, snd_mk]
  rw [wp_bind]
  iapply (part50 c i arg3 harg3 arg4 harg4 arg5 harg5 arg6 harg6 arg7 harg7 arg8 harg8 arg9 harg9 arg10 harg10 _ _ _ _ _ _ _ _ _ _ _ _ _ _ _ _ _ _ _ _ _ _ _ _ _ _ _ _ _ E _)
  isplitl [H5]; · iexact H5
  isplitl [H8]; · iexact H8
  isplitl [H9]; · iexact H9
  isplitl [H10]; · iexact H10
  iintro ⟨H5, H8, H9, H10⟩
  try dsimp -proj only [fst_mk, snd_mk]
  rw [wp_bind]
  iapply (part51 c i arg3 harg3 arg4 harg4 arg5 harg5 arg6 harg6 arg7 harg7 arg8 harg8 arg9 harg9 arg10 harg10 _ _ _ _ _ _ _ _ _ _ _ _ _ _ _ _ _ _ _ _ _ _ _ _ _ _ _ _ _ E _)
  isplitl [H5]; · iexact H5
  isplitl [H8]; · iexact H8
  isplitl [H9]; · iexact H9
  isplitl [H10]; · iexact H10
  iintro ⟨H5, H8, H9, H10⟩
  try dsimp -proj only [fst_mk, snd_mk]
  rw [wp_bind]
  iapply (part52 c i arg3 harg3 arg4 harg4 arg5 harg5 arg6 harg6 arg7 harg7 arg8 harg8 arg9 harg9 arg10 harg10 _ _ _ _ _ _ _ _ _ _ _ _ _ _ _ _ _ _ _ _ _ _ _ E _)
  isplitl [H5]; · iexact H5
  isplitl [H6]; · iexact H6
  isplitl [H9]; · iexact H9
  isplitl [H10]; · iexact H10
  iintro ⟨H5, H6, H9, H10⟩
  try dsimp -proj only [fst_mk, snd_mk]
  rw [wp_bind]
  iapply (part53 c i arg3 harg3 arg4 harg4 arg5 harg5 arg6 harg6 arg7 harg7 arg8 harg8 arg9 harg9 arg10 harg10 _ _ _ _ _ _ _ _ _ _ _ E _)
  isplitl [H6]; · iexact H6
  isplitl [H10]; · iexact H10
  iintro ⟨H6, H10⟩
  try dsimp -proj only [fst_mk, snd_mk]
  rw [wp_bind]
  iapply (part54 c i arg3 harg3 arg4 harg4 arg5 harg5 arg6 harg6 arg7 harg7 arg8 harg8 arg9 harg9 arg10 harg10 _ _ _ _ _ _ _ _ _ _ _ E _)
  isplitl [H6]; · iexact H6
  isplitl [H10]; · iexact H10
  iintro ⟨H6, H10⟩
  try dsimp -proj only [fst_mk, snd_mk]
  sl_exec
  simp -proj only [wr2, readQ, readK, readV, wrFull9, wrFull10, rd_512_512_0, wr_512_512_0, rd_512_512_1, wr_512_512_1, rd_512_512_2, wr_512_512_2, rd_512_512_3, wr_512_512_3, rd_512_512_4, wr_512_512_4, rd_512_512_5, wr_512_512_5, rd_512_512_6, wr_512_512_6, rd_512_512_7, wr_512_512_7, rd_1_512_0, wr_1_512_0, rd_1_512_1, wr_1_512_1, rd_1_512_2, wr_1_512_2, rd_1_512_3, wr_1_512_3, rd_1_512_4, wr_1_512_4, rd_1_512_5, wr_1_512_5, rd_1_512_6, wr_1_512_6, rd_1_512_7, wr_1_512_7, rd_144_512_0, wr_144_512_0, rd_144_512_1, wr_144_512_1, rd_144_512_2, wr_144_512_2, rd_144_512_3, wr_144_512_3, rd_144_512_4, wr_144_512_4, rd_144_512_5, wr_144_512_5, rd_144_512_6, wr_144_512_6, rd_144_512_7, wr_144_512_7, rdTop_0, rdRow_0, rdTop_1, rdRow_1, rdTop_2, rdRow_2, rdTop_3, rdRow_3, rdTop_4, rdRow_4, rdTop_5, rdRow_5, rdTop_6, rdRow_6, rdTop_7, rdRow_7]
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Attn

end
-- ==== Proof.Attn.RunC.lean ====
/- The run of the attention kernel: what one point stores. -/
module

public import proofs.«01_k».proof.Proof.Attn.RunA
public import proofs.«01_k».proof.Proof.Attn.Body
public import Idealize.ShloMosaic.Lib.Claim
public import Idealize.ShloMosaic.Lib.Pipeline.Value

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every array of eight blocks is a stack. -/
theorem as_stk {a b : ℕ} {e : EltTy} (X : Vec F ⟨3, ![8, a, b]⟩ e) : ∃ M : Fin 8 → Vec F ⟨3, ![1, a, b]⟩ e, X = stk M := by
  obtain ⟨m0, m1, m2, m3, m4, m5, m6, m7, h⟩ := exists_stk X
  exact ⟨![m0, m1, m2, m3, m4, m5, m6, m7], h⟩

set_option maxHeartbeats 1600000 in
/-- The body on its buffers: the result block ends holding the pieces, the scratch anything. -/
theorem body_run (c : Dev nD) (i : grid0.Coords) (arg3 : Memref sig .tc .vmem S2x1024x512 .bf16) (harg3 : arg3.IsWhole) (arg4 : Memref sig .tc .vmem S1x4096x1024 .bf16) (harg4 : arg4.IsWhole) (arg5 : Memref sig .tc .vmem S1x8x576x512 .bf16) (harg5 : arg5.IsWhole) (arg6 : Memref sig .tc .vmem S2x512x512 .bf16) (harg6 : arg6.IsWhole) (arg7 : Memref sig .tc .vmem S8x512x512 .f32) (harg7 : arg7.IsWhole) (arg8 : Memref sig .tc .vmem S8x512x512 .f32) (harg8 : arg8.IsWhole) (arg9 : Memref sig .tc .vmem S8x1x512 .f32) (harg9 : arg9.IsWhole) (arg10 : Memref sig .tc .vmem S8x144x512 .f32) (harg10 : arg10.IsWhole)
    (x3 : Vec F S2x1024x512 .bf16) (x4 : Vec F S1x4096x1024 .bf16) (x5 : Vec F S1x8x576x512 .bf16) (E : Set ℕ) (K : PUnit → sProp 𝕄) :
    iprop(owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f (pcs i x3 x4 x5)) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_mla i arg3 harg3 arg4 harg4 arg5 harg5 arg6 harg6 arg7 harg7 arg8 harg8 arg9 harg9 arg10 harg10) K := by
  unfold owns
  iintro ⟨⟨%f3, %hf3, H3⟩, ⟨%f4, %hf4, H4⟩, ⟨%f5, %hf5, H5⟩, ⟨%d6, %f6, -, H6⟩, ⟨%d7, %f7, %hf7, H7⟩, ⟨%d8, %f8, %hf8, H8⟩, ⟨%d9, %f9, %hf9, H9⟩, ⟨%d10, %f10, %hf10, H10⟩, Hk⟩
  obtain rfl := harg3.eq_unread hf3; obtain rfl := harg4.eq_unread hf4; obtain rfl := harg5.eq_unread hf5
  obtain rfl := harg7.eq_unread hf7; obtain rfl := harg8.eq_unread hf8; obtain rfl := harg9.eq_unread hf9; obtain rfl := harg10.eq_unread hf10
  obtain ⟨M7, rfl⟩ := as_stk d7
  obtain ⟨M8, rfl⟩ := as_stk d8
  obtain ⟨M9, rfl⟩ := as_stk d9
  obtain ⟨M10, rfl⟩ := as_stk d10
  iapply (body c i arg3 harg3 arg4 harg4 arg5 harg5 arg6 harg6 arg7 harg7 arg8 harg8 arg9 harg9 arg10 harg10 x3 x4 x5 (⟨M7, M8, M9, M10⟩ : St F) f6 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  rw [pcs_eq]
  iintro ⟨H3, H4, H5, H6, H7, H8, H9, H10⟩
  iapply Hk
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; iexact H6
  isplitl [H7]
  · iexists _; iexists _; isplitr
    swap; · iexact H7
    ipureintro; exact harg7.read_unread _
  isplitl [H8]
  · iexists _; iexists _; isplitr
    swap; · iexact H8
    ipureintro; exact harg8.read_unread _
  isplitl [H9]
  · iexists _; iexists _; isplitr
    swap; · iexact H9
    ipureintro; exact harg9.read_unread _
  iexists _; iexists _; isplitr
  swap; · iexact H10
  ipureintro; exact harg10.read_unread _

end Cert.Attn

end
-- ==== Proof.Attn.RunD.lean ====
/- The run of the attention kernel: what one point stores. -/
module

public import proofs.«01_k».proof.Proof.Attn.RunC
public import Idealize.ShloMosaic.Lib.Claim
public import Idealize.ShloMosaic.Lib.Pipeline.Value

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the result's staging buffer holds after point `t`. -/
def outsAt0 (c : Dev nD) (t : Fin cfg0.N) : Vec F S2x512x512 .bf16 :=
  out (grid0.coords t) (iblk m c 0 t) (iblk m c 1 t) (iblk m c 2 t)

/-- The data of the pipeline: the arrays it starts from and what each point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  unfold out
  iintro ⟨⟨⟨HS0, HS1, HS2, HS3⟩, Hg⟩, Ho, ⟨%d0, H0⟩, ⟨%d1, H1⟩, ⟨%d2, H2⟩, ⟨%d3, H3⟩⟩
  iapply (body_run c (grid0.coords t) _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, ⟨%e3, H3⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole run. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The run ends with the arguments unchanged and no counter left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- What a point writes back. -/
theorem flushed3 (c : Dev nD) (t : Fin cfg0.N) :
    (dats m 0 c).flushed 3 t = (cfg0.win 3).cut (grid0.coords t) (outsAt0 m c t) := by
  show (cfg0.win 3).cut (grid0.coords t) ((dats m 0 c).after 3 t) = _
  rw [after0_3]

theorem idx_inj3 : ∀ t t' : Fin cfg0.N, win0_3.index t = win0_3.index t' → t = t' :=
  (by decide +kernel : ∀ t t' : Fin grid0.N, win0_3.index t = win0_3.index t' → t = t')

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- Block by block, the final array is what the points wrote back. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

theorem entry3 (c : Dev nD) (i : S64x1024x512.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

theorem post3 (r : PUnit × MemSt nD τ sig (Elt F)) (h : Pipeline.FramePost cfgs (dats m) 0 (V m) r) (c : Dev nD) :
    r.2.mem ((c : Thread nD τ).loc main_v30) = (dats m 0 c).arrAt 3 cfg0.N :=
  (h c).1 3

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run with the result array named. -/
theorem run_blocks : θ_run defs (onTc (τ := τ) (main (F := F))) ⟨m, fun _ => 0, ρ⟩ fun r => ∀ c : Dev nD,
      r.2.mem ((c : Thread nD τ).loc main_v30) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post3 m r h c,
      kept_main_arg0 m r h c,
      kept_main_arg1 m r h c,
      kept_main_arg2 m r h c,
      kept_main_arg3 m r h c,
      kept_main_arg4 m r h c⟩)
    (run_main m ρ)

end Cert.Attn

end
-- ==== Proof.Attn.FrameP.lean ====
/- The frame of the printed attention program, taken from the run of its idealized form: the two have one text, and that
   run holds at any floats. -/
module

public import proofs.«01_k».proof.Proof.Attn.RunD
public import proofs.«01_k».proof.Proof.Gen.Kernel
public import proofs.«01_k».proof.Defs

@[expose] public section

set_option maxRecDepth 65536

noncomputable section

namespace Cert.AttnFrameP

open Idealize.ShloMosaic Idealize.SL.Sem

variable {F : FTy → Type} [FloatOps F]

-- the bodies are compared statement by statement, which goes past the default budget
set_option maxHeartbeats 4000000

/-- The body tables of the two programs are one: their only label runs the same body. -/
theorem defs₀_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => funext fun x => ?_)
  match l, x with
  | 0, (t, s) => rfl
  | ⟨n + 1, h⟩, _ => exact absurd h (Nat.not_lt.2 (Nat.le_add_left _ _))

/-- So are the tables with the pipeline around the body. -/
theorem defs_eq : @Cert.Kernel.defs F _ Cert.Kernel.Gen.facts = @Cert.KernelIdeal.defs F _ Cert.KernelIdeal.Gen.facts :=
  congrArg (Pipeline.defs Cert.KernelIdeal.pcfgs) defs₀_eq

/-- The printed program runs to its end, keeps its arguments and leaves its counters at zero. -/
theorem frame : Cert.quiescent_Kernel := fun m ρ _ => by
  rw [show Cert.Kernel.defs (F := Bits) = _ from defs_eq]
  exact Cert.Attn.frame (F := Bits) m ρ

end Cert.AttnFrameP

end
-- ==== Proof.Attn.At.lean ====
module

public import proofs.«01_k».proof.Proof.Attn.RunA
public import Idealize.ShloMosaic.Lib.Pointwise

/-! Entries of what the kernel's steps compute and of what they load. -/

@[expose] public section
set_option maxRecDepth 65536
noncomputable section
namespace Cert.Attn
open Cert.KernelIdeal Cert.KernelIdeal.Gen Idealize.ShloMosaic Idealize.ShloMosaic.TcCoe

theorem ninf : Ideal.ofBits .f32 0xFF800000#32 = ⊥ := by simp [Ideal.ofBits, Ideal.ieee]

theorem sle_small {x q : ℕ} (hx : x < 4096) (hq : q < 4096) : IntOp.cmpi .sle (BitVec.ofNat 32 x) (BitVec.ofNat 32 q) = if x ≤ q then 1#1 else 0#1 := by
  show BitVec.ofBool ((BitVec.ofNat 32 x).sle (BitVec.ofNat 32 q)) = _
  have h : ((BitVec.ofNat 32 x).sle (BitVec.ofNat 32 q)) = decide (x ≤ q) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  rw [h]
  by_cases hc : x ≤ q <;> simp [hc]

theorem score_at (K : Vec Ideal S1x512x256 .bf16) (Q : Vec Ideal S1x256x512 .bf16) (k q : Fin 512) :
    score K Q (ix3 0 k q) = ∑ x : Fin 256, K (ix3 0 k x) * Q (ix3 0 x q) := by
  pointwise [score, k0_pay2]

theorem mx_at (s : Vec Ideal S1x512x512 .f32) (m : Vec Ideal S1x1x512 .f32) (q : Fin 512) :
    mx s m (ix3 0 0 q) = max (m (ix3 0 0 q)) (Finset.fold max ⊥ (fun x : Fin 512 => s (ix3 0 x q)) Finset.univ) := by
  rw [← ninf]
  pointwise [mx, k0_pay25, k0_pay21, k0_pay20, k0_pay19]

theorem ac_at (s : Vec Ideal S1x512x512 .f32) (m : Vec Ideal S1x1x512 .f32) (n : Vec Ideal S1x144x512 .f32) (V : Vec Ideal S1x1x144x512 .bf16) (e : Fin 144) (q : Fin 512) :
    ac s m n V (ix3 0 e q) = Ideal.exp2 (m (ix3 0 0 q) - max (m (ix3 0 0 q)) (Finset.fold max ⊥ (fun x : Fin 512 => s (ix3 0 x q)) Finset.univ)) * n (ix3 0 e q)
      + ∑ x : Fin 512, V (ix4 0 0 e x) * Ideal.exp2 (s (ix3 0 x q) - max (m (ix3 0 0 q)) (Finset.fold max ⊥ (fun x : Fin 512 => s (ix3 0 x q)) Finset.univ)) := by
  rw [← ninf]
  pointwise [ac, k0_pay24, k0_pay23, k0_pay22, k0_pay21, k0_pay20, k0_pay19]
  rfl

/-- A score, nothing where the key is after the query. -/
def hid (s : Vec Ideal S1x512x512 .f32) (q x : Fin 512) : EReal := if x.val ≤ q.val then s (ix3 0 x q) else ⊥

theorem hid_eq (s : Vec Ideal S1x512x512 .f32) (q x : Fin 512) :
    Scalar.select (IntOp.cmpi .sle (BitVec.ofNat 32 x.val) (BitVec.ofNat 32 q.val)) (s (ix3 0 x q)) (Ideal.ofBits .f32 0xFF800000#32) = hid s q x := by
  rw [sle_small (by omega) (by omega), ninf]
  unfold hid
  by_cases h : x.val ≤ q.val
  · rw [if_pos h, if_pos h]; rfl
  · rw [if_neg h, if_neg h]; rfl

theorem dac_at (s : Vec Ideal S1x512x512 .f32) (m : Vec Ideal S1x1x512 .f32) (n : Vec Ideal S1x144x512 .f32) (V : Vec Ideal S1x1x144x512 .bf16) (e : Fin 144) (q : Fin 512) :
    dac s m n V (ix3 0 e q) = Ideal.exp2 (m (ix3 0 0 q) - max (m (ix3 0 0 q)) (Finset.fold max ⊥ (fun x : Fin 512 => hid s q x) Finset.univ)) * n (ix3 0 e q)
      + ∑ x : Fin 512, V (ix4 0 0 e x) * Ideal.exp2 (hid s q x - max (m (ix3 0 0 q)) (Finset.fold max ⊥ (fun x : Fin 512 => hid s q x) Finset.univ)) := by
  rw [← ninf]
  simp only [← hid_eq]
  pointwise [dac, k0_pay248, k0_pay247, k0_pay246, k0_pay245, k0_pay244, k0_pay243]
  rfl

theorem fo_at (n : Vec Ideal S1x144x512 .f32) (e : Fin 128) (q : Fin 512) :
    fo n (ix3 0 e q) = Ideal.div (n (ix3 0 ⟨e.val, by omega⟩ q)) (n (ix3 0 ⟨128, by omega⟩ q)) := by
  have e1 : topIx (ix3 (0 : Fin 1) e q) = ix3 (0 : Fin 1) (⟨e.val, by omega⟩ : Fin 144) q := by funext a; match a with | ⟨0, _⟩ => rfl | ⟨1, _⟩ => rfl | ⟨2, _⟩ => rfl
  have e2 : rowIx (ix3 (0 : Fin 1) (0 : Fin 1) q) = ix3 (0 : Fin 1) (⟨128, by omega⟩ : Fin 144) q := by funext a; match a with | ⟨0, _⟩ => rfl | ⟨1, _⟩ => rfl | ⟨2, _⟩ => rfl
  rw [← e1, ← e2]
  show _ = Ideal.div (top n (ix3 0 e q)) (row n (ix3 0 0 q))
  pointwise [fo, k0_pay318]

section
variable {F : FTy → Type} [FloatOps F]

theorem cutQ_at (X : Vec F S2x1024x512 .bf16) (off : Fin S2x1024x512.rank → ℕ) (inb) (r h : ℕ) (hr : r < 2) (hh : h < 4) (ho : off = ![r, 256 * h, 0]) (d : Fin 256) (q : Fin 512) :
    cutQ X off inb (ix3 0 d q) = X (ix3 ⟨r, hr⟩ ⟨256 * h + d.val, by omega⟩ q) := by
  subst ho
  unfold cutQ
  congr 1
  funext a
  apply Fin.ext
  match a with
  | ⟨0, _⟩ => show r + 1 * 0 = r; omega
  | ⟨1, _⟩ => show 256 * h + 1 * d.val = 256 * h + d.val; omega
  | ⟨2, _⟩ => show 0 + 1 * q.val = q.val; omega

theorem cutK_at (X : Vec F S1x4096x1024 .bf16) (off : Fin S1x4096x1024.rank → ℕ) (inb) (T h : ℕ) (hT : T < 8) (hh : h < 4) (ho : off = ![0, 512 * T, 256 * h]) (k : Fin 512) (d : Fin 256) :
    cutK X off inb (ix3 0 k d) = X (ix3 0 ⟨512 * T + k.val, by omega⟩ ⟨256 * h + d.val, by omega⟩) := by
  subst ho
  unfold cutK
  congr 1
  funext a
  apply Fin.ext
  match a with
  | ⟨0, _⟩ => show 0 + 1 * 0 = 0; omega
  | ⟨1, _⟩ => show 512 * T + 1 * k.val = 512 * T + k.val; omega
  | ⟨2, _⟩ => show 256 * h + 1 * d.val = 256 * h + d.val; omega

theorem cutV_at (X : Vec F S1x8x576x512 .bf16) (off : Fin S1x8x576x512.rank → ℕ) (inb) (T h : ℕ) (hT : T < 8) (hh : h < 4) (ho : off = ![0, T, 144 * h, 0]) (e : Fin 144) (k : Fin 512) :
    cutV X off inb (ix4 0 0 e k) = X (ix4 0 ⟨T, hT⟩ ⟨144 * h + e.val, by omega⟩ k) := by
  subst ho
  unfold cutV
  congr 1
  funext a
  apply Fin.ext
  match a with
  | ⟨0, _⟩ => show 0 + 1 * 0 = 0; omega
  | ⟨1, _⟩ => show T + 1 * 0 = T; omega
  | ⟨2, _⟩ => show 144 * h + 1 * e.val = 144 * h + e.val; omega
  | ⟨3, _⟩ => show 0 + 1 * k.val = k.val; omega

variable (i : grid0.Coords)

theorem t_lt (t : Fin (k0_t1_loop i).trips) : t.val < (i 2).val := lt_of_lt_of_eq t.isLt (trips_t1 i)
theorem i2_lt : (i 2).val < 4 := (i 2).isLt

theorem word1 : ∀ k : Fin 4, (Scalar.indexCast (Scalar.muli (Scalar.addi (Scalar.muli 2#32 (Scf.iv 0#32 1#32 k.val)) 1#32) 512#32)).toNat = 512 * (2 * k.val + 1) := by decide +kernel

theorem word2 : ∀ k : Fin 4, (Scalar.indexCast (Scalar.muli (Scalar.addi (Scalar.muli 2#32 (Scf.iv 0#32 1#32 k.val)) 2#32) 512#32)).toNat = 512 * (2 * k.val + 2) := by decide +kernel

theorem off_k1_0 (t : Fin (k0_t1_loop i).trips) : k0_off1 i t 1#32 = ![0, 512 * (2 * t.val + 1), 256 * 0] :=
  congrArg (fun n : ℕ => ![0, n, 256 * 0]) (word1 ⟨t.val, lt_trans (t_lt i t) (i2_lt i)⟩)

theorem off_k2_0 (t : Fin (k0_t1_loop i).trips) : k0_off1 i t 2#32 = ![0, 512 * (2 * t.val + 2), 256 * 0] :=
  congrArg (fun n : ℕ => ![0, n, 256 * 0]) (word2 ⟨t.val, lt_trans (t_lt i t) (i2_lt i)⟩)

theorem off_v0_0 (t : Fin (k0_t1_loop i).trips) : k0_off5 i t = ![0, 2 * t.val, 144 * 0, 0] := by
  have h1 := t_lt i t
  have h2 := i2_lt i
  obtain ⟨k, hk⟩ := t
  have h3 : k < 4 := by dsimp only at h1; omega
  clear h1
  interval_cases k <;> rfl

theorem off_v1_0 (t : Fin (k0_t1_loop i).trips) : k0_off9 i t = ![0, 2 * t.val + 1, 144 * 0, 0] := by
  have h1 := t_lt i t
  have h2 := i2_lt i
  obtain ⟨k, hk⟩ := t
  have h3 : k < 4 := by dsimp only at h1; omega
  clear h1
  interval_cases k <;> rfl

theorem off_k1_1 (t : Fin (k0_t1_loop i).trips) : k0_off2 i t 1#32 = ![0, 512 * (2 * t.val + 1), 256 * 1] :=
  congrArg (fun n : ℕ => ![0, n, 256 * 1]) (word1 ⟨t.val, lt_trans (t_lt i t) (i2_lt i)⟩)

theorem off_k2_1 (t : Fin (k0_t1_loop i).trips) : k0_off2 i t 2#32 = ![0, 512 * (2 * t.val + 2), 256 * 1] :=
  congrArg (fun n : ℕ => ![0, n, 256 * 1]) (word2 ⟨t.val, lt_trans (t_lt i t) (i2_lt i)⟩)

theorem off_v0_1 (t : Fin (k0_t1_loop i).trips) : k0_off6 i t = ![0, 2 * t.val, 144 * 1, 0] := by
  have h1 := t_lt i t
  have h2 := i2_lt i
  obtain ⟨k, hk⟩ := t
  have h3 : k < 4 := by dsimp only at h1; omega
  clear h1
  interval_cases k <;> rfl

theorem off_v1_1 (t : Fin (k0_t1_loop i).trips) : k0_off10 i t = ![0, 2 * t.val + 1, 144 * 1, 0] := by
  have h1 := t_lt i t
  have h2 := i2_lt i
  obtain ⟨k, hk⟩ := t
  have h3 : k < 4 := by dsimp only at h1; omega
  clear h1
  interval_cases k <;> rfl

theorem off_k1_2 (t : Fin (k0_t1_loop i).trips) : k0_off3 i t 1#32 = ![0, 512 * (2 * t.val + 1), 256 * 2] :=
  congrArg (fun n : ℕ => ![0, n, 256 * 2]) (word1 ⟨t.val, lt_trans (t_lt i t) (i2_lt i)⟩)

theorem off_k2_2 (t : Fin (k0_t1_loop i).trips) : k0_off3 i t 2#32 = ![0, 512 * (2 * t.val + 2), 256 * 2] :=
  congrArg (fun n : ℕ => ![0, n, 256 * 2]) (word2 ⟨t.val, lt_trans (t_lt i t) (i2_lt i)⟩)

theorem off_v0_2 (t : Fin (k0_t1_loop i).trips) : k0_off7 i t = ![0, 2 * t.val, 144 * 2, 0] := by
  have h1 := t_lt i t
  have h2 := i2_lt i
  obtain ⟨k, hk⟩ := t
  have h3 : k < 4 := by dsimp only at h1; omega
  clear h1
  interval_cases k <;> rfl

theorem off_v1_2 (t : Fin (k0_t1_loop i).trips) : k0_off11 i t = ![0, 2 * t.val + 1, 144 * 2, 0] := by
  have h1 := t_lt i t
  have h2 := i2_lt i
  obtain ⟨k, hk⟩ := t
  have h3 : k < 4 := by dsimp only at h1; omega
  clear h1
  interval_cases k <;> rfl

theorem off_k1_3 (t : Fin (k0_t1_loop i).trips) : k0_off4 i t 1#32 = ![0, 512 * (2 * t.val + 1), 256 * 3] :=
  congrArg (fun n : ℕ => ![0, n, 256 * 3]) (word1 ⟨t.val, lt_trans (t_lt i t) (i2_lt i)⟩)

theorem off_k2_3 (t : Fin (k0_t1_loop i).trips) : k0_off4 i t 2#32 = ![0, 512 * (2 * t.val + 2), 256 * 3] :=
  congrArg (fun n : ℕ => ![0, n, 256 * 3]) (word2 ⟨t.val, lt_trans (t_lt i t) (i2_lt i)⟩)

theorem off_v0_3 (t : Fin (k0_t1_loop i).trips) : k0_off8 i t = ![0, 2 * t.val, 144 * 3, 0] := by
  have h1 := t_lt i t
  have h2 := i2_lt i
  obtain ⟨k, hk⟩ := t
  have h3 : k < 4 := by dsimp only at h1; omega
  clear h1
  interval_cases k <;> rfl

theorem off_v1_3 (t : Fin (k0_t1_loop i).trips) : k0_off12 i t = ![0, 2 * t.val + 1, 144 * 3, 0] := by
  have h1 := t_lt i t
  have h2 := i2_lt i
  obtain ⟨k, hk⟩ := t
  have h3 : k < 4 := by dsimp only at h1; omega
  clear h1
  interval_cases k <;> rfl

theorem off_kL_0 : k0_off25 i = ![0, 512 * (2 * (i 2).val + 1), 256 * 0] := by
  have h2 := i2_lt i
  unfold k0_off25
  generalize (i 2).val = w at h2 ⊢
  interval_cases w <;> rfl

theorem off_vL0_0 : k0_off29 i = ![0, 2 * (i 2).val, 144 * 0, 0] := by
  have h2 := i2_lt i
  unfold k0_off29
  generalize (i 2).val = w at h2 ⊢
  interval_cases w <;> rfl

theorem off_vL1_0 : k0_off33 i = ![0, 2 * (i 2).val + 1, 144 * 0, 0] := by
  have h2 := i2_lt i
  unfold k0_off33
  generalize (i 2).val = w at h2 ⊢
  interval_cases w <;> rfl

theorem off_kL_1 : k0_off26 i = ![0, 512 * (2 * (i 2).val + 1), 256 * 1] := by
  have h2 := i2_lt i
  unfold k0_off26
  generalize (i 2).val = w at h2 ⊢
  interval_cases w <;> rfl

theorem off_vL0_1 : k0_off30 i = ![0, 2 * (i 2).val, 144 * 1, 0] := by
  have h2 := i2_lt i
  unfold k0_off30
  generalize (i 2).val = w at h2 ⊢
  interval_cases w <;> rfl

theorem off_vL1_1 : k0_off34 i = ![0, 2 * (i 2).val + 1, 144 * 1, 0] := by
  have h2 := i2_lt i
  unfold k0_off34
  generalize (i 2).val = w at h2 ⊢
  interval_cases w <;> rfl

theorem off_kL_2 : k0_off27 i = ![0, 512 * (2 * (i 2).val + 1), 256 * 2] := by
  have h2 := i2_lt i
  unfold k0_off27
  generalize (i 2).val = w at h2 ⊢
  interval_cases w <;> rfl

theorem off_vL0_2 : k0_off31 i = ![0, 2 * (i 2).val, 144 * 2, 0] := by
  have h2 := i2_lt i
  unfold k0_off31
  generalize (i 2).val = w at h2 ⊢
  interval_cases w <;> rfl

theorem off_vL1_2 : k0_off35 i = ![0, 2 * (i 2).val + 1, 144 * 2, 0] := by
  have h2 := i2_lt i
  unfold k0_off35
  generalize (i 2).val = w at h2 ⊢
  interval_cases w <;> rfl

theorem off_kL_3 : k0_off28 i = ![0, 512 * (2 * (i 2).val + 1), 256 * 3] := by
  have h2 := i2_lt i
  unfold k0_off28
  generalize (i 2).val = w at h2 ⊢
  interval_cases w <;> rfl

theorem off_vL0_3 : k0_off32 i = ![0, 2 * (i 2).val, 144 * 3, 0] := by
  have h2 := i2_lt i
  unfold k0_off32
  generalize (i 2).val = w at h2 ⊢
  interval_cases w <;> rfl

theorem off_vL1_3 : k0_off36 i = ![0, 2 * (i 2).val + 1, 144 * 3, 0] := by
  have h2 := i2_lt i
  unfold k0_off36
  generalize (i 2).val = w at h2 ⊢
  interval_cases w <;> rfl

end

end Cert.Attn
end
-- ==== Proof.Attn.Online.lean ====
module
public import Idealize.ShloMosaic.PureOps.Ideal
public import Idealize.ShloMosaic.Lib.IdealHost

/-! A softmax taken tile by tile, with a running maximum and running sums, is the softmax taken at once. -/

@[expose] public section
noncomputable section
namespace Cert.Online
open Idealize.ShloMosaic

/-- Multiplication by a nonnegative real number goes through a sum of extended reals. -/
theorem mul_sum {ι : Type} (s : Finset ι) (f : ι → EReal) {r : ℝ} (hr : 0 ≤ r) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.mpr hr) (EReal.coe_ne_top r), ih]

/-- The power of two of a number not above the reals is a real number, not negative. -/
theorem exp2_real {x : EReal} (h : x ≠ ⊤) : ∃ r : ℝ, 0 ≤ r ∧ Ideal.exp2 x = (r : EReal) := by
  induction x with
  | bot => exact ⟨0, le_refl _, rfl⟩
  | top => exact absurd rfl h
  | coe r => exact ⟨(2 : ℝ) ^ r, by positivity, rfl⟩

/-- Taking a real number off the exponent. -/
theorem exp2_sub {x : EReal} (h : x ≠ ⊤) (μ : ℝ) : Ideal.exp2 (x - (μ : EReal)) = (((2 : ℝ) ^ (-μ) : ℝ) : EReal) * Ideal.exp2 x := by
  induction x with
  | bot =>
    rw [show (⊥ : EReal) - (μ : EReal) = ⊥ from rfl]
    rw [show Ideal.exp2 ⊥ = 0 from rfl, mul_zero]
  | top => exact absurd rfl h
  | coe r =>
    rw [← EReal.coe_sub]
    show (((2 : ℝ) ^ (r - μ) : ℝ) : EReal) = (((2 : ℝ) ^ (-μ) : ℝ) : EReal) * (((2 : ℝ) ^ r : ℝ) : EReal)
    rw [← EReal.coe_mul, ← Real.rpow_add (by norm_num)]
    congr 2; ring

/-- The same for the exponential. -/
theorem exp_sub {x : EReal} (h : x ≠ ⊤) (μ : ℝ) : Ideal.exp (x - (μ : EReal)) = ((Real.exp (-μ) : ℝ) : EReal) * Ideal.exp x := by
  induction x with
  | bot =>
    rw [show (⊥ : EReal) - (μ : EReal) = ⊥ from rfl]
    rw [show Ideal.exp ⊥ = 0 from rfl, mul_zero]
  | top => exact absurd rfl h
  | coe r =>
    rw [← EReal.coe_sub]
    show ((Real.exp (r - μ) : ℝ) : EReal) = ((Real.exp (-μ) : ℝ) : EReal) * ((Real.exp r : ℝ) : EReal)
    rw [← EReal.coe_mul, ← Real.exp_add]
    congr 2; ring

/-- The largest of a start and some numbers is real where one of them is, and none is above the reals. -/
theorem max_real {n : ℕ} (m : EReal) (σ : Fin n → EReal) (hm : m ≠ ⊤) (hσ : ∀ k, σ k ≠ ⊤) (he : ∃ k, σ k ≠ ⊥) :
    ∃ μ : ℝ, max m (Finset.fold max ⊥ σ Finset.univ) = (μ : EReal) := by
  have ht : max m (Finset.fold max ⊥ σ Finset.univ) ≠ ⊤ :=
    ne_of_lt (max_lt (lt_top_iff_ne_top.mpr hm) ((Finset.fold_max_lt _).mpr ⟨bot_lt_top, fun k _ => lt_top_iff_ne_top.mpr (hσ k)⟩))
  have hb : max m (Finset.fold max ⊥ σ Finset.univ) ≠ ⊥ := by
    obtain ⟨k, hk⟩ := he
    refine ne_of_gt (lt_of_lt_of_le (bot_lt_iff_ne_bot.mpr hk) (le_trans ?_ (le_max_right _ _)))
    exact (Finset.le_fold_max _).mpr (Or.inr ⟨k, Finset.mem_univ _, le_refl _⟩)
  exact ⟨(max m (Finset.fold max ⊥ σ Finset.univ)).toReal, (EReal.coe_toReal ht hb).symm⟩

/-- What the running maximum `m` and a running sum `n` are after the tiles before `J`. -/
def Inv (σ v : ℕ → EReal) (J : ℕ) (m n : EReal) : Prop :=
  (J = 0 ∧ m = ⊥ ∧ n = 0) ∨ ∃ μ : ℝ, m = (μ : EReal) ∧ n = (((2 : ℝ) ^ (-μ) : ℝ) : EReal) * ∑ i ∈ Finset.range (512 * J), v i * Ideal.exp2 (σ i)

theorem Inv.zero (σ v : ℕ → EReal) : Inv σ v 0 ⊥ 0 := Or.inl ⟨rfl, rfl, rfl⟩

/-- One tile. -/
theorem Inv.step {σ v : ℕ → EReal} {J : ℕ} {m n : EReal} (h : Inv σ v J m n) (hσ : ∀ k, σ k ≠ ⊤) (he : ∃ k : Fin 512, σ (512 * J + k.val) ≠ ⊥) {m' : EReal}
    (hm' : m' = max m (Finset.fold max ⊥ (fun k : Fin 512 => σ (512 * J + k.val)) Finset.univ)) :
    Inv σ v (J + 1) m' (Ideal.exp2 (m - m') * n + ∑ k : Fin 512, v (512 * J + k.val) * Ideal.exp2 (σ (512 * J + k.val) - m')) := by
  have hmt : m ≠ ⊤ := by
    rcases h with ⟨_, h, _⟩ | ⟨μ, h, _⟩ <;> rw [h]
    · exact bot_ne_top
    · exact EReal.coe_ne_top μ
  obtain ⟨μ', e'⟩ := max_real m (fun k : Fin 512 => σ (512 * J + k.val)) hmt (fun k => hσ _) he
  rw [e'] at hm'
  subst hm'
  refine Or.inr ⟨μ', rfl, ?_⟩
  have hp : (0 : ℝ) ≤ (2 : ℝ) ^ (-μ') := by positivity
  rw [show 512 * (J + 1) = 512 * J + 512 by ring, Finset.sum_range_add, EReal.left_distrib_of_nonneg_of_ne_top (EReal.coe_nonneg.mpr hp) (EReal.coe_ne_top _)]
  congr 1
  · rcases h with ⟨rfl, rfl, rfl⟩ | ⟨μ, rfl, rfl⟩
    · simp
    · rw [exp2_sub (EReal.coe_ne_top μ), ← mul_assoc, mul_assoc (((2 : ℝ) ^ (-μ') : ℝ) : EReal)]
      congr 1
      show _ * ((((2 : ℝ) ^ μ : ℝ) : EReal) * (((2 : ℝ) ^ (-μ) : ℝ) : EReal)) = _
      rw [← EReal.coe_mul, ← Real.rpow_add (by norm_num)]
      simp
  · rw [mul_sum _ _ hp, Finset.sum_range]
    refine Finset.sum_congr rfl fun k _ => ?_
    rw [exp2_sub (hσ _)]
    rw [mul_left_comm]

/-- What the quotient of two running sums is. -/
theorem Inv.quot {σ v : ℕ → EReal} {J : ℕ} {m n d : EReal} (h : Inv σ v (J + 1) m n) (h1 : Inv σ (fun _ => 1) (J + 1) m d) (hσ : ∀ k, σ k ≠ ⊤) (h0 : σ 0 ≠ ⊥) :
    Ideal.div n d = Ideal.div (∑ i ∈ Finset.range (512 * (J + 1)), v i * Ideal.exp2 (σ i)) (∑ i ∈ Finset.range (512 * (J + 1)), Ideal.exp2 (σ i)) := by
  obtain ⟨h, _⟩ | ⟨μ, rfl, rfl⟩ := h
  · omega
  obtain ⟨h, _⟩ | ⟨μ', e, rfl⟩ := h1
  · omega
  obtain rfl : μ = μ' := EReal.coe_injective e
  simp only [one_mul]
  choose g g0 hg using fun i => exp2_real (hσ i)
  have hs : ∑ i ∈ Finset.range (512 * (J + 1)), Ideal.exp2 (σ i) = ((∑ i ∈ Finset.range (512 * (J + 1)), g i : ℝ) : EReal) := by
    rw [Finset.sum_congr rfl fun i _ => hg i]
    induction Finset.range (512 * (J + 1)) using Finset.induction_on with
    | empty => simp
    | insert a s ha ih => rw [Finset.sum_insert ha, Finset.sum_insert ha, ih, EReal.coe_add]
  have gp : 0 < g 0 := by
    obtain ⟨r, hr⟩ : ∃ r : ℝ, σ 0 = (r : EReal) := ⟨(σ 0).toReal, (EReal.coe_toReal (hσ 0) h0).symm⟩
    have := hg 0
    rw [hr] at this
    have e2 : (2 : ℝ) ^ r = g 0 := EReal.coe_injective this
    rw [← e2]; positivity
  have hL : 0 < ∑ i ∈ Finset.range (512 * (J + 1)), g i :=
    Finset.sum_pos' (fun i _ => g0 i) ⟨0, Finset.mem_range.mpr (by omega), gp⟩
  rw [hs]
  generalize ∑ i ∈ Finset.range (512 * (J + 1)), g i = L at hL
  generalize ∑ i ∈ Finset.range (512 * (J + 1)), v i * Ideal.exp2 (σ i) = A
  have hp : (0 : ℝ) < (2 : ℝ) ^ (-μ) := by positivity
  generalize (2 : ℝ) ^ (-μ) = r at hp
  rw [← EReal.coe_mul, Ideal.div_coe (by positivity), Ideal.div_coe hL.ne', mul_comm (r : EReal), mul_assoc, ← EReal.coe_mul]
  congr 2
  field_simp

/-- The softmax of the reference, its scores shifted by their largest. -/
theorem shifted {n : ℕ} (x v : Fin n → EReal) (hx : ∀ k, x k ≠ ⊤) (k0 : Fin n) (h0 : x k0 ≠ ⊥) (μ : ℝ) :
    ∑ k, v k * Ideal.div (Ideal.exp (x k - (μ : EReal))) (0 + ∑ k', Ideal.exp (x k' - (μ : EReal))) = Ideal.div (∑ k, v k * Ideal.exp (x k)) (∑ k, Ideal.exp (x k)) := by
  have er : ∀ y : EReal, y ≠ ⊤ → ∃ r : ℝ, 0 ≤ r ∧ Ideal.exp y = (r : EReal) := fun y h => by
    induction y with
    | bot => exact ⟨0, le_refl _, rfl⟩
    | top => exact absurd rfl h
    | coe r => exact ⟨Real.exp r, (Real.exp_pos r).le, rfl⟩
  choose g g0 hg using fun k => er (x k) (hx k)
  have hs : ∑ i, Ideal.exp (x i) = ((∑ i, g i : ℝ) : EReal) := by
    rw [Finset.sum_congr rfl fun i _ => hg i]
    induction (Finset.univ : Finset (Fin n)) using Finset.induction_on with
    | empty => simp
    | insert a s ha ih => rw [Finset.sum_insert ha, Finset.sum_insert ha, ih, EReal.coe_add]
  have gp : 0 < g k0 := by
    obtain ⟨r, hr⟩ : ∃ r : ℝ, x k0 = (r : EReal) := ⟨(x k0).toReal, (EReal.coe_toReal (hx k0) h0).symm⟩
    have := hg k0
    rw [hr] at this
    have e2 : Real.exp r = g k0 := EReal.coe_injective this
    rw [← e2]; exact Real.exp_pos r
  have hL : 0 < ∑ i, g i := Finset.sum_pos' (fun i _ => g0 i) ⟨k0, Finset.mem_univ _, gp⟩
  have hp : (0 : ℝ) < Real.exp (-μ) := Real.exp_pos _
  have hd : (0 : EReal) + ∑ k', Ideal.exp (x k' - (μ : EReal)) = ((Real.exp (-μ) * ∑ i, g i : ℝ) : EReal) := by
    rw [zero_add, Finset.sum_congr rfl fun k _ => exp_sub (hx k) μ, ← mul_sum _ _ hp.le, hs, EReal.coe_mul]
  rw [hd, hs]
  have hne : ∑ i, g i ≠ 0 := hL.ne'
  have h1 : ∀ k, v k * Ideal.div (Ideal.exp (x k - (μ : EReal))) ((Real.exp (-μ) * ∑ i, g i : ℝ) : EReal) = ((1 / ∑ i, g i : ℝ) : EReal) * (v k * Ideal.exp (x k)) := fun k => by
    rw [exp_sub (hx k), Ideal.div_coe (by positivity), mul_comm ((Real.exp (-μ) : ℝ) : EReal), mul_assoc, ← EReal.coe_mul,
      show Real.exp (-μ) * (1 / (Real.exp (-μ) * ∑ i, g i)) = 1 / ∑ i, g i by field_simp, ← mul_assoc, mul_comm]
  rw [Finset.sum_congr rfl fun k _ => h1 k, ← mul_sum _ _ (by positivity), Ideal.div_coe hne, mul_comm]

end Cert.Online
end
-- ==== Proof.Attn.Chain.lean ====
module

public import proofs.«01_k».proof.Proof.Attn.At
public import proofs.«01_k».proof.Proof.Attn.Online

/-! Each chain of the kernel's body holds the running maximum and the running sums of its keys' scores. -/

@[expose] public section
set_option maxRecDepth 65536
noncomputable section
namespace Cert.Attn
open Cert.KernelIdeal Cert.KernelIdeal.Gen Idealize.ShloMosaic Idealize.ShloMosaic.TcCoe Cert.Online

variable (i : grid0.Coords) (x3 : Vec Ideal S2x1024x512 .bf16) (x4 : Vec Ideal S1x4096x1024 .bf16) (x5 : Vec Ideal S1x8x576x512 .bf16)

/-- Chain `c`'s score of key `n` against query `q`. -/
def qk (c : Fin 8) (q : Fin 512) (n : ℕ) : EReal :=
  if hn : n < 4096 then ∑ d : Fin 256, x4 (ix3 0 ⟨n, hn⟩ ⟨256 * (c.val / 2) + d.val, by omega⟩) * x3 (ix3 ⟨c.val % 2, by omega⟩ ⟨256 * (c.val / 2) + d.val, by omega⟩ q) else 0

/-- Chain `c`'s value `e` of key `n`. -/
def vv (c : Fin 8) (e : Fin 144) (n : ℕ) : EReal :=
  if hn : n < 4096 then x5 (ix4 0 ⟨n / 512, by omega⟩ ⟨144 * (c.val / 2) + e.val, by omega⟩ ⟨n % 512, by omega⟩) else 1

/-- The score where the key is not after position `p`. -/
def sg (c : Fin 8) (q : Fin 512) (p n : ℕ) : EReal := if n ≤ p then qk x3 x4 c q n else ⊥

theorem qC_at (c : Fin 8) (d : Fin 256) (q : Fin 512) :
    qC x3 c (ix3 0 d q) = x3 (ix3 ⟨c.val % 2, by omega⟩ ⟨256 * (c.val / 2) + d.val, by omega⟩ q) := by
  fin_cases c
  · exact cutQ_at x3 _ _ 0 0 (by omega) (by omega) rfl d q
  · exact cutQ_at x3 _ _ 1 0 (by omega) (by omega) rfl d q
  · exact cutQ_at x3 _ _ 0 1 (by omega) (by omega) rfl d q
  · exact cutQ_at x3 _ _ 1 1 (by omega) (by omega) rfl d q
  · exact cutQ_at x3 _ _ 0 2 (by omega) (by omega) rfl d q
  · exact cutQ_at x3 _ _ 1 2 (by omega) (by omega) rfl d q
  · exact cutQ_at x3 _ _ 0 3 (by omega) (by omega) rfl d q
  · exact cutQ_at x3 _ _ 1 3 (by omega) (by omega) rfl d q

theorem kC0_at (c : Fin 8) (k : Fin 512) (d : Fin 256) :
    kC0 x4 c (ix3 0 k d) = x4 (ix3 0 ⟨512 * 0 + k.val, by omega⟩ ⟨256 * (c.val / 2) + d.val, by omega⟩) := by
  fin_cases c
  · exact cutK_at x4 _ _ 0 0 (by omega) (by omega) rfl k d
  · exact cutK_at x4 _ _ 0 0 (by omega) (by omega) rfl k d
  · exact cutK_at x4 _ _ 0 1 (by omega) (by omega) rfl k d
  · exact cutK_at x4 _ _ 0 1 (by omega) (by omega) rfl k d
  · exact cutK_at x4 _ _ 0 2 (by omega) (by omega) rfl k d
  · exact cutK_at x4 _ _ 0 2 (by omega) (by omega) rfl k d
  · exact cutK_at x4 _ _ 0 3 (by omega) (by omega) rfl k d
  · exact cutK_at x4 _ _ 0 3 (by omega) (by omega) rfl k d

theorem kC1_at (t : Fin (k0_t1_loop i).trips) (c : Fin 8) (k : Fin 512) (d : Fin 256) (hT : 2 * t.val + 1 < 8) :
    kC1 i x4 t c (ix3 0 k d) = x4 (ix3 0 ⟨512 * (2 * t.val + 1) + k.val, by omega⟩ ⟨256 * (c.val / 2) + d.val, by omega⟩) := by
  fin_cases c
  · exact cutK_at x4 _ _ (2 * t.val + 1) 0 hT (by omega) (off_k1_0 i t) k d
  · exact cutK_at x4 _ _ (2 * t.val + 1) 0 hT (by omega) (off_k1_0 i t) k d
  · exact cutK_at x4 _ _ (2 * t.val + 1) 1 hT (by omega) (off_k1_1 i t) k d
  · exact cutK_at x4 _ _ (2 * t.val + 1) 1 hT (by omega) (off_k1_1 i t) k d
  · exact cutK_at x4 _ _ (2 * t.val + 1) 2 hT (by omega) (off_k1_2 i t) k d
  · exact cutK_at x4 _ _ (2 * t.val + 1) 2 hT (by omega) (off_k1_2 i t) k d
  · exact cutK_at x4 _ _ (2 * t.val + 1) 3 hT (by omega) (off_k1_3 i t) k d
  · exact cutK_at x4 _ _ (2 * t.val + 1) 3 hT (by omega) (off_k1_3 i t) k d

theorem kC2_at (t : Fin (k0_t1_loop i).trips) (c : Fin 8) (k : Fin 512) (d : Fin 256) (hT : 2 * t.val + 2 < 8) :
    kC2 i x4 t c (ix3 0 k d) = x4 (ix3 0 ⟨512 * (2 * t.val + 2) + k.val, by omega⟩ ⟨256 * (c.val / 2) + d.val, by omega⟩) := by
  fin_cases c
  · exact cutK_at x4 _ _ (2 * t.val + 2) 0 hT (by omega) (off_k2_0 i t) k d
  · exact cutK_at x4 _ _ (2 * t.val + 2) 0 hT (by omega) (off_k2_0 i t) k d
  · exact cutK_at x4 _ _ (2 * t.val + 2) 1 hT (by omega) (off_k2_1 i t) k d
  · exact cutK_at x4 _ _ (2 * t.val + 2) 1 hT (by omega) (off_k2_1 i t) k d
  · exact cutK_at x4 _ _ (2 * t.val + 2) 2 hT (by omega) (off_k2_2 i t) k d
  · exact cutK_at x4 _ _ (2 * t.val + 2) 2 hT (by omega) (off_k2_2 i t) k d
  · exact cutK_at x4 _ _ (2 * t.val + 2) 3 hT (by omega) (off_k2_3 i t) k d
  · exact cutK_at x4 _ _ (2 * t.val + 2) 3 hT (by omega) (off_k2_3 i t) k d

theorem vC0_at (t : Fin (k0_t1_loop i).trips) (c : Fin 8) (e : Fin 144) (k : Fin 512) (hT : 2 * t.val < 8) :
    vC0 i x5 t c (ix4 0 0 e k) = x5 (ix4 0 ⟨2 * t.val, hT⟩ ⟨144 * (c.val / 2) + e.val, by omega⟩ k) := by
  fin_cases c
  · exact cutV_at x5 _ _ (2 * t.val) 0 hT (by omega) (off_v0_0 i t) e k
  · exact cutV_at x5 _ _ (2 * t.val) 0 hT (by omega) (off_v0_0 i t) e k
  · exact cutV_at x5 _ _ (2 * t.val) 1 hT (by omega) (off_v0_1 i t) e k
  · exact cutV_at x5 _ _ (2 * t.val) 1 hT (by omega) (off_v0_1 i t) e k
  · exact cutV_at x5 _ _ (2 * t.val) 2 hT (by omega) (off_v0_2 i t) e k
  · exact cutV_at x5 _ _ (2 * t.val) 2 hT (by omega) (off_v0_2 i t) e k
  · exact cutV_at x5 _ _ (2 * t.val) 3 hT (by omega) (off_v0_3 i t) e k
  · exact cutV_at x5 _ _ (2 * t.val) 3 hT (by omega) (off_v0_3 i t) e k

theorem vC1_at (t : Fin (k0_t1_loop i).trips) (c : Fin 8) (e : Fin 144) (k : Fin 512) (hT : 2 * t.val + 1 < 8) :
    vC1 i x5 t c (ix4 0 0 e k) = x5 (ix4 0 ⟨2 * t.val + 1, hT⟩ ⟨144 * (c.val / 2) + e.val, by omega⟩ k) := by
  fin_cases c
  · exact cutV_at x5 _ _ (2 * t.val + 1) 0 hT (by omega) (off_v1_0 i t) e k
  · exact cutV_at x5 _ _ (2 * t.val + 1) 0 hT (by omega) (off_v1_0 i t) e k
  · exact cutV_at x5 _ _ (2 * t.val + 1) 1 hT (by omega) (off_v1_1 i t) e k
  · exact cutV_at x5 _ _ (2 * t.val + 1) 1 hT (by omega) (off_v1_1 i t) e k
  · exact cutV_at x5 _ _ (2 * t.val + 1) 2 hT (by omega) (off_v1_2 i t) e k
  · exact cutV_at x5 _ _ (2 * t.val + 1) 2 hT (by omega) (off_v1_2 i t) e k
  · exact cutV_at x5 _ _ (2 * t.val + 1) 3 hT (by omega) (off_v1_3 i t) e k
  · exact cutV_at x5 _ _ (2 * t.val + 1) 3 hT (by omega) (off_v1_3 i t) e k

theorem kL_at (h : Fin 4) (k : Fin 512) (d : Fin 256) (hT : 2 * (i 2).val + 1 < 8) :
    kL i x4 h (ix3 0 k d) = x4 (ix3 0 ⟨512 * (2 * (i 2).val + 1) + k.val, by omega⟩ ⟨256 * h.val + d.val, by omega⟩) := by
  fin_cases h
  · exact cutK_at x4 _ _ (2 * (i 2).val + 1) 0 hT (by omega) (off_kL_0 i) k d
  · exact cutK_at x4 _ _ (2 * (i 2).val + 1) 1 hT (by omega) (off_kL_1 i) k d
  · exact cutK_at x4 _ _ (2 * (i 2).val + 1) 2 hT (by omega) (off_kL_2 i) k d
  · exact cutK_at x4 _ _ (2 * (i 2).val + 1) 3 hT (by omega) (off_kL_3 i) k d

theorem vL0_at (h : Fin 4) (e : Fin 144) (k : Fin 512) (hT : 2 * (i 2).val < 8) :
    vL0 i x5 h (ix4 0 0 e k) = x5 (ix4 0 ⟨2 * (i 2).val, hT⟩ ⟨144 * h.val + e.val, by omega⟩ k) := by
  fin_cases h
  · exact cutV_at x5 _ _ (2 * (i 2).val) 0 hT (by omega) (off_vL0_0 i) e k
  · exact cutV_at x5 _ _ (2 * (i 2).val) 1 hT (by omega) (off_vL0_1 i) e k
  · exact cutV_at x5 _ _ (2 * (i 2).val) 2 hT (by omega) (off_vL0_2 i) e k
  · exact cutV_at x5 _ _ (2 * (i 2).val) 3 hT (by omega) (off_vL0_3 i) e k

theorem vL1_at (h : Fin 4) (e : Fin 144) (k : Fin 512) (hT : 2 * (i 2).val + 1 < 8) :
    vL1 i x5 h (ix4 0 0 e k) = x5 (ix4 0 ⟨2 * (i 2).val + 1, hT⟩ ⟨144 * h.val + e.val, by omega⟩ k) := by
  fin_cases h
  · exact cutV_at x5 _ _ (2 * (i 2).val + 1) 0 hT (by omega) (off_vL1_0 i) e k
  · exact cutV_at x5 _ _ (2 * (i 2).val + 1) 1 hT (by omega) (off_vL1_1 i) e k
  · exact cutV_at x5 _ _ (2 * (i 2).val + 1) 2 hT (by omega) (off_vL1_2 i) e k
  · exact cutV_at x5 _ _ (2 * (i 2).val + 1) 3 hT (by omega) (off_vL1_3 i) e k

theorem score_qk (K : Vec Ideal S1x512x256 .bf16) (c : Fin 8) (q : Fin 512) (T : ℕ) (hT : T < 8)
    (hK : ∀ (k : Fin 512) (d : Fin 256), K (ix3 0 k d) = x4 (ix3 0 ⟨512 * T + k.val, by omega⟩ ⟨256 * (c.val / 2) + d.val, by omega⟩)) (k : Fin 512) :
    score K (qC x3 c) (ix3 0 k q) = qk x3 x4 c q (512 * T + k.val) := by
  rw [score_at]
  unfold qk
  rw [dif_pos (show 512 * T + k.val < 4096 by omega)]
  exact Finset.sum_congr rfl fun d _ => by rw [hK, qC_at]

theorem cut_vv (V : Vec Ideal S1x1x144x512 .bf16) (c : Fin 8) (T : ℕ) (hT : T < 8)
    (hV : ∀ (e : Fin 144) (k : Fin 512), V (ix4 0 0 e k) = x5 (ix4 0 ⟨T, hT⟩ ⟨144 * (c.val / 2) + e.val, by omega⟩ k)) (e : Fin 144) (k : Fin 512) :
    V (ix4 0 0 e k) = vv x5 c e (512 * T + k.val) := by
  rw [hV]
  unfold vv
  rw [dif_pos (show 512 * T + k.val < 4096 by omega)]
  congr 1
  have h1 : (⟨(512 * T + k.val) / 512, by omega⟩ : Fin 8) = ⟨T, hT⟩ := Fin.ext (by show (512 * T + k.val) / 512 = T; omega)
  have h2 : (⟨(512 * T + k.val) % 512, by omega⟩ : Fin 512) = k := Fin.ext (by show (512 * T + k.val) % 512 = k.val; omega)
  rw [h1, h2]

section
variable {x3 x4 x5}
variable {c : Fin 8} {q : Fin 512} {p : ℕ} (hR : ∀ n, ∃ r : ℝ, qk x3 x4 c q n = (r : EReal))
include hR

theorem sg_top (n : ℕ) : sg x3 x4 c q p n ≠ ⊤ := by
  unfold sg
  obtain ⟨r, hr⟩ := hR n
  split
  · rw [hr]; exact EReal.coe_ne_top r
  · exact bot_ne_top

theorem sg_bot {n : ℕ} (h : n ≤ p) : sg x3 x4 c q p n ≠ ⊥ := by
  unfold sg
  obtain ⟨r, hr⟩ := hR n
  rw [if_pos h, hr]
  exact EReal.coe_ne_bot r

theorem step_ac {J : ℕ} {s : Vec Ideal S1x512x512 .f32} {m : Vec Ideal S1x1x512 .f32} {n : Vec Ideal S1x144x512 .f32} {V : Vec Ideal S1x1x144x512 .bf16}
    (hI : ∀ e : Fin 144, Inv (sg x3 x4 c q p) (vv x5 c e) J (m (ix3 0 0 q)) (n (ix3 0 e q))) (hs : ∀ k : Fin 512, s (ix3 0 k q) = qk x3 x4 c q (512 * J + k.val))
    (hV : ∀ (e : Fin 144) (k : Fin 512), V (ix4 0 0 e k) = vv x5 c e (512 * J + k.val)) (hJ : 512 * J + 511 ≤ p) (e : Fin 144) :
    Inv (sg x3 x4 c q p) (vv x5 c e) (J + 1) (mx s m (ix3 0 0 q)) (ac s m n V (ix3 0 e q)) := by
  have hs' : ∀ k : Fin 512, s (ix3 0 k q) = sg x3 x4 c q p (512 * J + k.val) := fun k => by
    rw [hs]; unfold sg; rw [if_pos (by omega)]
  rw [mx_at, ac_at]
  simp only [hs', hV]
  exact (hI e).step (sg_top hR) ⟨0, sg_bot hR (by show 512 * J + 0 ≤ p; omega)⟩ rfl

theorem step_dac {J : ℕ} {s : Vec Ideal S1x512x512 .f32} {m : Vec Ideal S1x1x512 .f32} {n : Vec Ideal S1x144x512 .f32} {V : Vec Ideal S1x1x144x512 .bf16}
    (hI : ∀ e : Fin 144, Inv (sg x3 x4 c q p) (vv x5 c e) J (m (ix3 0 0 q)) (n (ix3 0 e q))) (hs : ∀ k : Fin 512, s (ix3 0 k q) = qk x3 x4 c q (512 * J + k.val))
    (hV : ∀ (e : Fin 144) (k : Fin 512), V (ix4 0 0 e k) = vv x5 c e (512 * J + k.val)) (hJ : p = 512 * J + q.val) :
    ∃ M : EReal, ∀ e : Fin 144, Inv (sg x3 x4 c q p) (vv x5 c e) (J + 1) M (dac s m n V (ix3 0 e q)) := by
  have hs' : ∀ k : Fin 512, hid s q k = sg x3 x4 c q p (512 * J + k.val) := fun k => by
    unfold hid
    rw [hs]; unfold sg
    by_cases h : k.val ≤ q.val
    · rw [if_pos h, if_pos (by omega)]
    · rw [if_neg h, if_neg (by omega)]
  refine ⟨max (m (ix3 0 0 q)) (Finset.fold max ⊥ (fun k : Fin 512 => sg x3 x4 c q p (512 * J + k.val)) Finset.univ), fun e => ?_⟩
  rw [dac_at]
  simp only [hs', hV]
  exact (hI e).step (sg_top hR) ⟨0, sg_bot hR (by show 512 * J + 0 ≤ p; omega)⟩ rfl

/-- What a chain holds after `k` trips. -/
theorem trips_inv (k : ℕ) (hk : k ≤ (i 2).val) (hp : 1024 * (i 2).val ≤ p) :
    (∀ x : Fin 512, (tripN i x3 x4 x5 (iniSt i x3 x4 x5 z) k).a c (ix3 0 x q) = qk x3 x4 c q (512 * (2 * k) + x.val))
      ∧ ∀ e : Fin 144, Inv (sg x3 x4 c q p) (vv x5 c e) (2 * k) ((tripN i x3 x4 x5 (iniSt i x3 x4 x5 z) k).m c (ix3 0 0 q)) ((tripN i x3 x4 x5 (iniSt i x3 x4 x5 z) k).n c (ix3 0 e q)) := by
  have hi := i2_lt i
  induction k with
  | zero =>
    refine ⟨fun x => ?_, fun e => ?_⟩
    · show (iniSt i x3 x4 x5 z).a c (ix3 0 x q) = _
      rw [ini_a]
      exact score_qk x3 x4 _ c q 0 (by omega) (kC0_at x4 c) x
    · show Inv _ _ 0 ((iniSt i x3 x4 x5 z).m c (ix3 0 0 q)) ((iniSt i x3 x4 x5 z).n c (ix3 0 e q))
      rw [ini_m, ini_n]
      have e1 : (neg : Vec Ideal S1x1x512 .f32) (ix3 0 0 q) = ⊥ := ninf
      have e2 : (zer : Vec Ideal S1x144x512 .f32) (ix3 0 e q) = 0 := by
        show Ideal.ofBits .f32 0x00000000#32 = 0
        simp [Ideal.ofBits, Ideal.ieee]
      rw [e1, e2]
      exact Inv.zero _ _
  | succ k ih =>
    obtain ⟨ia, iI⟩ := ih (by omega)
    have hkt : k < (k0_t1_loop i).trips := by rw [trips_t1]; omega
    have es := tripN_succ i x3 x4 x5 (iniSt i x3 x4 x5 z) ⟨k, hkt⟩
    dsimp only at es
    rw [es]
    generalize tripN i x3 x4 x5 (iniSt i x3 x4 x5 z) k = u at ia iI
    have h1 := fun x => score_qk x3 x4 _ c q (2 * k + 1) (by omega) (fun k' d => kC1_at i x4 ⟨k, hkt⟩ c k' d (by show 2 * k + 1 < 8; omega)) x
    have h2 := fun x => score_qk x3 x4 _ c q (2 * k + 2) (by omega) (fun k' d => kC2_at i x4 ⟨k, hkt⟩ c k' d (by show 2 * k + 2 < 8; omega)) x
    refine ⟨fun x => ?_, fun e => ?_⟩
    · rw [trip_a, h2 x]
      congr 1
    · rw [trip_m, trip_n]
      have g1 := step_ac hR iI ia (cut_vv x5 _ c (2 * k) (by omega) (fun e k' => vC0_at i x5 ⟨k, hkt⟩ c e k' (by show 2 * k < 8; omega))) (by omega)
      exact step_ac hR g1 h1 (cut_vv x5 _ c (2 * k + 1) (by omega) (fun e k' => vC1_at i x5 ⟨k, hkt⟩ c e k' (by show 2 * k + 1 < 8; omega))) (by omega) e

end

/-- The softmax of scores to the base two, applied to values. -/
def soft (σ v : Fin 4096 → EReal) : EReal := Ideal.div (∑ n, v n * Ideal.exp2 (σ n)) (∑ n, Ideal.exp2 (σ n))

theorem quot_soft {c : Fin 8} {q : Fin 512} {p J : ℕ} {M : EReal} {n : Vec Ideal S1x144x512 .f32} (hR : ∀ n, ∃ r : ℝ, qk x3 x4 c q n = (r : EReal))
    (h1 : vv x5 c ⟨128, by omega⟩ = fun _ => 1) (hI : ∀ e : Fin 144, Inv (sg x3 x4 c q p) (vv x5 c e) (J + 1) M (n (ix3 0 e q))) (hp : p < 512 * (J + 1)) (hJ : J < 8) (e : Fin 128) :
    fo n (ix3 0 e q) = soft (fun k => sg x3 x4 c q p k.val) (fun k => vv x5 c ⟨e.val, by omega⟩ k.val) := by
  have h2 := hI ⟨128, by omega⟩
  rw [h1] at h2
  rw [fo_at, (hI ⟨e.val, by omega⟩).quot h2 (sg_top hR) (sg_bot hR (by omega))]
  unfold soft
  have hz : ∀ k, ¬ k < 512 * (J + 1) → Ideal.exp2 (sg x3 x4 c q p k) = 0 := fun k hk => by
    unfold sg; rw [if_neg (by omega)]; rfl
  have hsub : Finset.range (512 * (J + 1)) ⊆ Finset.range 4096 := Finset.range_subset_range.mpr (by omega)
  rw [Finset.sum_subset hsub (fun k _ hk => by rw [hz k (by simpa using hk), mul_zero]), Finset.sum_subset hsub (fun k _ hk => hz k (by simpa using hk)),
    Finset.sum_range, Finset.sum_range]

theorem chain0 (h : Fin 4) (q : Fin 512) (e : Fin 128) (hR : ∀ n, ∃ r : ℝ, qk x3 x4 ⟨2 * h.val, by omega⟩ q n = (r : EReal))
    (h1 : vv x5 ⟨2 * h.val, by omega⟩ ⟨128, by omega⟩ = fun _ => 1) :
    fo (end0 i x5 (lastSt i x3 x4 x5) h) (ix3 0 e q)
      = soft (fun k => sg x3 x4 ⟨2 * h.val, by omega⟩ q (512 * (2 * (i 2).val) + q.val) k.val) (fun k => vv x5 ⟨2 * h.val, by omega⟩ ⟨e.val, by omega⟩ k.val) := by
  have hi := i2_lt i
  unfold end0 lastSt
  rw [trips_t1]
  obtain ⟨ga, gI⟩ := trips_inv (p := 512 * (2 * (i 2).val) + q.val) i (x5 := x5) hR (i 2).val (le_refl _) (by omega)
  obtain ⟨M, hM⟩ := step_dac hR gI (V := vL0 i x5 h) ga (cut_vv x5 _ ⟨2 * h.val, by omega⟩ (2 * (i 2).val) (by omega) (fun e k' => by
      rw [vL0_at i x5 h e k' (by omega)]
      congr 1
      funext a
      apply Fin.ext
      match a with
      | ⟨0, _⟩ => rfl
      | ⟨1, _⟩ => show 2 * (i 2).val = 2 * (i 2).val; rfl
      | ⟨2, _⟩ => show 144 * h.val + e.val = 144 * (2 * h.val / 2) + e.val; omega
      | ⟨3, _⟩ => rfl)) rfl
  exact quot_soft x3 x4 x5 hR h1 hM (by omega) (by omega) e

theorem chain1 (h : Fin 4) (q : Fin 512) (e : Fin 128) (hR : ∀ n, ∃ r : ℝ, qk x3 x4 ⟨2 * h.val + 1, by omega⟩ q n = (r : EReal))
    (h1 : vv x5 ⟨2 * h.val + 1, by omega⟩ ⟨128, by omega⟩ = fun _ => 1) :
    fo (end1 i x3 x4 x5 (lastSt i x3 x4 x5) h) (ix3 0 e q)
      = soft (fun k => sg x3 x4 ⟨2 * h.val + 1, by omega⟩ q (512 * (2 * (i 2).val + 1) + q.val) k.val) (fun k => vv x5 ⟨2 * h.val + 1, by omega⟩ ⟨e.val, by omega⟩ k.val) := by
  have hi := i2_lt i
  unfold end1 lastSt
  rw [trips_t1]
  obtain ⟨ga, gI⟩ := trips_inv (p := 512 * (2 * (i 2).val + 1) + q.val) i (x5 := x5) hR (i 2).val (le_refl _) (by omega)
  have g1 := step_ac hR gI (V := vL0 i x5 h) ga (cut_vv x5 _ ⟨2 * h.val + 1, by omega⟩ (2 * (i 2).val) (by omega) (fun e k' => by
      rw [vL0_at i x5 h e k' (by omega)]
      congr 1
      funext a
      apply Fin.ext
      match a with
      | ⟨0, _⟩ => rfl
      | ⟨1, _⟩ => show 2 * (i 2).val = 2 * (i 2).val; rfl
      | ⟨2, _⟩ => show 144 * h.val + e.val = 144 * ((2 * h.val + 1) / 2) + e.val; omega
      | ⟨3, _⟩ => rfl)) (by omega)
  have h2 := fun x => score_qk x3 x4 (kL i x4 h) ⟨2 * h.val + 1, by omega⟩ q (2 * (i 2).val + 1) (by omega) (fun k' d => by
      rw [kL_at i x4 h k' d (by omega)]
      congr 1
      funext a
      apply Fin.ext
      match a with
      | ⟨0, _⟩ => rfl
      | ⟨1, _⟩ => show 512 * (2 * (i 2).val + 1) + k'.val = 512 * (2 * (i 2).val + 1) + k'.val; rfl
      | ⟨2, _⟩ => show 256 * h.val + d.val = 256 * ((2 * h.val + 1) / 2) + d.val; omega) x
  obtain ⟨M, hM⟩ := step_dac hR g1 (V := vL1 i x5 h) h2 (cut_vv x5 _ ⟨2 * h.val + 1, by omega⟩ (2 * (i 2).val + 1) (by omega) (fun e k' => by
      rw [vL1_at i x5 h e k' (by omega)]
      congr 1
      funext a
      apply Fin.ext
      match a with
      | ⟨0, _⟩ => rfl
      | ⟨1, _⟩ => show 2 * (i 2).val + 1 = 2 * (i 2).val + 1; rfl
      | ⟨2, _⟩ => show 144 * h.val + e.val = 144 * ((2 * h.val + 1) / 2) + e.val; omega
      | ⟨3, _⟩ => rfl)) rfl
  exact quot_soft x3 x4 x5 hR h1 hM (by omega) (by omega) e

end Cert.Attn
end
-- ==== Proof.Attn.OutAt.lean ====
module

public import proofs.«01_k».proof.Proof.Attn.Chain

/-! Entries of the block a point stores. -/

@[expose] public section
set_option maxRecDepth 65536
noncomputable section
namespace Cert.Attn
open Cert.KernelIdeal Cert.KernelIdeal.Gen Idealize.ShloMosaic Idealize.ShloMosaic.TcCoe

theorem canon_here (off : Fin S2x512x512.rank → ℕ) (inb : ∀ d, off d + S1x128x512.size d ≤ S2x512x512.size d) (w : Vec Ideal S1x128x512 .bf16) (L : List (View.Piece (Elt Ideal) S2x512x512 .bf16))
    (r h : ℕ) (hr : r < 2) (hh : h < 4) (ho : off = ![r, 128 * h, 0]) (e : Fin 128) (q : Fin 512) :
    View.canon (Val := Elt Ideal) (⟨Rect.unit (s := S2x512x512) off S1x128x512.size inb, w⟩ :: L) (ix3 ⟨r, hr⟩ ⟨128 * h + e.val, by omega⟩ q) = w (ix3 0 e q) := by
  subst ho
  have hc := View.canon_cons_emb (Val := Elt Ideal) (Rect.unit (s := S2x512x512) ![r, 128 * h, 0] S1x128x512.size inb) w L (ix3 0 e q)
  refine Eq.trans (congrArg _ ?_) hc
  funext a
  apply Fin.ext
  match a with
  | ⟨0, _⟩ => show r = r + 1 * 0; omega
  | ⟨1, _⟩ => show 128 * h + e.val = 128 * h + 1 * e.val; omega
  | ⟨2, _⟩ => show q.val = 0 + 1 * q.val; omega

theorem canon_past (off : Fin S2x512x512.rank → ℕ) (inb : ∀ d, off d + S1x128x512.size d ≤ S2x512x512.size d) (w : Vec Ideal S1x128x512 .bf16) (L : List (View.Piece (Elt Ideal) S2x512x512 .bf16))
    (r h r' h' : ℕ) (hr : r < 2) (hh : h < 4) (ho : off = ![r', 128 * h', 0]) (hne : r' ≠ r ∨ h' ≠ h) (e : Fin 128) (q : Fin 512) :
    View.canon (Val := Elt Ideal) (⟨Rect.unit (s := S2x512x512) off S1x128x512.size inb, w⟩ :: L) (ix3 ⟨r, hr⟩ ⟨128 * h + e.val, by omega⟩ q)
      = View.canon (Val := Elt Ideal) L (ix3 ⟨r, hr⟩ ⟨128 * h + e.val, by omega⟩ q) := by
  subst ho
  refine View.canon_cons_of_not_mem _ L ?_
  rw [Rect.mem_set_unit]
  intro hm
  have h0 : r' ≤ r ∧ r < r' + 1 := hm 0
  have h1 : 128 * h' ≤ 128 * h + e.val ∧ 128 * h + e.val < 128 * h' + 128 := hm 1
  omega

theorem pieces0 (u0 u1 : Fin 4 → Vec Ideal S1x128x512 .bf16) (h : Fin 4) (e : Fin 128) (q : Fin 512) :
    View.canon (Val := Elt Ideal) (pieces u0 u1) (ix3 ⟨0, by omega⟩ ⟨128 * h.val + e.val, by omega⟩ q) = u0 h (ix3 0 e q) := by
  unfold pieces
  fin_cases h
  · exact (canon_past _ _ _ _ 0 0 1 3 (by omega) (by omega) rfl (by omega) e q).trans <| (canon_past _ _ _ _ 0 0 0 3 (by omega) (by omega) rfl (by omega) e q).trans <| (canon_past _ _ _ _ 0 0 1 2 (by omega) (by omega) rfl (by omega) e q).trans <| (canon_past _ _ _ _ 0 0 0 2 (by omega) (by omega) rfl (by omega) e q).trans <| (canon_past _ _ _ _ 0 0 1 1 (by omega) (by omega) rfl (by omega) e q).trans <| (canon_past _ _ _ _ 0 0 0 1 (by omega) (by omega) rfl (by omega) e q).trans <| (canon_past _ _ _ _ 0 0 1 0 (by omega) (by omega) rfl (by omega) e q).trans <| canon_here _ _ _ _ 0 0 (by omega) (by omega) rfl e q
  · exact (canon_past _ _ _ _ 0 1 1 3 (by omega) (by omega) rfl (by omega) e q).trans <| (canon_past _ _ _ _ 0 1 0 3 (by omega) (by omega) rfl (by omega) e q).trans <| (canon_past _ _ _ _ 0 1 1 2 (by omega) (by omega) rfl (by omega) e q).trans <| (canon_past _ _ _ _ 0 1 0 2 (by omega) (by omega) rfl (by omega) e q).trans <| (canon_past _ _ _ _ 0 1 1 1 (by omega) (by omega) rfl (by omega) e q).trans <| canon_here _ _ _ _ 0 1 (by omega) (by omega) rfl e q
  · exact (canon_past _ _ _ _ 0 2 1 3 (by omega) (by omega) rfl (by omega) e q).trans <| (canon_past _ _ _ _ 0 2 0 3 (by omega) (by omega) rfl (by omega) e q).trans <| (canon_past _ _ _ _ 0 2 1 2 (by omega) (by omega) rfl (by omega) e q).trans <| canon_here _ _ _ _ 0 2 (by omega) (by omega) rfl e q
  · exact (canon_past _ _ _ _ 0 3 1 3 (by omega) (by omega) rfl (by omega) e q).trans <| canon_here _ _ _ _ 0 3 (by omega) (by omega) rfl e q

theorem pieces1 (u0 u1 : Fin 4 → Vec Ideal S1x128x512 .bf16) (h : Fin 4) (e : Fin 128) (q : Fin 512) :
    View.canon (Val := Elt Ideal) (pieces u0 u1) (ix3 ⟨1, by omega⟩ ⟨128 * h.val + e.val, by omega⟩ q) = u1 h (ix3 0 e q) := by
  unfold pieces
  fin_cases h
  · exact (canon_past _ _ _ _ 1 0 1 3 (by omega) (by omega) rfl (by omega) e q).trans <| (canon_past _ _ _ _ 1 0 0 3 (by omega) (by omega) rfl (by omega) e q).trans <| (canon_past _ _ _ _ 1 0 1 2 (by omega) (by omega) rfl (by omega) e q).trans <| (canon_past _ _ _ _ 1 0 0 2 (by omega) (by omega) rfl (by omega) e q).trans <| (canon_past _ _ _ _ 1 0 1 1 (by omega) (by omega) rfl (by omega) e q).trans <| (canon_past _ _ _ _ 1 0 0 1 (by omega) (by omega) rfl (by omega) e q).trans <| canon_here _ _ _ _ 1 0 (by omega) (by omega) rfl e q
  · exact (canon_past _ _ _ _ 1 1 1 3 (by omega) (by omega) rfl (by omega) e q).trans <| (canon_past _ _ _ _ 1 1 0 3 (by omega) (by omega) rfl (by omega) e q).trans <| (canon_past _ _ _ _ 1 1 1 2 (by omega) (by omega) rfl (by omega) e q).trans <| (canon_past _ _ _ _ 1 1 0 2 (by omega) (by omega) rfl (by omega) e q).trans <| canon_here _ _ _ _ 1 1 (by omega) (by omega) rfl e q
  · exact (canon_past _ _ _ _ 1 2 1 3 (by omega) (by omega) rfl (by omega) e q).trans <| (canon_past _ _ _ _ 1 2 0 3 (by omega) (by omega) rfl (by omega) e q).trans <| canon_here _ _ _ _ 1 2 (by omega) (by omega) rfl e q
  · exact canon_here _ _ _ _ 1 3 (by omega) (by omega) rfl e q

variable (i : grid0.Coords) (x3 : Vec Ideal S2x1024x512 .bf16) (x4 : Vec Ideal S1x4096x1024 .bf16) (x5 : Vec Ideal S1x8x576x512 .bf16)

/-- Entry by entry, a point's block is the softmax of the scores, applied to the values. -/
theorem out_at (r : Fin 2) (h : Fin 4) (q : Fin 512) (e : Fin 128) (hR : ∀ n, ∃ y : ℝ, qk x3 x4 ⟨2 * h.val + r.val, by omega⟩ q n = (y : EReal))
    (h1 : vv x5 ⟨2 * h.val + r.val, by omega⟩ ⟨128, by omega⟩ = fun _ => 1) :
    out i x3 x4 x5 (ix3 r ⟨128 * h.val + e.val, by omega⟩ q)
      = soft (fun k => sg x3 x4 ⟨2 * h.val + r.val, by omega⟩ q (512 * (2 * (i 2).val + r.val) + q.val) k.val) (fun k => vv x5 ⟨2 * h.val + r.val, by omega⟩ ⟨e.val, by omega⟩ k.val) := by
  unfold out
  rw [View.read_writes_junk_eq_canon]
  unfold pcs
  fin_cases r
  · exact (pieces0 _ _ h e q).trans (chain0 i x3 x4 x5 h q e hR h1)
  · exact (pieces1 _ _ h e q).trans (chain1 i x3 x4 x5 h q e hR h1)

end Cert.Attn
end
-- ==== Proof.Attn.Pack.lean ====
module
public import proofs.«01_k».proof.Proof.Gen.KernelIdeal.Frame.Runs
public import Idealize.ShloMosaic.Lib.Claim
public import Idealize.ShloMosaic.Lib.Pointwise
public import Idealize.ShloMosaic.Lib.Pipeline.ValueKit
public import Idealize.ShloMosaic.Lib.Pipeline.ValueKit.Point

/-! The arrays the host code packs for the attention kernel, and their entries. -/

@[expose] public section
set_option maxRecDepth 65536
noncomputable section
namespace Cert.Attn
open Cert.KernelIdeal Cert.KernelIdeal.Gen Idealize.ShloMosaic Idealize.ShloMosaic.TcCoe Idealize.SL.Sem

/-- The rotated part of the queries with zeros after each half. -/
def padQ (x : Vec Ideal S8x4096x8x64 .f32) : Vec Ideal S8x4096x8x128 .f32 :=
  concatenate S8x4096x8x128 3
    [⟨S8x4096x8x64, pad S8x4096x8x64 ![0, 0, 0, 0] ![0, 0, 0, 32] ![0, 0, 0, 0] (extractStridedSlice S8x4096x8x32 ![0, 0, 0, 0] x slices_S8x4096x8x64_S8x4096x8x32_0_0_0_0)
        (sitofp (F := Ideal) .f32 (constantI S_ 32 0#32)) pads_S8x4096x8x32_S8x4096x8x64_000_000_000_0320 h_S_⟩,
     ⟨S8x4096x8x64, pad S8x4096x8x64 ![0, 0, 0, 0] ![0, 0, 0, 32] ![0, 0, 0, 0] (extractStridedSlice S8x4096x8x32 ![0, 0, 0, 32] x slices_S8x4096x8x64_S8x4096x8x32_0_0_0_32)
        (sitofp (F := Ideal) .f32 (constantI S_ 32 0#32)) pads_S8x4096x8x32_S8x4096x8x64_000_000_000_0320 h_S_⟩]
    concatenates_S8x4096x8x64_S8x4096x8x64_S8x4096x8x128_d3

/-- The rotated part of the keys with zeros after each half. -/
def padK (x : Vec Ideal S8x4096x64 .f32) : Vec Ideal S8x4096x128 .f32 :=
  concatenate S8x4096x128 2
    [⟨S8x4096x64, pad S8x4096x64 ![0, 0, 0] ![0, 0, 32] ![0, 0, 0] (extractStridedSlice S8x4096x32 ![0, 0, 0] x slices_S8x4096x64_S8x4096x32_0_0_0)
        (sitofp (F := Ideal) .f32 (constantI S_ 32 0#32)) pads_S8x4096x32_S8x4096x64_000_000_0320 h_S_⟩,
     ⟨S8x4096x64, pad S8x4096x64 ![0, 0, 0] ![0, 0, 32] ![0, 0, 0] (extractStridedSlice S8x4096x32 ![0, 0, 32] x slices_S8x4096x64_S8x4096x32_0_0_32)
        (sitofp (F := Ideal) .f32 (constantI S_ 32 0#32)) pads_S8x4096x32_S8x4096x64_000_000_0320 h_S_⟩]
    concatenates_S8x4096x64_S8x4096x64_S8x4096x128_d2

/-- The scale on the queries. -/
def qs : Vec Ideal S_ .f32 := Host.divf (F := Ideal) (constant (F := Ideal) S_ .f32 0x3D93CD3A#32) (Host.log (F := Ideal) (constant (F := Ideal) S_ .f32 0x40000000#32))

/-- The queries as the kernel takes them. -/
def packQ (x : Vec Ideal S8x4096x8x128 .f32) (y : Vec Ideal S8x4096x8x64 .f32) : Vec Ideal S64x2048x512 .bf16 :=
  transpose S64x2048x512 [0, 2, 1] (shapeCast S64x512x2048
    (truncf .bf16 (mulf (concatenate S8x4096x8x256 3 [⟨S8x4096x8x128, x⟩, ⟨S8x4096x8x128, padQ y⟩] concatenates_S8x4096x8x128_S8x4096x8x128_S8x4096x8x256_d3 : FVec Ideal S8x4096x8x256 .f32)
      (broadcastInDim S8x4096x8x256 ![] bcast_S_S8x4096x8x256 qs)) bitsLt_bf16_f32 : Vec Ideal S8x4096x8x256 .bf16) shapeCasts_S8x4096x8x256_S64x512x2048) transposes_S64x512x2048_S64x2048x512_0_2_1

/-- The keys as the kernel takes them. -/
def packK (x : Vec Ideal S8x4096x8x128 .f32) (y : Vec Ideal S8x4096x64 .f32) : Vec Ideal S8x4096x2048 .bf16 :=
  shapeCast S8x4096x2048 (shapeCast S32768x2048
    (truncf .bf16 (concatenate S8x4096x8x256 3 [⟨S8x4096x8x128, x⟩, ⟨S8x4096x8x128, broadcastInDim S8x4096x8x128 ![0, 1, 2, 3] bcast_S8x4096x1x128_S8x4096x8x128_0_1_2_3
      (broadcastInDim S8x4096x1x128 ![0, 1, 3] bcast_S8x4096x128_S8x4096x1x128_0_1_3 (padK y))⟩] concatenates_S8x4096x8x128_S8x4096x8x128_S8x4096x8x256_d3 : FVec Ideal S8x4096x8x256 .f32) bitsLt_bf16_f32 : Vec Ideal S8x4096x8x256 .bf16)
    shapeCasts_S8x4096x8x256_S32768x2048) shapeCasts_S32768x2048_S8x4096x2048

/-- The values as the kernel takes them, rows of ones below. -/
def packV (x : Vec Ideal S8x4096x8x128 .f32) : Vec Ideal S8x8x1152x512 .bf16 :=
  shapeCast S8x8x1152x512 (transpose S64x1152x512 [0, 2, 1] (shapeCast S64x512x1152
    (truncf .bf16 (concatenate S8x4096x8x144 3 [⟨S8x4096x8x128, x⟩, ⟨S8x4096x8x16, broadcastInDim S8x4096x8x16 ![] bcast_S_S8x4096x8x16 (constant S_ .f32 0x3F800000#32)⟩]
      concatenates_S8x4096x8x128_S8x4096x8x16_S8x4096x8x144_d3 : FVec Ideal S8x4096x8x144 .f32) bitsLt_bf16_f32 : Vec Ideal S8x4096x8x144 .bf16) shapeCasts_S8x4096x8x144_S64x512x1152)
    transposes_S64x512x1152_S64x1152x512_0_2_1 : Vec Ideal S64x1152x512 .bf16) shapeCasts_S64x1152x512_S8x8x1152x512

end Cert.Attn
end
-- ==== Proof.Attn.PackAt.lean ====
module

public import proofs.«01_k».proof.Proof.Attn.Pack
public import Idealize.ShloMosaic.Lib.Pointwise

/-! Entries of the arrays the host packs for the kernel. -/

@[expose] public section
set_option maxRecDepth 65536
noncomputable section
namespace Cert.Attn
open Cert.KernelIdeal Cert.KernelIdeal.Gen Idealize.ShloMosaic Idealize.ShloMosaic.TcCoe Idealize.SL.Sem

/-- The factor on the queries. -/
def c0 : EReal := Ideal.div (Ideal.ofBits .f32 0x3D93CD3A#32) (Ideal.log (Ideal.ofBits .f32 0x40000000#32))

theorem fzero : (FloatOps.sitofp (F := Ideal) .f32 0#32 : EReal) = 0 := by
  show (((0#32 : BitVec 32).toInt : ℝ) : EReal) = 0
  simp

theorem padQ_at (x : Vec Ideal S8x4096x8x64 .f32) (b : Fin 8) (s : Fin 4096) (h : Fin 8) (d : Fin 128) :
    padQ x (ix4 b s h d) = if h1 : d.val < 64 then if h2 : d.val < 32 then x (ix4 b s h ⟨d.val, by omega⟩) else 0
      else if h2 : d.val - 64 < 32 then x (ix4 b s h ⟨32 + (d.val - 64), by omega⟩) else 0 := by
  rw [← fzero]
  pointwise [padQ]

theorem packQ_at (x : Vec Ideal S8x4096x8x128 .f32) (y : Vec Ideal S8x4096x8x64 .f32) (T : Fin 64) (e : Fin 2048) (q : Fin 512) :
    packQ x y (ix3 T e q) = (if h : e.val % 256 < 128 then x (ix4 ⟨T.val / 8, by omega⟩ ⟨T.val % 8 * 512 + q.val, by omega⟩ ⟨e.val / 256, by omega⟩ ⟨e.val % 256, h⟩)
      else padQ y (ix4 ⟨T.val / 8, by omega⟩ ⟨T.val % 8 * 512 + q.val, by omega⟩ ⟨e.val / 256, by omega⟩ ⟨e.val % 256 - 128, by omega⟩)) * c0 := by
  unfold c0
  pointwise [packQ, qs]

theorem packK_at (x : Vec Ideal S8x4096x8x128 .f32) (y : Vec Ideal S8x4096x64 .f32) (b : Fin 8) (s : Fin 4096) (e : Fin 2048) :
    packK x y (ix3 b s e) = if h : e.val % 256 < 128 then x (ix4 b s ⟨e.val / 256, by omega⟩ ⟨e.val % 256, h⟩)
      else if h1 : e.val % 256 - 128 < 64 then if h2 : e.val % 256 - 128 < 32 then y (ix3 b s ⟨e.val % 256 - 128, by omega⟩) else 0
      else if h2 : e.val % 256 - 128 - 64 < 32 then y (ix3 b s ⟨32 + (e.val % 256 - 128 - 64), by omega⟩) else 0 := by
  rw [← fzero]
  pointwise [packK, padK]

theorem packV_at (x : Vec Ideal S8x4096x8x128 .f32) (b j : Fin 8) (e : Fin 1152) (q : Fin 512) :
    packV x (ix4 b j e q) = if h : e.val % 144 < 128 then x (ix4 b ⟨(b.val * 8 + j.val) % 8 * 512 + q.val, by omega⟩ ⟨e.val / 144, by omega⟩ ⟨e.val % 144, h⟩) else 1 := by
  pointwise [packV]

end Cert.Attn
end
-- ==== Proof.Attn.RefAt.lean ====
module

public import proofs.«01_k».proof.Proof.Attn.At
public import proofs.«01_k».proof.Proof.Attn.Online
public import proofs.«01_k».proof.Proof.Gen.ReferenceIdeal.Read

/-! The attention reference read at an entry of its result. -/

@[expose] public section
set_option maxRecDepth 65536
noncomputable section
namespace Cert.ReferenceIdeal.At
open Cert.ReferenceIdeal Cert.ReferenceIdeal.Read Idealize.ShloMosaic Cert.Online

variable (x0 : Vec Ideal S8x4096x8x128 .f32) (x1 : Vec Ideal S8x4096x8x64 .f32) (x2 : Vec Ideal S8x4096x8x128 .f32) (x3 : Vec Ideal S8x4096x64 .f32) (x4 : Vec Ideal S8x4096x8x128 .f32)

/-- The score of key `n` against query `s`, before the mask. -/
def xs (b h : Fin 8) (s n : Fin 4096) : EReal :=
  ((∑ d : Fin 128, x0 (ix4 b s h d) * x2 (ix4 b n h d)) + ∑ d : Fin 64, x3 (ix3 b n d) * x1 (ix4 b s h d)) * Ideal.ofBits .f32 0x3D93CD3A#32

theorem v5_at (b h : Fin 8) (s n : Fin 4096) : val_main_v5 (F := Ideal) x0 x1 x2 x3 (ix4 b h s n) = xs x0 x1 x2 x3 b h s n := by
  have e2 : idx_main_v2 (ix4 b h s n) = ix4 b n s h := by funext a; match a with | ⟨0, _⟩ => rfl | ⟨1, _⟩ => rfl | ⟨2, _⟩ => rfl | ⟨3, _⟩ => rfl
  have l0 : ∀ k, lidx_main_v0 (ix4 b h s n) k = ix4 b s h k := fun k => by funext a; match a with | ⟨0, _⟩ => rfl | ⟨1, _⟩ => rfl | ⟨2, _⟩ => rfl | ⟨3, _⟩ => rfl
  have r0 : ∀ k, ridx_main_v0 (ix4 b h s n) k = ix4 b n h k := fun k => by funext a; match a with | ⟨0, _⟩ => rfl | ⟨1, _⟩ => rfl | ⟨2, _⟩ => rfl | ⟨3, _⟩ => rfl
  have l1 : ∀ k, lidx_main_v1 (ix4 b n s h) k = ix3 b n k := fun k => by funext a; match a with | ⟨0, _⟩ => rfl | ⟨1, _⟩ => rfl | ⟨2, _⟩ => rfl
  have r1 : ∀ k, ridx_main_v1 (ix4 b n s h) k = ix4 b s h k := fun k => by funext a; match a with | ⟨0, _⟩ => rfl | ⟨1, _⟩ => rfl | ⟨2, _⟩ => rfl | ⟨3, _⟩ => rfl
  rw [val_main_v5_apply, val_main_v3_apply, val_main_v0_apply, val_main_v2_apply, e2, val_main_v1_apply, val_main_v4_apply]
  simp only [l0, r0, l1, r1]
  rfl

/-- The masked score. -/
def xm (b h : Fin 8) (s n : Fin 4096) : EReal := if n.val ≤ s.val then xs x0 x1 x2 x3 b h s n else ⊥

theorem v12_at (b h : Fin 8) (s n : Fin 4096) : val_main_v12 (F := Ideal) x0 x1 x2 x3 (ix4 b h s n) = xm x0 x1 x2 x3 b h s n := by
  have e1 : idx_main_call0_v1 (ix4 b h s n) = ix2 s n := by funext a; match a with | ⟨0, _⟩ => rfl | ⟨1, _⟩ => rfl
  have e9 : idx_main_v9 (ix2 s n) = ix2 0 n := by funext a; match a with | ⟨0, _⟩ => rfl | ⟨1, _⟩ => rfl
  have e10 : idx_main_v10 (ix2 s n) = ix2 s 0 := by funext a; match a with | ⟨0, _⟩ => rfl | ⟨1, _⟩ => rfl
  have e7 : idx_main_v7 (ix2 0 n) = ix1 n := by funext a; match a with | ⟨0, _⟩ => rfl
  have e8 : idx_main_v8 (ix2 s 0) = ix1 s := by funext a; match a with | ⟨0, _⟩ => rfl
  rw [val_main_v12_apply, v5_at, val_main_call0_v1_apply, e1, val_main_v11_apply, val_main_v9_apply, e9, val_main_v10_apply, e10, val_main_v7_apply, e7, val_main_v8_apply, e8,
    val_main_v6_apply, val_main_v6_apply, val_main_call0_v2_apply, val_main_call0_v0_apply, val_main_cst_0_apply]
  show Scalar.select (IntOp.cmpi .sle (BitVec.ofNat 32 n.val) (BitVec.ofNat 32 s.val)) _ (Ideal.ofBits .f32 0xFF800000#32) = _
  rw [Cert.Attn.sle_small n.isLt s.isLt, Cert.Attn.ninf]
  unfold xm
  by_cases hc : n.val ≤ s.val
  · rw [if_pos hc, if_pos hc]; rfl
  · rw [if_neg hc, if_neg hc]; rfl

variable (b h : Fin 8) (s : Fin 4096)

theorem v13_at : val_main_v13 (F := Ideal) x0 x1 x2 x3 (ix3 b h s) = Finset.fold max ⊥ (fun n : Fin 4096 => xm x0 x1 x2 x3 b h s n) Finset.univ := by
  simp only [← v12_at]
  rw [← Cert.Attn.ninf]
  pointwise [val_main_v13, val_main_cst_1]

variable (hR : ∀ n, ∃ r : ℝ, xs x0 x1 x2 x3 b h s n = (r : EReal))
include hR

theorem xm_top (n : Fin 4096) : xm x0 x1 x2 x3 b h s n ≠ ⊤ := by
  unfold xm
  obtain ⟨r, hr⟩ := hR n
  split
  · rw [hr]; exact EReal.coe_ne_top r
  · exact bot_ne_top

theorem xm_bot : xm x0 x1 x2 x3 b h s ⟨0, by omega⟩ ≠ ⊥ := by
  unfold xm
  obtain ⟨r, hr⟩ := hR ⟨0, by omega⟩
  rw [if_pos (Nat.zero_le _), hr]
  exact EReal.coe_ne_bot r

/-- The weighted values: the softmax of the masked scores. -/
theorem v24_at (e : Fin 128) :
    val_main_v24 (F := Ideal) x0 x1 x2 x3 x4 (ix4 b h e s)
      = Ideal.div (∑ n : Fin 4096, x4 (ix4 b n h e) * Ideal.exp (xm x0 x1 x2 x3 b h s n)) (∑ n : Fin 4096, Ideal.exp (xm x0 x1 x2 x3 b h s n)) := by
  obtain ⟨μ, hμ⟩ := max_real ⊥ (fun n : Fin 4096 => xm x0 x1 x2 x3 b h s n) bot_ne_top (xm_top x0 x1 x2 x3 b h s hR) ⟨⟨0, by omega⟩, xm_bot x0 x1 x2 x3 b h s hR⟩
  have h15 : val_main_v15 (F := Ideal) x0 x1 x2 x3 (ix3 b h s) = (μ : EReal) := by
    rw [val_main_v15_apply, v13_at, val_main_v14_apply, ← hμ]
    show max (Ideal.ofBits .f32 0xFF800000#32) _ = _
    rw [Cert.Attn.ninf]
  have l24 : ∀ k, lidx_main_v24 (ix4 b h e s) k = ix4 b k h e := fun k => by funext a; match a with | ⟨0, _⟩ => rfl | ⟨1, _⟩ => rfl | ⟨2, _⟩ => rfl | ⟨3, _⟩ => rfl
  have r24 : ∀ k, ridx_main_v24 (ix4 b h e s) k = ix4 b h s k := fun k => by funext a; match a with | ⟨0, _⟩ => rfl | ⟨1, _⟩ => rfl | ⟨2, _⟩ => rfl | ⟨3, _⟩ => rfl
  have e17 : ∀ n, idx_main_v17 (ix4 b h s n) = ix4 b h s 0 := fun k => by funext a; match a with | ⟨0, _⟩ => rfl | ⟨1, _⟩ => rfl | ⟨2, _⟩ => rfl | ⟨3, _⟩ => rfl
  have e16 : idx_main_v16 (ix4 b h s 0) = ix3 b h s := by funext a; match a with | ⟨0, _⟩ => rfl | ⟨1, _⟩ => rfl | ⟨2, _⟩ => rfl
  have e22 : ∀ n, idx_main_v22 (ix4 b h s n) = ix4 b h s 0 := fun k => by funext a; match a with | ⟨0, _⟩ => rfl | ⟨1, _⟩ => rfl | ⟨2, _⟩ => rfl | ⟨3, _⟩ => rfl
  have e21 : idx_main_v21 (ix4 b h s 0) = ix3 b h s := by funext a; match a with | ⟨0, _⟩ => rfl | ⟨1, _⟩ => rfl | ⟨2, _⟩ => rfl
  have e20 : ∀ n, idx_main_v20 (ix3 b h s) n = ix4 b h s n := fun k => by funext a; match a with | ⟨0, _⟩ => rfl | ⟨1, _⟩ => rfl | ⟨2, _⟩ => rfl | ⟨3, _⟩ => rfl
  have h19 : ∀ n, val_main_v19 (F := Ideal) x0 x1 x2 x3 (ix4 b h s n) = Ideal.exp (xm x0 x1 x2 x3 b h s n - (μ : EReal)) := fun n => by
    rw [val_main_v19_apply, val_main_v18_apply, v12_at, val_main_v17_apply, e17, val_main_v16_apply, e16, h15]
    rfl
  have h22 : ∀ n, val_main_v22 (F := Ideal) x0 x1 x2 x3 (ix4 b h s n) = 0 + ∑ k, Ideal.exp (xm x0 x1 x2 x3 b h s k - (μ : EReal)) := fun n => by
    rw [val_main_v22_apply, e22, val_main_v21_apply, e21, val_main_v20_apply, val_main_cst_3_apply]
    simp only [e20, h19, Ideal.ofBits_def, Ideal.ofBits_zero_f32]
  rw [val_main_v24_apply]
  simp only [l24, r24, val_main_v23_apply, h19, h22]
  exact shifted (fun n => xm x0 x1 x2 x3 b h s n) (fun n => x4 (ix4 b n h e)) (xm_top x0 x1 x2 x3 b h s hR) ⟨0, by omega⟩ (xm_bot x0 x1 x2 x3 b h s hR) μ

omit hR in
/-- An entry of the result. -/
theorem v28_at (T : Fin 64) (g : Fin 8) (e : Fin 128) (q : Fin 512) :
    val_main_v28 (F := Ideal) x0 x1 x2 x3 x4 (ix3 T ⟨128 * g.val + e.val, by omega⟩ q)
      = val_main_v24 (F := Ideal) x0 x1 x2 x3 x4 (ix4 ⟨T.val / 8, by omega⟩ g e ⟨T.val % 8 * 512 + q.val, by omega⟩) := by
  have e27 : idx_main_v27 (ix3 T ⟨128 * g.val + e.val, by omega⟩ q) = ix3 T q ⟨128 * g.val + e.val, by omega⟩ := by funext a; match a with | ⟨0, _⟩ => rfl | ⟨1, _⟩ => rfl | ⟨2, _⟩ => rfl
  have e26 : idx_main_v26 (ix3 T q ⟨128 * g.val + e.val, by omega⟩) = ix4 ⟨T.val / 8, by omega⟩ ⟨T.val % 8 * 512 + q.val, by omega⟩ g e := by
    funext a
    apply Fin.ext
    match a with
    | ⟨0, _⟩ => show ((T.val * 512 + q.val) * 1024 + (128 * g.val + e.val)) / 4194304 = T.val / 8; omega
    | ⟨1, _⟩ => show ((T.val * 512 + q.val) * 1024 + (128 * g.val + e.val)) / 1024 % 4096 = T.val % 8 * 512 + q.val; omega
    | ⟨2, _⟩ => show ((T.val * 512 + q.val) * 1024 + (128 * g.val + e.val)) / 128 % 8 = g.val; omega
    | ⟨3, _⟩ => show ((T.val * 512 + q.val) * 1024 + (128 * g.val + e.val)) % 128 = e.val; omega
  have e25 : ∀ (b : Fin 8) (s : Fin 4096), idx_main_v25 (ix4 b s g e) = ix4 b g e s := fun b s => by funext a; match a with | ⟨0, _⟩ => rfl | ⟨1, _⟩ => rfl | ⟨2, _⟩ => rfl | ⟨3, _⟩ => rfl
  rw [val_main_v28_apply, val_main_v27_apply, e27, val_main_v26_apply, e26, val_main_v25_apply, e25]
  rfl

end Cert.ReferenceIdeal.At
end
-- ==== Proof.Attn.HostQ.lean ====
module
public import proofs.«01_k».proof.Proof.Gen.KernelIdeal.Frame.Runs
public import Idealize.ShloMosaic.Lib.Claim
public import Idealize.ShloMosaic.Lib.Pointwise
public import Idealize.ShloMosaic.Lib.Pipeline.ValueKit
public import Idealize.ShloMosaic.Lib.Pipeline.ValueKit.Point
public import proofs.«01_k».proof.Proof.Attn.Pack

/-! What the host code leaves in one array the attention kernel reads. -/

@[expose] public section
set_option maxRecDepth 65536
noncomputable section
namespace Cert.Attn
open Cert.KernelIdeal Cert.KernelIdeal.Gen Idealize.ShloMosaic Idealize.ShloMosaic.TcCoe Idealize.SL.Sem

set_option maxHeartbeats 2000000 in
theorem V_packQ (m : (ℓ : Loc nD τ sig) → Buf (Elt Ideal) ℓ) (c : Dev nD) : V m c main_v12 = packQ (m (c, Proc.tc.devRef main_arg0)) (m (c, Proc.tc.devRef main_arg1)) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

end Cert.Attn
end
-- ==== Proof.Attn.HostK.lean ====
module
public import proofs.«01_k».proof.Proof.Gen.KernelIdeal.Frame.Runs
public import Idealize.ShloMosaic.Lib.Claim
public import Idealize.ShloMosaic.Lib.Pointwise
public import Idealize.ShloMosaic.Lib.Pipeline.ValueKit
public import Idealize.ShloMosaic.Lib.Pipeline.ValueKit.Point
public import proofs.«01_k».proof.Proof.Attn.Pack

/-! What the host code leaves in one array the attention kernel reads. -/

@[expose] public section
set_option maxRecDepth 65536
noncomputable section
namespace Cert.Attn
open Cert.KernelIdeal Cert.KernelIdeal.Gen Idealize.ShloMosaic Idealize.ShloMosaic.TcCoe Idealize.SL.Sem

set_option maxHeartbeats 2000000 in
theorem V_packK (m : (ℓ : Loc nD τ sig) → Buf (Elt Ideal) ℓ) (c : Dev nD) : V m c main_v28 = packK (m (c, Proc.tc.devRef main_arg2)) (m (c, Proc.tc.devRef main_arg3)) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

end Cert.Attn
end
-- ==== Proof.Attn.HostV.lean ====
module
public import proofs.«01_k».proof.Proof.Gen.KernelIdeal.Frame.Runs
public import Idealize.ShloMosaic.Lib.Claim
public import Idealize.ShloMosaic.Lib.Pointwise
public import Idealize.ShloMosaic.Lib.Pipeline.ValueKit
public import Idealize.ShloMosaic.Lib.Pipeline.ValueKit.Point
public import proofs.«01_k».proof.Proof.Attn.Pack

/-! What the host code leaves in one array the attention kernel reads. -/

@[expose] public section
set_option maxRecDepth 65536
noncomputable section
namespace Cert.Attn
open Cert.KernelIdeal Cert.KernelIdeal.Gen Idealize.ShloMosaic Idealize.ShloMosaic.TcCoe Idealize.SL.Sem

set_option maxHeartbeats 2000000 in
theorem V_packV (m : (ℓ : Loc nD τ sig) → Buf (Elt Ideal) ℓ) (c : Dev nD) : V m c main_v29 = packV (m (c, Proc.tc.devRef main_arg4)) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

end Cert.Attn
end
-- ==== Proof.Attn.Score.lean ====
module

public import proofs.«01_k».proof.Proof.Attn.OutAt
public import proofs.«01_k».proof.Proof.Attn.PackAt
public import proofs.«01_k».proof.Proof.Attn.RefAt
public import proofs.«01_k».proof.Proof.Attn.HostQ
public import proofs.«01_k».proof.Proof.Attn.HostK
public import proofs.«01_k».proof.Proof.Attn.HostV
public import Idealize.ShloMosaic.Lib.Pipeline.ValueKit
public import Idealize.ShloMosaic.Lib.Pipeline.ValueKit.Point

/-! The scores the kernel computes from its packed blocks are the reference's, to the base two. -/

@[expose] public section
set_option maxRecDepth 65536
noncomputable section
namespace Cert.Attn
open Cert.KernelIdeal Cert.KernelIdeal.Gen Idealize.ShloMosaic Idealize.ShloMosaic.TcCoe Idealize.SL.Sem Cert.Online
open Cert.ReferenceIdeal.At (xs xm)

theorem scale_real : ∃ r : ℝ, 0 < r ∧ Ideal.ofBits .f32 0x3D93CD3A#32 = (r : EReal) := by
  refine ⟨_, ?_, by simp [Ideal.ofBits, Ideal.ieee, -EReal.coe_mul]; rfl⟩
  norm_num

theorem two : Ideal.ofBits .f32 0x40000000#32 = ((2 : ℝ) : EReal) := by
  simp [Ideal.ofBits, Ideal.ieee, -EReal.coe_mul]; norm_num

theorem c0_eq : ∃ r : ℝ, 0 < r ∧ Ideal.ofBits .f32 0x3D93CD3A#32 = (r : EReal) ∧ c0 = ((r / Real.log 2 : ℝ) : EReal) := by
  obtain ⟨r, hr, er⟩ := scale_real
  refine ⟨r, hr, er, ?_⟩
  unfold c0
  have hl : 0 < Real.log 2 := Real.log_pos (by norm_num)
  rw [er, two, show Ideal.log ((2 : ℝ) : EReal) = ((Real.log 2 : ℝ) : EReal) from by
    show (if (2 : ℝ) ≤ 0 then (⊥ : EReal) else ((Real.log 2 : ℝ) : EReal)) = _
    rw [if_neg (by norm_num)]]
  rw [Ideal.div_coe hl.ne', ← EReal.coe_mul]
  congr 1; field_simp

/-- The kernel's power of two is the reference's exponential. -/
theorem exp2_scale (x : ℝ) : Ideal.exp2 ((x : EReal) * c0) = Ideal.exp ((x : EReal) * Ideal.ofBits .f32 0x3D93CD3A#32) := by
  obtain ⟨r, hr, er, ec⟩ := c0_eq
  rw [er, ec, ← EReal.coe_mul, ← EReal.coe_mul]
  show (((2 : ℝ) ^ (x * (r / Real.log 2)) : ℝ) : EReal) = ((Real.exp (x * r) : ℝ) : EReal)
  have hl : 0 < Real.log 2 := Real.log_pos (by norm_num)
  rw [Real.rpow_def_of_pos (by norm_num)]
  congr 2; field_simp

/-- A packed query against a packed key: the padding adds nothing. -/
theorem packed_sum (x : Vec Ideal S8x4096x8x128 .f32) (y : Vec Ideal S8x4096x8x64 .f32) (x' : Vec Ideal S8x4096x8x128 .f32) (y' : Vec Ideal S8x4096x64 .f32)
    (T : Fin 64) (H : Fin 8) (q : Fin 512) (n : Fin 4096) :
    ∑ d : Fin 256, packK x' y' (ix3 ⟨T.val / 8, by omega⟩ n ⟨256 * H.val + d.val, by omega⟩) * packQ x y (ix3 T ⟨256 * H.val + d.val, by omega⟩ q)
      = ((∑ d : Fin 128, x (ix4 ⟨T.val / 8, by omega⟩ ⟨T.val % 8 * 512 + q.val, by omega⟩ H d) * x' (ix4 ⟨T.val / 8, by omega⟩ n H d))
        + ∑ d : Fin 64, y' (ix3 ⟨T.val / 8, by omega⟩ n d) * y (ix4 ⟨T.val / 8, by omega⟩ ⟨T.val % 8 * 512 + q.val, by omega⟩ H d)) * c0 := by
  obtain ⟨r, hr, er, ec⟩ := c0_eq
  have hc : (0 : ℝ) ≤ r / Real.log 2 := div_nonneg hr.le (Real.log_nonneg (by norm_num))
  have eH : ∀ d : ℕ, (hd : d < 256) → (⟨(256 * H.val + d) / 256, by omega⟩ : Fin 8) = H := fun d hd => Fin.ext (by show (256 * H.val + d) / 256 = H.val; omega)
  have z : ∀ a : EReal, (0 : EReal) * (0 * a) = 0 := fun a => by rw [zero_mul]
  rw [Fin.sum_univ_two_halves 128 128 rfl]
  rw [mul_comm _ c0, ec, EReal.left_distrib_of_nonneg_of_ne_top (EReal.coe_nonneg.mpr hc) (EReal.coe_ne_top _), mul_sum _ _ hc, mul_sum _ _ hc, ← ec]
  congr 1
  · refine Finset.sum_congr rfl fun d _ => ?_
    rw [packK_at, packQ_at, dif_pos (show (256 * H.val + d.val) % 256 < 128 by omega), dif_pos (show (256 * H.val + d.val) % 256 < 128 by omega)]
    have ed : (⟨(256 * H.val + d.val) % 256, by omega⟩ : Fin 128) = d := Fin.ext (by show (256 * H.val + d.val) % 256 = d.val; omega)
    rw [eH d.val (by omega), ed]
    rw [mul_comm c0, mul_assoc, mul_left_comm]
  · have ev : ∀ d : ℕ, d < 128 → (256 * H.val + (128 + d)) % 256 - 128 = d := fun d hd => by omega
    have nv : ∀ d : ℕ, d < 128 → ¬ (256 * H.val + (128 + d)) % 256 < 128 := fun d hd => by omega
    have lo : ∀ d : Fin 32, packK x' y' (ix3 ⟨T.val / 8, by omega⟩ n ⟨256 * H.val + (128 + d.val), by omega⟩) * packQ x y (ix3 T ⟨256 * H.val + (128 + d.val), by omega⟩ q)
        = c0 * (y' (ix3 ⟨T.val / 8, by omega⟩ n ⟨d.val, by omega⟩) * y (ix4 ⟨T.val / 8, by omega⟩ ⟨T.val % 8 * 512 + q.val, by omega⟩ H ⟨d.val, by omega⟩)) := fun d => by
      have h0 := ev d.val (by omega)
      rw [packK_at, packQ_at, dif_neg (nv d.val (by omega)), dif_neg (nv d.val (by omega)), padQ_at]
      simp only [h0, eH (128 + d.val) (by omega)]
      rw [dif_pos (show d.val < 64 by omega), dif_pos d.isLt, dif_pos (show d.val < 64 by omega), dif_pos d.isLt]
      rw [mul_comm c0, mul_assoc]
    have lz : ∀ d : Fin 32, packK x' y' (ix3 ⟨T.val / 8, by omega⟩ n ⟨256 * H.val + (128 + (32 + d.val)), by omega⟩) * packQ x y (ix3 T ⟨256 * H.val + (128 + (32 + d.val)), by omega⟩ q) = 0 := fun d => by
      have h0 := ev (32 + d.val) (by omega)
      rw [packK_at, packQ_at, dif_neg (nv (32 + d.val) (by omega)), dif_neg (nv (32 + d.val) (by omega)), padQ_at]
      simp only [h0]
      rw [dif_pos (show 32 + d.val < 64 by omega), dif_neg (show ¬ 32 + d.val < 32 by omega), zero_mul]
    have hi : ∀ d : Fin 32, packK x' y' (ix3 ⟨T.val / 8, by omega⟩ n ⟨256 * H.val + (128 + (64 + d.val)), by omega⟩) * packQ x y (ix3 T ⟨256 * H.val + (128 + (64 + d.val)), by omega⟩ q)
        = c0 * (y' (ix3 ⟨T.val / 8, by omega⟩ n ⟨32 + d.val, by omega⟩) * y (ix4 ⟨T.val / 8, by omega⟩ ⟨T.val % 8 * 512 + q.val, by omega⟩ H ⟨32 + d.val, by omega⟩)) := fun d => by
      have h0 := ev (64 + d.val) (by omega)
      have h1 : 64 + d.val - 64 = d.val := by omega
      rw [packK_at, packQ_at, dif_neg (nv (64 + d.val) (by omega)), dif_neg (nv (64 + d.val) (by omega)), padQ_at]
      simp only [h0, h1, eH (128 + (64 + d.val)) (by omega)]
      rw [dif_neg (show ¬ 64 + d.val < 64 by omega), dif_pos d.isLt, dif_neg (show ¬ 64 + d.val < 64 by omega), dif_pos d.isLt]
      rw [mul_comm c0, mul_assoc]
    have hz : ∀ d : Fin 32, packK x' y' (ix3 ⟨T.val / 8, by omega⟩ n ⟨256 * H.val + (128 + (64 + (32 + d.val))), by omega⟩) * packQ x y (ix3 T ⟨256 * H.val + (128 + (64 + (32 + d.val))), by omega⟩ q) = 0 := fun d => by
      have h0 := ev (64 + (32 + d.val)) (by omega)
      rw [packK_at, packQ_at, dif_neg (nv (64 + (32 + d.val)) (by omega)), dif_neg (nv (64 + (32 + d.val)) (by omega)), padQ_at]
      simp only [h0]
      rw [dif_neg (show ¬ 64 + (32 + d.val) < 64 by omega), dif_neg (show ¬ 64 + (32 + d.val) - 64 < 32 by omega), zero_mul]
    rw [Fin.sum_univ_two_halves 64 64 rfl, Fin.sum_univ_two_halves 32 32 rfl, Fin.sum_univ_two_halves 32 32 rfl, Fin.sum_univ_two_halves 32 32 rfl]
    refine congrArg₂ (· + ·) ?_ ?_
    · exact (congrArg₂ (· + ·) (Finset.sum_congr rfl fun d _ => lo d) (Finset.sum_eq_zero fun d _ => lz d)).trans (add_zero _)
    · exact (congrArg₂ (· + ·) (Finset.sum_congr rfl fun d _ => hi d) (Finset.sum_eq_zero fun d _ => hz d)).trans (add_zero _)

end Cert.Attn
end
-- ==== Proof.Attn.Blocks.lean ====
module

public import proofs.«01_k».proof.Proof.Attn.Score
public import proofs.«01_k».proof.Proof.Attn.RunD

/-! What a point of the grid reads: the scores and the values of its blocks, in the packed arrays. -/

@[expose] public section
set_option maxRecDepth 65536
noncomputable section
namespace Cert.Attn
open Cert.KernelIdeal Cert.KernelIdeal.Gen Idealize.ShloMosaic Idealize.ShloMosaic.TcCoe Idealize.SL.Sem Cert.Online
open Cert.ReferenceIdeal.At (xs xm)

/-! ## The blocks a point reads -/

theorem idx : ∀ t : Fin cfg0.N, (cfg0.win 0).index t = ![t.val / 8 * 4 + t.val % 4, t.val / 4 % 2, 0] ∧ (cfg0.win 1).index t = ![t.val / 8, 0, t.val / 4 % 2]
      ∧ (cfg0.win 2).index t = ![t.val / 8, 0, t.val / 4 % 2, 0] ∧ (cfg0.win 3).index t = ![t.val / 8 * 4 + t.val % 4, t.val / 4 % 2, 0] :=
  (by decide +kernel : ∀ t : Fin grid0.N, win0_0.index t = ![t.val / 8 * 4 + t.val % 4, t.val / 4 % 2, 0] ∧ win0_1.index t = ![t.val / 8, 0, t.val / 4 % 2]
      ∧ win0_2.index t = ![t.val / 8, 0, t.val / 4 % 2, 0] ∧ win0_3.index t = ![t.val / 8 * 4 + t.val % 4, t.val / 4 % 2, 0])

theorem tlt (t : Fin cfg0.N) : t.val < 64 := lt_of_lt_of_eq t.isLt N_0

theorem coord2 : ∀ t : Fin cfg0.N, ((grid0.coords t) 2).val = t.val % 4 :=
  (by decide +kernel : ∀ t : Fin grid0.N, ((grid0.coords t) 2).val = t.val % 4)

theorem flush3 : ∀ t : Fin cfg0.N, (cfg0.win 3).flush t = true :=
  (by decide +kernel : ∀ t : Fin grid0.N, win0_3.flush t = true)

variable (m : (ℓ : Loc nD τ sig) → Buf (Elt Ideal) ℓ) (c : Dev nD)

/-- An entry of a point's block is an entry of the packed array. -/
theorem iblk0 (t : Fin cfg0.N) (i : S2x1024x512.Idx) : (iblk m c 0 t : Vec Ideal S2x1024x512 .bf16) i = (V m c main_v12 : Vec Ideal S64x2048x512 .bf16) ((win0_0.blk t).view.emb i) := by
  have h : ∀ A : Vec Ideal S64x2048x512 .bf16, (((cfg0.win 0).blk t).view.read (Elt Ideal) A : Vec Ideal S2x1024x512 .bf16) i = A ((win0_0.blk t).view.emb i) := fun A => rfl
  exact h (V m c main_v12)

/-- An entry of a point's block is an entry of the packed array. -/
theorem iblk1 (t : Fin cfg0.N) (i : S1x4096x1024.Idx) : (iblk m c 1 t : Vec Ideal S1x4096x1024 .bf16) i = (V m c main_v28 : Vec Ideal S8x4096x2048 .bf16) ((win0_1.blk t).view.emb i) := by
  have h : ∀ A : Vec Ideal S8x4096x2048 .bf16, (((cfg0.win 1).blk t).view.read (Elt Ideal) A : Vec Ideal S1x4096x1024 .bf16) i = A ((win0_1.blk t).view.emb i) := fun A => rfl
  exact h (V m c main_v28)

/-- An entry of a point's block is an entry of the packed array. -/
theorem iblk2 (t : Fin cfg0.N) (i : S1x8x576x512.Idx) : (iblk m c 2 t : Vec Ideal S1x8x576x512 .bf16) i = (V m c main_v29 : Vec Ideal S8x8x1152x512 .bf16) ((win0_2.blk t).view.emb i) := by
  have h : ∀ A : Vec Ideal S8x8x1152x512 .bf16, (((cfg0.win 2).blk t).view.read (Elt Ideal) A : Vec Ideal S1x8x576x512 .bf16) i = A ((win0_2.blk t).view.emb i) := fun A => rfl
  exact h (V m c main_v29)

theorem blkQ (t : Fin cfg0.N) (T : Fin 64) (H k : Fin 8) (hT : T.val = 2 * (t.val / 8 * 4 + t.val % 4) + k.val % 2) (hH : H.val = 4 * (t.val / 4 % 2) + k.val / 2) (d : Fin 256) (q : Fin 512) :
    (iblk m c 0 t : Vec Ideal S2x1024x512 .bf16) (ix3 ⟨k.val % 2, by omega⟩ ⟨256 * (k.val / 2) + d.val, by omega⟩ q)
      = packQ (m (c, Proc.tc.devRef main_arg0)) (m (c, Proc.tc.devRef main_arg1)) (ix3 T ⟨256 * H.val + d.val, by omega⟩ q) := by
  have ht := tlt t
  have e : (win0_0.blk t).view.emb (ix3 ⟨k.val % 2, by omega⟩ ⟨256 * (k.val / 2) + d.val, by omega⟩ q)
      = ix3 ⟨2 * (t.val / 8 * 4 + t.val % 4) + k.val % 2, by omega⟩ ⟨1024 * (t.val / 4 % 2) + (256 * (k.val / 2) + d.val), by omega⟩ q := by blk_ext [idx t]
  have e0 : (⟨2 * (t.val / 8 * 4 + t.val % 4) + k.val % 2, by omega⟩ : Fin 64) = T := Fin.ext hT.symm
  have e1 : (⟨1024 * (t.val / 4 % 2) + (256 * (k.val / 2) + d.val), by omega⟩ : Fin 2048) = ⟨256 * H.val + d.val, by omega⟩ := Fin.ext (by show 1024 * (t.val / 4 % 2) + (256 * (k.val / 2) + d.val) = 256 * H.val + d.val; omega)
  exact (iblk0 m c t _).trans ((congrArg (V m c main_v12 : Vec Ideal S64x2048x512 .bf16) e).trans ((congrArg₂ (fun a b => (V m c main_v12 : Vec Ideal S64x2048x512 .bf16) (ix3 a b q)) e0 e1).trans (congrFun (V_packQ m c) _)))

theorem blkK (t : Fin cfg0.N) (b H k : Fin 8) (hb : b.val = t.val / 8) (hH : H.val = 4 * (t.val / 4 % 2) + k.val / 2) (d : Fin 256) (n : Fin 4096) :
    (iblk m c 1 t : Vec Ideal S1x4096x1024 .bf16) (ix3 0 n ⟨256 * (k.val / 2) + d.val, by omega⟩)
      = packK (m (c, Proc.tc.devRef main_arg2)) (m (c, Proc.tc.devRef main_arg3)) (ix3 b n ⟨256 * H.val + d.val, by omega⟩) := by
  have ht := tlt t
  have e : (win0_1.blk t).view.emb (ix3 0 n ⟨256 * (k.val / 2) + d.val, by omega⟩)
      = ix3 ⟨t.val / 8, by omega⟩ n ⟨1024 * (t.val / 4 % 2) + (256 * (k.val / 2) + d.val), by omega⟩ := by blk_ext [idx t]
  have e0 : (⟨t.val / 8, by omega⟩ : Fin 8) = b := Fin.ext hb.symm
  have e1 : (⟨1024 * (t.val / 4 % 2) + (256 * (k.val / 2) + d.val), by omega⟩ : Fin 2048) = ⟨256 * H.val + d.val, by omega⟩ := Fin.ext (by show 1024 * (t.val / 4 % 2) + (256 * (k.val / 2) + d.val) = 256 * H.val + d.val; omega)
  exact (iblk1 m c t _).trans ((congrArg (V m c main_v28 : Vec Ideal S8x4096x2048 .bf16) e).trans ((congrArg₂ (fun a b => (V m c main_v28 : Vec Ideal S8x4096x2048 .bf16) (ix3 a n b)) e0 e1).trans (congrFun (V_packK m c) _)))

theorem blkV (t : Fin cfg0.N) (b H k : Fin 8) (hb : b.val = t.val / 8) (hH : H.val = 4 * (t.val / 4 % 2) + k.val / 2) (d : Fin 144) (j : Fin 8) (n : Fin 512) :
    (iblk m c 2 t : Vec Ideal S1x8x576x512 .bf16) (ix4 0 j ⟨144 * (k.val / 2) + d.val, by omega⟩ n)
      = packV (m (c, Proc.tc.devRef main_arg4)) (ix4 b j ⟨144 * H.val + d.val, by omega⟩ n) := by
  have ht := tlt t
  have e : (win0_2.blk t).view.emb (ix4 0 j ⟨144 * (k.val / 2) + d.val, by omega⟩ n)
      = ix4 ⟨t.val / 8, by omega⟩ j ⟨576 * (t.val / 4 % 2) + (144 * (k.val / 2) + d.val), by omega⟩ n := by blk_ext [idx t]
  have e0 : (⟨t.val / 8, by omega⟩ : Fin 8) = b := Fin.ext hb.symm
  have e1 : (⟨576 * (t.val / 4 % 2) + (144 * (k.val / 2) + d.val), by omega⟩ : Fin 1152) = ⟨144 * H.val + d.val, by omega⟩ := Fin.ext (by show 576 * (t.val / 4 % 2) + (144 * (k.val / 2) + d.val) = 144 * H.val + d.val; omega)
  exact (iblk2 m c t _).trans ((congrArg (V m c main_v29 : Vec Ideal S8x8x1152x512 .bf16) e).trans ((congrArg₂ (fun a b => (V m c main_v29 : Vec Ideal S8x8x1152x512 .bf16) (ix4 a j b n)) e0 e1).trans (congrFun (V_packV m c) _)))

variable (A0 : Vec Ideal S8x4096x8x128 .f32) (A1 : Vec Ideal S8x4096x8x64 .f32) (A2 : Vec Ideal S8x4096x8x128 .f32) (A3 : Vec Ideal S8x4096x64 .f32) (A4 : Vec Ideal S8x4096x8x128 .f32)

/-- A score of the kernel, before its mask. -/
theorem qk_at (h0 : m (c, Proc.tc.devRef main_arg0) = A0) (h1 : m (c, Proc.tc.devRef main_arg1) = A1) (h2 : m (c, Proc.tc.devRef main_arg2) = A2) (h3 : m (c, Proc.tc.devRef main_arg3) = A3)
    (t : Fin cfg0.N) (T : Fin 64) (H k : Fin 8) (hT : T.val = 2 * (t.val / 8 * 4 + t.val % 4) + k.val % 2) (hH : H.val = 4 * (t.val / 4 % 2) + k.val / 2) (q : Fin 512) (n : Fin 4096) :
    qk (iblk m c 0 t) (iblk m c 1 t) k q n.val
      = ((∑ d : Fin 128, A0 (ix4 ⟨T.val / 8, by omega⟩ ⟨T.val % 8 * 512 + q.val, by omega⟩ H d) * A2 (ix4 ⟨T.val / 8, by omega⟩ n H d))
        + ∑ d : Fin 64, A3 (ix3 ⟨T.val / 8, by omega⟩ n d) * A1 (ix4 ⟨T.val / 8, by omega⟩ ⟨T.val % 8 * 512 + q.val, by omega⟩ H d)) * c0 := by
  have ht := tlt t
  unfold qk
  rw [dif_pos n.isLt]
  refine (Finset.sum_congr rfl fun d _ => ?_).trans (packed_sum A0 A1 A2 A3 T H q n)
  have hq := blkQ m c t T H k hT hH d q
  have hk := blkK m c t ⟨T.val / 8, by omega⟩ H k (by show T.val / 8 = t.val / 8; omega) hH d n
  rw [h0, h1] at hq
  rw [h2, h3] at hk
  exact congrArg₂ (fun a b : EReal => a * b) hk hq

/-- A value of the kernel. -/
theorem vv_at (h4 : m (c, Proc.tc.devRef main_arg4) = A4) (t : Fin cfg0.N) (b H k : Fin 8) (hb : b.val = t.val / 8) (hH : H.val = 4 * (t.val / 4 % 2) + k.val / 2) (e : Fin 128) (n : Fin 4096) :
    vv (iblk m c 2 t) k ⟨e.val, by omega⟩ n.val = A4 (ix4 b n H e) := by
  unfold vv
  rw [dif_pos n.isLt]
  refine (blkV m c t b H k hb hH ⟨e.val, by omega⟩ ⟨n.val / 512, by omega⟩ ⟨n.val % 512, by omega⟩).trans ?_
  rw [h4, packV_at, dif_pos (show (144 * H.val + e.val) % 144 < 128 by omega)]
  have e0 : (⟨(b.val * 8 + n.val / 512) % 8 * 512 + n.val % 512, by omega⟩ : Fin 4096) = n := Fin.ext (by show (b.val * 8 + n.val / 512) % 8 * 512 + n.val % 512 = n.val; omega)
  have e1 : (⟨(144 * H.val + e.val) / 144, by omega⟩ : Fin 8) = H := Fin.ext (by show (144 * H.val + e.val) / 144 = H.val; omega)
  have e2 : (⟨(144 * H.val + e.val) % 144, by omega⟩ : Fin 128) = e := Fin.ext (by show (144 * H.val + e.val) % 144 = e.val; omega)
  rw [e0, e1, e2]

theorem vv_one (t : Fin cfg0.N) (k : Fin 8) : vv (iblk m c 2 t) k ⟨128, by omega⟩ = fun _ => 1 := by
  have ht := tlt t
  funext n
  unfold vv
  split
  · next h =>
    refine (blkV m c t ⟨t.val / 8, by omega⟩ ⟨4 * (t.val / 4 % 2) + k.val / 2, by omega⟩ k rfl rfl ⟨128, by omega⟩ ⟨n / 512, by omega⟩ ⟨n % 512, by omega⟩).trans ?_
    rw [packV_at, dif_neg (show ¬ (144 * (4 * (t.val / 4 % 2) + k.val / 2) + 128) % 144 < 128 by omega)]
  · rfl

end Cert.Attn
end
-- ==== Proof.Attn.Result.lean ====
module

public import proofs.«01_k».proof.Proof.Attn.RunD

public import proofs.«01_k».proof.Proof.Attn.Blocks

/-! What the attention kernel leaves at an entry of its result. -/

@[expose] public section
set_option maxRecDepth 65536
noncomputable section
namespace Cert.Attn
open Cert.KernelIdeal Cert.KernelIdeal.Gen Idealize.ShloMosaic Idealize.ShloMosaic.TcCoe Idealize.SL.Sem Cert.Online
open Cert.ReferenceIdeal.At (xs xm)

/-! ## Finite numbers -/

def Fin' (x : EReal) : Prop := ∃ r : ℝ, x = (r : EReal)

theorem Fin'.mul {x y : EReal} : Fin' x → Fin' y → Fin' (x * y) := by
  rintro ⟨a, rfl⟩ ⟨b, rfl⟩; exact ⟨a * b, (EReal.coe_mul a b).symm⟩

theorem Fin'.add {x y : EReal} : Fin' x → Fin' y → Fin' (x + y) := by
  rintro ⟨a, rfl⟩ ⟨b, rfl⟩; exact ⟨a + b, (EReal.coe_add a b).symm⟩

theorem Fin'.sum {n : ℕ} {f : Fin n → EReal} (h : ∀ i, Fin' (f i)) : Fin' (∑ i, f i) := by
  choose g hg using h
  exact ⟨∑ i, g i, by
    rw [Finset.sum_congr rfl fun i _ => hg i]
    induction (Finset.univ : Finset (Fin n)) using Finset.induction_on with
    | empty => simp
    | insert a s ha ih => rw [Finset.sum_insert ha, Finset.sum_insert ha, ih, EReal.coe_add]⟩

variable (m : (ℓ : Loc nD τ sig) → Buf (Elt Ideal) ℓ) (c : Dev nD)
variable (A0 : Vec Ideal S8x4096x8x128 .f32) (A1 : Vec Ideal S8x4096x8x64 .f32) (A2 : Vec Ideal S8x4096x8x128 .f32) (A3 : Vec Ideal S8x4096x64 .f32) (A4 : Vec Ideal S8x4096x8x128 .f32)

/-- WHAT THE KERNEL LEAVES at an entry of its result. -/
theorem result (h0 : m (c, Proc.tc.devRef main_arg0) = A0) (h1 : m (c, Proc.tc.devRef main_arg1) = A1) (h2 : m (c, Proc.tc.devRef main_arg2) = A2) (h3 : m (c, Proc.tc.devRef main_arg3) = A3) (h4 : m (c, Proc.tc.devRef main_arg4) = A4)
    (f0 : ∀ i, Fin' (A0 i)) (f1 : ∀ i, Fin' (A1 i)) (f2 : ∀ i, Fin' (A2 i)) (f3 : ∀ i, Fin' (A3 i)) (T : Fin 64) (g : Fin 8) (e : Fin 128) (q : Fin 512) :
    ((dats m 0 c).arrAt 3 cfg0.N : Vec Ideal S64x1024x512 .bf16) (ix3 T ⟨128 * g.val + e.val, by omega⟩ q)
      = Ideal.div (∑ n : Fin 4096, A4 (ix4 ⟨T.val / 8, by omega⟩ n g e) * Ideal.exp (xm A0 A1 A2 A3 ⟨T.val / 8, by omega⟩ g ⟨T.val % 8 * 512 + q.val, by omega⟩ n))
          (∑ n : Fin 4096, Ideal.exp (xm A0 A1 A2 A3 ⟨T.val / 8, by omega⟩ g ⟨T.val % 8 * 512 + q.val, by omega⟩ n)) := by
  obtain ⟨t, ht⟩ : ∃ t : Fin cfg0.N, t.val = T.val / 8 * 8 + g.val / 4 * 4 + T.val % 8 / 2 := ⟨⟨T.val / 8 * 8 + g.val / 4 * 4 + T.val % 8 / 2, lt_of_lt_of_eq (show T.val / 8 * 8 + g.val / 4 * 4 + T.val % 8 / 2 < 64 by omega) N_0.symm⟩, rfl⟩
  have em : (win0_3.blk t).view.emb (ix3 ⟨T.val % 2, by omega⟩ ⟨128 * (g.val % 4) + e.val, by omega⟩ q)
      = ix3 ⟨2 * (t.val / 8 * 4 + t.val % 4) + T.val % 2, by omega⟩ ⟨512 * (t.val / 4 % 2) + (128 * (g.val % 4) + e.val), by omega⟩ q := by blk_ext [idx t]
  have e0 : (⟨2 * (t.val / 8 * 4 + t.val % 4) + T.val % 2, by omega⟩ : Fin 64) = T := Fin.ext (by show 2 * (t.val / 8 * 4 + t.val % 4) + T.val % 2 = T.val; omega)
  have e1 : (⟨512 * (t.val / 4 % 2) + (128 * (g.val % 4) + e.val), by omega⟩ : Fin 1024) = ⟨128 * g.val + e.val, by omega⟩ := Fin.ext (by show 512 * (t.val / 4 % 2) + (128 * (g.val % 4) + e.val) = 128 * g.val + e.val; omega)
  have hb : ((dats m 0 c).arrAt 3 cfg0.N : Vec Ideal S64x1024x512 .bf16) (ix3 T ⟨128 * g.val + e.val, by omega⟩ q)
      = outsAt0 m c t (ix3 ⟨T.val % 2, by omega⟩ ⟨128 * (g.val % 4) + e.val, by omega⟩ q) := by
    have hr : ∀ (A : Vec Ideal S64x1024x512 .bf16) (i : S2x512x512.Idx), (((cfg0.win 3).blk t).view.read (Elt Ideal) A : Vec Ideal S2x512x512 .bf16) i = A ((win0_3.blk t).view.emb i) := fun A i => rfl
    have hc : ∀ (B : Vec Ideal S2x512x512 .bf16) (i : S2x512x512.Idx), ((cfg0.win 3).cut (grid0.coords t) B : Vec Ideal S2x512x512 .bf16) i = B i := fun B i => rfl
    have hl := (hr ((dats m 0 c).arrAt 3 cfg0.N) (ix3 ⟨T.val % 2, by omega⟩ ⟨128 * (g.val % 4) + e.val, by omega⟩ q)).symm.trans
      ((congrFun ((blocks3 m c t (flush3 t)).trans (flushed3 m c t)) (ix3 ⟨T.val % 2, by omega⟩ ⟨128 * (g.val % 4) + e.val, by omega⟩ q)).trans (hc (outsAt0 m c t) _))
    rw [em, e0, e1] at hl
    exact hl
  have hq := qk_at m c A0 A1 A2 A3 h0 h1 h2 h3 t T g ⟨2 * (g.val % 4) + T.val % 2, by omega⟩ (by show T.val = 2 * (t.val / 8 * 4 + t.val % 4) + (2 * (g.val % 4) + T.val % 2) % 2; omega)
    (by show g.val = 4 * (t.val / 4 % 2) + (2 * (g.val % 4) + T.val % 2) / 2; omega) q
  have hv := vv_at m c A4 h4 t ⟨T.val / 8, by omega⟩ g ⟨2 * (g.val % 4) + T.val % 2, by omega⟩ (by show T.val / 8 = t.val / 8; omega)
    (by show g.val = 4 * (t.val / 4 % 2) + (2 * (g.val % 4) + T.val % 2) / 2; omega) e
  have hX : ∀ n : Fin 4096, Fin' ((∑ d : Fin 128, A0 (ix4 ⟨T.val / 8, by omega⟩ ⟨T.val % 8 * 512 + q.val, by omega⟩ g d) * A2 (ix4 ⟨T.val / 8, by omega⟩ n g d))
        + ∑ d : Fin 64, A3 (ix3 ⟨T.val / 8, by omega⟩ n d) * A1 (ix4 ⟨T.val / 8, by omega⟩ ⟨T.val % 8 * 512 + q.val, by omega⟩ g d)) := fun n =>
    (Fin'.sum fun d => (f0 _).mul (f2 _)).add (Fin'.sum fun d => (f3 _).mul (f1 _))
  have hR : ∀ n, ∃ y : ℝ, qk (iblk m c 0 t) (iblk m c 1 t) ⟨2 * (g.val % 4) + T.val % 2, by omega⟩ q n = (y : EReal) := fun n => by
    by_cases hn : n < 4096
    · obtain ⟨_, _, _, ec⟩ := c0_eq
      rw [hq ⟨n, hn⟩]
      exact (hX ⟨n, hn⟩).mul ⟨_, ec⟩
    · exact ⟨0, by unfold qk; rw [dif_neg hn]; rfl⟩
  rw [hb]
  unfold outsAt0
  refine (out_at (grid0.coords t) (iblk m c 0 t) (iblk m c 1 t) (iblk m c 2 t) ⟨T.val % 2, by omega⟩ ⟨g.val % 4, by omega⟩ q e hR (vv_one m c t _)).trans ?_
  have hs : ∀ n : Fin 4096, Ideal.exp2 (sg (iblk m c 0 t) (iblk m c 1 t) ⟨2 * (g.val % 4) + T.val % 2, by omega⟩ q (512 * (2 * ((grid0.coords t) 2).val + T.val % 2) + q.val) n.val)
      = Ideal.exp (xm A0 A1 A2 A3 ⟨T.val / 8, by omega⟩ g ⟨T.val % 8 * 512 + q.val, by omega⟩ n) := fun n => by
    have hp : 512 * (2 * ((grid0.coords t) 2).val + T.val % 2) + q.val = T.val % 8 * 512 + q.val := by rw [coord2]; omega
    rw [hp]
    unfold sg xm xs
    by_cases hc : n.val ≤ T.val % 8 * 512 + q.val
    · obtain ⟨x, hx⟩ := hX n
      rw [if_pos hc, if_pos hc, hq n, hx, exp2_scale]
    · rw [if_neg hc, if_neg hc]; rfl
  unfold soft
  refine congrArg₂ Ideal.div (Finset.sum_congr rfl fun n _ => ?_) (Finset.sum_congr rfl fun n _ => hs n)
  exact congrArg₂ (· * ·) (hv n) (hs n)

end Cert.Attn
end
-- ==== Proof.Attn.Tie.lean ====
module

public import proofs.«01_k».proof.Defs
public import Idealize.ShloMosaic.Lib.ReduceAll

public import proofs.«01_k».proof.Proof.Attn.Result

/-! The attention kernel and its reference leave one array, where the queries and the keys are finite. -/

@[expose] public section
set_option maxRecDepth 65536
noncomputable section
namespace Cert.Attn
open Cert.KernelIdeal Cert.KernelIdeal.Gen Idealize.ShloMosaic Idealize.ShloMosaic.TcCoe Idealize.SL.Sem Cert.Online

variable (m : (ℓ : Loc nD τ sig) → Buf (Elt Ideal) ℓ) (c : Dev nD)
variable (A0 : Vec Ideal S8x4096x8x128 .f32) (A1 : Vec Ideal S8x4096x8x64 .f32) (A2 : Vec Ideal S8x4096x8x128 .f32) (A3 : Vec Ideal S8x4096x64 .f32) (A4 : Vec Ideal S8x4096x8x128 .f32)
/-! ## The condition, and the two results -/

theorem facts : Cert.Pre_finite.Facts := ⟨by decide, by decide, by decide, by decide, by decide, by decide, by decide⟩

attribute [local instance] facts

theorem fin_of_bit {x : EReal} (h : FloatOps.cmpf (F := Ideal) (φ := .f32) .olt (FloatOps.hostAbsf x) (FloatOps.ofBits .f32 0x7F800000#32) = 1#1) : Fin' x := by
  have e : Ideal.ofBits .f32 0x7F800000#32 = ⊤ := by simp [Ideal.ofBits, Ideal.ieee]
  have h' : BitVec.ofBool (decide (max x (-x) < Ideal.ofBits .f32 0x7F800000#32)) = 1#1 := h
  rw [e] at h'
  induction x with
  | bot => simp at h'
  | top => simp at h'
  | coe r => exact ⟨r, rfl⟩

theorem pre_fin (h : Cert.Pre_finite.fn (F := Ideal) A0 A1 A2 A3 A4 = fun _ => 1#1) :
    (∀ i, Fin' (A0 i)) ∧ (∀ i, Fin' (A1 i)) ∧ (∀ i, Fin' (A2 i)) ∧ ∀ i, Fin' (A3 i) := by
  have hj := congrFun h (fun a => a.elim0)
  dsimp only [Cert.Pre_finite.fn, Cert.Pre_finite.fn_part1] at hj
  have key : ∀ a b : BitVec 1, IntOp.andi a b = 1#1 → a = 1#1 ∧ b = 1#1 := by decide
  obtain ⟨h012, h3⟩ := key _ _ hj
  obtain ⟨h01, h2⟩ := key _ _ h012
  obtain ⟨h0, h1⟩ := key _ _ h01
  refine ⟨fun i => ?_, fun i => ?_, fun i => ?_, fun i => ?_⟩
  · exact fin_of_bit (Host.reduce_andi_all _ _ _ _ _ h0 i)
  · exact fin_of_bit (Host.reduce_andi_all _ _ _ _ _ h1 i)
  · exact fin_of_bit (Host.reduce_andi_all _ _ _ _ _ h2 i)
  · exact fin_of_bit (Host.reduce_andi_all _ _ _ _ _ h3 i)

/-- The kernel's result array is the reference's. -/
theorem tie (m' : (ℓ : Loc Cert.ReferenceIdeal.nD Cert.ReferenceIdeal.τ Cert.ReferenceIdeal.sig) → Buf (Elt Ideal) ℓ)
    (hpre : Cert.Pre_finite.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun _ => 1#1)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)) :
    (Cert.ReferenceIdeal.Value.res_main_v28 (F := Ideal) m' c : Vec Ideal S64x1024x512 .bf16) = ((dats m 0 c).arrAt 3 cfg0.N : Vec Ideal S64x1024x512 .bf16) := by
  obtain ⟨a0, a1, a2, a3, a4⟩ := hagree
  obtain ⟨f0, f1, f2, f3⟩ := pre_fin _ _ _ _ _ hpre
  funext y
  obtain ⟨T, E, q, rfl⟩ : ∃ (T : Fin 64) (E : Fin 1024) (q : Fin 512), y = ix3 T E q :=
    ⟨y 0, y 1, y 2, funext fun a => match a with | ⟨0, _⟩ => rfl | ⟨1, _⟩ => rfl | ⟨2, _⟩ => rfl⟩
  obtain ⟨g, e, rfl⟩ : ∃ (g : Fin 8) (e : Fin 128), E = ⟨128 * g.val + e.val, by omega⟩ :=
    ⟨⟨E.val / 128, by omega⟩, ⟨E.val % 128, by omega⟩, Fin.ext (by show E.val = 128 * (E.val / 128) + E.val % 128; omega)⟩
  rw [result m c _ _ _ _ _ rfl rfl rfl rfl rfl f0 f1 f2 f3 T g e q, Cert.ReferenceIdeal.Read.val_main_v28_eq, a0, a1, a2, a3, a4]
  refine (Cert.ReferenceIdeal.At.v28_at _ _ _ _ _ T g e q).trans ?_
  refine Cert.ReferenceIdeal.At.v24_at _ _ _ _ _ ⟨T.val / 8, by omega⟩ g ⟨T.val % 8 * 512 + q.val, by omega⟩ (fun n => ?_) e
  obtain ⟨s, _, es⟩ := scale_real
  exact ((Fin'.sum fun d => (f0 _).mul (f2 _)).add (Fin'.sum fun d => (f3 _).mul (f1 _))).mul ⟨s, es⟩

end Cert.Attn
end
-- ==== Proof.Ffn.Block.lean ====
module
public import proofs.«01_k».proof.Proof.Gen.FfnIdeal.Value
public import Idealize.ShloMosaic.Lib.Pointwise
public import Idealize.ShloMosaic.Lib.Pipeline.ValueKit
public import Idealize.ShloMosaic.Lib.Pipeline.ReadBack

/-! What one grid step of the feed-forward kernel computes, row by row: the rows it normalises, the share of the
    product that one block of the hidden axis contributes, and the closing normalisation. -/

@[expose] public section
set_option maxRecDepth 65536
noncomputable section
namespace Cert.FfnIdeal.Block
open Cert.FfnIdeal Cert.FfnIdeal.Gen Idealize.ShloMosaic Idealize.ShloMosaic.TcCoe Idealize.SL.Sem

/-- The gate's nonlinearity as the kernel spells it. -/
def sg (x : EReal) : EReal :=
  Ideal.ofBits .f32 0x3F000000#32 * x + (Ideal.ofBits .f32 0x3F000000#32 * x) * Ideal.tanh (Ideal.ofBits .f32 0x3F000000#32 * x)

/-- One hidden unit of a row: the gate through its nonlinearity, times the up projection. -/
def unit (v : Fin 2048 → EReal) (g u : Fin 2048 → EReal) : EReal :=
  sg (∑ k, v k * g k) * ∑ k, v k * u k

/-- What one block of hidden units adds to a row of the product. -/
def part (v : Fin 2048 → EReal) (wg wu : Vec Ideal S2048x512 .bf16) (wd : Vec Ideal S512x2048 .f32) (c : Fin 2048) : EReal :=
  ∑ x : Fin 512, unit v (fun k => wg (ix2 k x)) (fun k => wu (ix2 k x)) * wd (ix2 x c)

/-- A row divided by its root mean square, times the weights. -/
def rms (h : Fin 2048 → EReal) (w : Fin 2048 → EReal) (c : Fin 2048) : EReal :=
  h c * Ideal.rsqrt (Ideal.div (∑ x, h x * h x) (Ideal.ofBits .f32 0x45000000#32) + Ideal.ofBits .f32 0x358637BD#32) * w c

theorem part_halves (v : Fin 2048 → EReal) (wg wu : Vec Ideal S2048x512 .bf16) (wd : Vec Ideal S512x2048 .f32) (c : Fin 2048) :
    part v wg wu wd c =
      ∑ x : Fin 256, unit v (fun k => wg (ix2 k ⟨x.val, by omega⟩)) (fun k => wu (ix2 k ⟨x.val, by omega⟩)) * wd (ix2 ⟨x.val, by omega⟩ c)
      + ∑ x : Fin 256, unit v (fun k => wg (ix2 k ⟨256 + x.val, by omega⟩)) (fun k => wu (ix2 k ⟨256 + x.val, by omega⟩)) * wd (ix2 ⟨256 + x.val, by omega⟩ c) := by
  unfold part
  rw [Fin.sum_univ_two_halves 256 256 rfl]

theorem canon_hi {e : EltTy} (w : (Rect.unit (s := S1024x2048) ![512, 0] ![512, 2048] (by decide)).shape.Idx → Elt Ideal e) (L) (r : Fin 512) (j : Fin 2048) :
    View.canon (Val := Elt Ideal) (⟨Rect.unit (s := S1024x2048) ![512, 0] ![512, 2048] (by decide), w⟩ :: L) (ix2 ⟨512 + r.val, by omega⟩ j) = w (ix2 r j) := by
  have h := View.canon_cons_emb (Val := Elt Ideal) (Rect.unit (s := S1024x2048) ![512, 0] ![512, 2048] (by decide)) w L (ix2 r j)
  refine Eq.trans (congrArg _ ?_) h
  funext a
  apply Fin.ext
  match a with
  | ⟨0, _⟩ => show 512 + r.val = 512 + 1 * r.val; omega
  | ⟨1, _⟩ => show j.val = 0 + 1 * j.val; omega

theorem canon_skip {e : EltTy} (w : (Rect.unit (s := S1024x2048) ![512, 0] ![512, 2048] (by decide)).shape.Idx → Elt Ideal e) (L) (r : Fin 512) (j : Fin 2048) :
    View.canon (Val := Elt Ideal) (⟨Rect.unit (s := S1024x2048) ![512, 0] ![512, 2048] (by decide), w⟩ :: L) (ix2 ⟨r.val, by omega⟩ j)
      = View.canon (Val := Elt Ideal) L (ix2 ⟨r.val, by omega⟩ j) := by
  refine View.canon_cons_of_not_mem _ L ?_
  rw [Rect.mem_set_unit]
  intro h
  have h0 : 512 ≤ r.val := (h 0).1
  omega

theorem canon_lo {e : EltTy} (w : (Rect.unit (s := S1024x2048) ![0, 0] ![512, 2048] (by decide)).shape.Idx → Elt Ideal e) (L) (r : Fin 512) (j : Fin 2048) :
    View.canon (Val := Elt Ideal) (⟨Rect.unit (s := S1024x2048) ![0, 0] ![512, 2048] (by decide), w⟩ :: L) (ix2 ⟨r.val, by omega⟩ j) = w (ix2 r j) := by
  have h := View.canon_cons_emb (Val := Elt Ideal) (Rect.unit (s := S1024x2048) ![0, 0] ![512, 2048] (by decide)) w L (ix2 r j)
  refine Eq.trans (congrArg _ ?_) h
  funext a
  apply Fin.ext
  match a with
  | ⟨0, _⟩ => show r.val = 0 + 1 * r.val; omega
  | ⟨1, _⟩ => show j.val = 0 + 1 * j.val; omega

theorem sout_B (c i a2 ha2 a3 ha3 a4 ha4 a5 ha5 a6 ha6 a7 ha7 a8 ha8 a9 ha9 h0 h1 h2 x0 x1 x2 x3 x4 x5 xo xs) :
    sout0_B_0 (F := Ideal) c i a2 ha2 a3 ha3 a4 ha4 a5 ha5 a6 ha6 a7 ha7 a8 ha8 a9 ha9 h0 h1 h2 x0 x1 x2 x3 x4 x5 xo xs = xs := by
  rfl

theorem out_B (c i a2 ha2 a3 ha3 a4 ha4 a5 ha5 a6 ha6 a7 ha7 a8 ha8 a9 ha9 h0 h1 h2 x0 x1 x2 x3 x4 x5 xo xs) (r : Fin 1024) (j : Fin 2048) :
    out0_B_6 (F := Ideal) c i a2 ha2 a3 ha3 a4 ha4 a5 ha5 a6 ha6 a7 ha7 a8 ha8 a9 ha9 h0 h1 h2 x0 x1 x2 x3 x4 x5 xo xs (ix2 r j)
      = xo (ix2 r j) + part (fun k => xs (ix2 r k)) x2 x3 x4 j := by
  frame_out
  pointwise [k0_pay2]
  rw [part_halves]
  rfl

theorem sout_C (c i a2 ha2 a3 ha3 a4 ha4 a5 ha5 a6 ha6 a7 ha7 a8 ha8 a9 ha9 h0 h1 h2 x0 x1 x2 x3 x4 x5 xo xs) :
    sout0_C_0 (F := Ideal) c i a2 ha2 a3 ha3 a4 ha4 a5 ha5 a6 ha6 a7 ha7 a8 ha8 a9 ha9 h0 h1 h2 x0 x1 x2 x3 x4 x5 xo xs = xs := by
  rfl

/-- A row of the block lies in its upper or in its lower half. -/
theorem row_cases {P : Fin 1024 → Prop} (lo : ∀ q : Fin 512, P ⟨q.val, by omega⟩) (hi : ∀ q : Fin 512, P ⟨512 + q.val, by omega⟩)
    (r : Fin 1024) : P r := by
  by_cases hr : r.val < 512
  · exact lo ⟨r.val, hr⟩
  · have e : r = ⟨512 + (⟨r.val - 512, by omega⟩ : Fin 512).val, by show 512 + (r.val - 512) < 1024; omega⟩ :=
      Fin.ext (by show r.val = 512 + (r.val - 512); omega)
    rw [e]; exact hi _

theorem sout_A (c i a2 ha2 a3 ha3 a4 ha4 a5 ha5 a6 ha6 a7 ha7 a8 ha8 a9 ha9 h0 h1 h2 x0 x1 x2 x3 x4 x5) (r : Fin 1024) (j : Fin 2048) :
    sout0_A_0 (F := Ideal) c i a2 ha2 a3 ha3 a4 ha4 a5 ha5 a6 ha6 a7 ha7 a8 ha8 a9 ha9 h0 h1 h2 x0 x1 x2 x3 x4 x5 (ix2 r j) = rms (fun k => x0 (ix2 r k)) (fun k => x1 (ix2 0 k)) j := by
  frame_open
  simp (disch := decide) only [↓ View.readCov_skip, ↓ View.readCov_cons_toLoadRect, ↓ View.readCov_fill]
  frame_out
  induction r using row_cases with
  | lo q =>
    rw [canon_skip, canon_lo]
    pointwise [k0_pay3]
    rfl
  | hi q =>
    rw [canon_hi]
    pointwise [k0_pay8, k0_pay7]
    rfl

set_option maxHeartbeats 4000000 in
theorem out_A (c i a2 ha2 a3 ha3 a4 ha4 a5 ha5 a6 ha6 a7 ha7 a8 ha8 a9 ha9 h0 h1 h2 x0 x1 x2 x3 x4 x5) (r : Fin 1024) (j : Fin 2048) :
    out0_A_6 (F := Ideal) c i a2 ha2 a3 ha3 a4 ha4 a5 ha5 a6 ha6 a7 ha7 a8 ha8 a9 ha9 h0 h1 h2 x0 x1 x2 x3 x4 x5 (ix2 r j) = Ideal.ofBits .f32 0#32 + part (rms (fun k => x0 (ix2 r k)) (fun k => x1 (ix2 0 k))) x2 x3 x4 j := by
  frame_open
  simp (disch := decide) only [↓ View.readCov_skip, ↓ View.readCov_cons_toLoadRect, ↓ View.readCov_fill]
  frame_out
  induction r using row_cases with
  | lo q =>
    rw [canon_skip, canon_skip, canon_lo]

    pointwise [k0_pay6, k0_pay5, k0_pay4, k0_pay3]
    rw [part_halves]
    rfl
  | hi q =>
    rw [canon_hi]
    pointwise [k0_pay1, k0_pay10, k0_pay9, k0_pay11, k0_pay8, k0_pay7]
    rw [part_halves]
    rfl

theorem out_C (c i a2 ha2 a3 ha3 a4 ha4 a5 ha5 a6 ha6 a7 ha7 a8 ha8 a9 ha9 h0 h1 h2 x0 x1 x2 x3 x4 x5 xo xs) (r : Fin 1024) (j : Fin 2048) :
    out0_C_6 (F := Ideal) c i a2 ha2 a3 ha3 a4 ha4 a5 ha5 a6 ha6 a7 ha7 a8 ha8 a9 ha9 h0 h1 h2 x0 x1 x2 x3 x4 x5 xo xs (ix2 r j) = x0 (ix2 r j) + rms (fun k => xo (ix2 r k) + part (fun k => xs (ix2 r k)) x2 x3 x4 k) (fun k => x5 (ix2 0 k)) j := by
  frame_open
  simp (disch := decide) only [↓ View.readCov_skip, ↓ View.readCov_cons_toLoadRect, ↓ View.readCov_fill]
  frame_out
  induction r using row_cases with
  | lo q =>
    rw [canon_skip, canon_skip, canon_lo]
    pointwise [k0_pay13, k0_pay12]
    simp only [part_halves]
    rfl
  | hi q =>
    rw [canon_hi]
    pointwise [k0_pay17, k0_pay16, k0_pay15, k0_pay14]
    simp only [part_halves]
    rfl

end Cert.FfnIdeal.Block
end
-- ==== Proof.Ffn.Fold.lean ====
module
public import proofs.«01_k».proof.Proof.Ffn.Block
public import Idealize.ShloMosaic.Lib.Claim
public import Idealize.ShloMosaic.Lib.Pipeline.ValueKit.Point

/-! The feed-forward kernel over its grid: the blocks a point reads are rows and columns of the arguments, the carried
    state is the normalised rows with the product summed so far, and a row of the result is the row of the input plus
    the normalised product over the whole hidden axis. -/

@[expose] public section
set_option maxRecDepth 65536
noncomputable section
namespace Cert.FfnIdeal.Fold
open Cert.FfnIdeal Cert.FfnIdeal.Gen Cert.FfnIdeal.Block Idealize.ShloMosaic Idealize.ShloMosaic.TcCoe Idealize.SL.Sem

variable (m : (ℓ : Loc nD τ sig) → Buf (Elt Ideal) ℓ) (c : Dev nD)

/-- The arguments as functions of their coordinates. -/
abbrev aH (i : Fin 32768) (k : Fin 2048) : EReal := (m ((c : Thread nD τ).loc main_arg0) : Vec Ideal S32768x2048 .f32) (ix2 i k)
abbrev aP (k : Fin 2048) : EReal := (m ((c : Thread nD τ).loc main_arg1) : Vec Ideal S2048 .f32) (ix1 k)
abbrev aG (k : Fin 2048) (n : Fin 5632) : EReal := (m ((c : Thread nD τ).loc main_arg2) : Vec Ideal S2048x5632 .f32) (ix2 k n)
abbrev aU (k : Fin 2048) (n : Fin 5632) : EReal := (m ((c : Thread nD τ).loc main_arg3) : Vec Ideal S2048x5632 .f32) (ix2 k n)
abbrev aD (n : Fin 5632) (k : Fin 2048) : EReal := (m ((c : Thread nD τ).loc main_arg4) : Vec Ideal S5632x2048 .f32) (ix2 n k)
abbrev aQ (k : Fin 2048) : EReal := (m ((c : Thread nD τ).loc main_arg5) : Vec Ideal S2048 .f32) (ix1 k)

theorem idx : ∀ t : Fin cfg0.N, (cfg0.win 0).index t = ![t.val / 11, 0] ∧ (cfg0.win 1).index t = ![0, 0] ∧ (cfg0.win 2).index t = ![0, t.val % 11]
    ∧ (cfg0.win 3).index t = ![0, t.val % 11] ∧ (cfg0.win 4).index t = ![t.val % 11, 0] ∧ (cfg0.win 5).index t = ![0, 0] :=
  (by decide +kernel : ∀ t : Fin grid0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0])

theorem tlt (t : Fin cfg0.N) : t.val < 352 := lt_of_lt_of_eq t.isLt N_0

theorem blk0 (t : Fin cfg0.N) (r : Fin 1024) (k : Fin 2048) :
    iblk m c 0 t (ix2 r k) = aH m c ⟨1024 * (t.val / 11) + r.val, by have := tlt t; omega⟩ k := by
  unfold iblk
  entry_read
  blk_ext [idx t]

theorem blk1 (t : Fin cfg0.N) (k : Fin 2048) : iblk m c 1 t (ix2 0 k) = aP m c k := by
  unfold iblk
  entry_read
  have e : (win0_1.blk t).view.emb (ix2 0 k) = ix2 0 k := by blk_ext [idx t]
  show shapeCast main_v0.ty.shape (m (c, Proc.tc.devRef main_arg1)) shapeCasts_S2048_S1x2048 ((win0_1.blk t).view.emb (ix2 0 k)) = _
  rw [e]
  pointwise

theorem blk2 (t : Fin cfg0.N) (k : Fin 2048) (x : Fin 512) :
    iblk m c 2 t (ix2 k x) = aG m c k ⟨512 * (t.val % 11) + x.val, by omega⟩ := by
  unfold iblk
  entry_read
  blk_ext [idx t]

theorem blk3 (t : Fin cfg0.N) (k : Fin 2048) (x : Fin 512) :
    iblk m c 3 t (ix2 k x) = aU m c k ⟨512 * (t.val % 11) + x.val, by omega⟩ := by
  unfold iblk
  entry_read
  blk_ext [idx t]

theorem blk4 (t : Fin cfg0.N) (x : Fin 512) (k : Fin 2048) :
    iblk m c 4 t (ix2 x k) = aD m c ⟨512 * (t.val % 11) + x.val, by omega⟩ k := by
  unfold iblk
  entry_read
  blk_ext [idx t]

theorem blk5 (t : Fin cfg0.N) (k : Fin 2048) : iblk m c 5 t (ix2 0 k) = aQ m c k := by
  unfold iblk
  entry_read
  have e : (win0_5.blk t).view.emb (ix2 0 k) = ix2 0 k := by blk_ext [idx t]
  show shapeCast main_v3.ty.shape (m (c, Proc.tc.devRef main_arg5)) shapeCasts_S2048_S1x2048 ((win0_5.blk t).view.emb (ix2 0 k)) = _
  rw [e]
  pointwise

/-- One hidden unit's contribution to entry `(i, j)` of the product (nothing past the hidden axis). -/
def term (i : Fin 32768) (j : Fin 2048) (n : ℕ) : EReal :=
  if h : n < 5632 then unit (rms (aH m c i) (aP m c)) (fun k => aG m c k ⟨n, h⟩) (fun k => aU m c k ⟨n, h⟩) * aD m c ⟨n, h⟩ j else 0

theorem part_blk (t : Fin cfg0.N) (i : Fin 32768) (j : Fin 2048) :
    part (rms (aH m c i) (aP m c)) (iblk m c 2 t) (iblk m c 3 t) (iblk m c 4 t) j
      = ∑ x ∈ Finset.range 512, term m c i j (512 * (t.val % 11) + x) := by
  rw [Finset.sum_range]
  unfold part term
  refine Finset.sum_congr rfl fun x _ => ?_
  rw [dif_pos (by omega), blk4]
  simp only [blk2, blk3]

/-- The row of the arguments that row `r` of block `q` is. -/
abbrev row (q : Fin 32) (r : Fin 1024) : Fin 32768 := ⟨1024 * q.val + r.val, by omega⟩

theorem pt_lt (q : Fin 32) (f : ℕ) (hf : f < 11) : 11 * q.val + f < cfg0.N := lt_of_lt_of_eq (by omega) N_0.symm

theorem congr_out {n n' : ℕ} (h : n = n') (hn hn') : outsAt0 m c n hn = outsAt0 m c n' hn' := by subst h; rfl

theorem rowA (q : Fin 32) (f : ℕ) (hf : f < 11) (r : Fin 1024) :
    (fun k => iblk m c 0 ⟨11 * q.val + f, pt_lt q f hf⟩ (ix2 r k)) = aH m c (row q r) := by
  funext k
  rw [blk0]
  have e : 1024 * ((11 * q.val + f) / 11) + r.val = 1024 * q.val + r.val := by omega
  exact congrArg (fun z => aH m c z k) (Fin.ext e)

theorem state (q : Fin 32) (f : ℕ) (hf : f < 10) (r : Fin 1024) :
    (∀ k, (outsAt0 m c (11 * q.val + f) (pt_lt q f (by omega))).2 (ix2 r k) = rms (aH m c (row q r)) (aP m c) k)
      ∧ ∀ j, (outsAt0 m c (11 * q.val + f) (pt_lt q f (by omega))).1 (ix2 r j) = ∑ n ∈ Finset.range (512 * (f + 1)), term m c (row q r) j n := by
  induction f with
  | zero =>
    have h0 : (⟨11 * q.val + 0, pt_lt q 0 (by omega)⟩ : Fin cfg0.N).val % 11 = 0 := by show (11 * q.val + 0) % 11 = 0; omega
    have hA := outsAt0_A m c ⟨11 * q.val + 0, pt_lt q 0 (by omega)⟩ h0 (by omega) (by omega)
    have hr := rowA m c q 0 (by omega) r
    have h1 : (fun k => iblk m c 1 ⟨11 * q.val + 0, pt_lt q 0 (by omega)⟩ (ix2 0 k)) = aP m c := funext fun k => blk1 m c _ k
    constructor
    · intro k
      refine (congrFun (congrArg Prod.snd hA) (ix2 r k)).trans ?_
      dsimp only
      rw [sout_A, hr, h1]
    · intro j
      refine (congrFun (congrArg Prod.fst hA) (ix2 r j)).trans ?_
      dsimp only
      rw [out_A, hr, h1, part_blk, h0, Ideal.ofBits_zero, zero_add]
      rfl
  | succ f ih =>
    obtain ⟨ih2, ih1⟩ := ih (by omega)
    have hm : (⟨11 * q.val + (f + 1), pt_lt q (f + 1) (by omega)⟩ : Fin cfg0.N).val % 11 = f + 1 := by show (11 * q.val + (f + 1)) % 11 = f + 1; omega
    have hB := outsAt0_B m c ⟨11 * q.val + (f + 1), pt_lt q (f + 1) (by omega)⟩ (by omega) (by omega) (by omega)
    have hp : ∀ h : _ < cfg0.N, outsAt0 m c ((⟨11 * q.val + (f + 1), pt_lt q (f + 1) (by omega)⟩ : Fin cfg0.N).val - 1) h = outsAt0 m c (11 * q.val + f) (pt_lt q f (by omega)) :=
      fun h => congr_out m c (by show 11 * q.val + (f + 1) - 1 = _; omega) _ _
    rw [hp] at hB
    constructor
    · intro k
      refine (congrFun (congrArg Prod.snd hB) (ix2 r k)).trans ?_
      dsimp only
      rw [sout_B]
      exact ih2 k
    · intro j
      refine (congrFun (congrArg Prod.fst hB) (ix2 r j)).trans ?_
      dsimp only
      rw [out_B, ih1, show (fun k => (outsAt0 m c (11 * q.val + f) (pt_lt q f (by omega))).2 (ix2 r k)) = rms (aH m c (row q r)) (aP m c) from funext ih2,
        part_blk, hm, show 512 * (f + 1 + 1) = 512 * (f + 1) + 512 from by omega, Finset.sum_range_add]

theorem last (q : Fin 32) (r : Fin 1024) (j : Fin 2048) :
    (outsAt0 m c (11 * q.val + 10) (pt_lt q 10 (by omega))).1 (ix2 r j)
      = aH m c (row q r) j + rms (fun k => ∑ n ∈ Finset.range 5632, term m c (row q r) k n) (aQ m c) j := by
  obtain ⟨ih2, ih1⟩ := state m c q 9 (by omega) r
  have hm : (⟨11 * q.val + 10, pt_lt q 10 (by omega)⟩ : Fin cfg0.N).val % 11 = 10 := by show (11 * q.val + 10) % 11 = 10; omega
  have hC := outsAt0_C m c ⟨11 * q.val + 10, pt_lt q 10 (by omega)⟩ (by omega) (by omega) hm
  have hp : ∀ h : _ < cfg0.N, outsAt0 m c ((⟨11 * q.val + 10, pt_lt q 10 (by omega)⟩ : Fin cfg0.N).val - 1) h = outsAt0 m c (11 * q.val + 9) (pt_lt q 9 (by omega)) :=
    fun h => congr_out m c (by show 11 * q.val + 10 - 1 = _; omega) _ _
  rw [hp] at hC
  refine (congrFun (congrArg Prod.fst hC) (ix2 r j)).trans ?_
  dsimp only
  rw [out_C, show (fun k => (outsAt0 m c (11 * q.val + 9) (pt_lt q 9 (by omega))).2 (ix2 r k)) = rms (aH m c (row q r)) (aP m c) from funext ih2]
  rw [show (fun k => iblk m c 5 ⟨11 * q.val + 10, pt_lt q 10 (by omega)⟩ (ix2 0 k)) = aQ m c from funext fun k => blk5 m c _ k]
  rw [show iblk m c 0 ⟨11 * q.val + 10, pt_lt q 10 (by omega)⟩ (ix2 r j) = aH m c (row q r) j from congrFun (rowA m c q 10 (by omega) r) j]
  congr 2
  funext k
  rw [ih1, part_blk, hm, show 5632 = 512 * (9 + 1) + 512 from rfl, Finset.sum_range_add]

/-- WHAT THE KERNEL LEAVES at entry `(i, j)` of its result. -/
theorem result (i : Fin 32768) (j : Fin 2048) :
    (Cert.FfnIdeal.Value.G6 m c : Vec Ideal S32768x2048 .f32) (ix2 i j)
      = aH m c i j + rms (fun k => ∑ n : Fin 5632, unit (rms (aH m c i) (aP m c)) (fun k => aG m c k n) (fun k => aU m c k n) * aD m c n k) (aQ m c) j := by
  have hi : i = row ⟨i.val / 1024, by omega⟩ ⟨i.val % 1024, by omega⟩ := Fin.ext (by show i.val = 1024 * (i.val / 1024) + i.val % 1024; omega)
  have hl := last m c ⟨i.val / 1024, by omega⟩ ⟨i.val % 1024, by omega⟩ j
  rw [← hi] at hl
  have hpt : Cert.FfnIdeal.Value.pt6Of (ix2 i j) = 11 * (i.val / 1024) + 10 := by
    show 11 * (1 * (i.val / 1024 - 0) + 1 * (j.val / 2048 - 0)) + 10 = _
    omega
  have hloc : Cert.FfnIdeal.Value.loc6Of (ix2 i j) = ix2 ⟨i.val % 1024, by omega⟩ j := by
    funext a; apply Fin.ext
    match a with
    | ⟨0, _⟩ => rfl
    | ⟨1, _⟩ => show j.val % 2048 = j.val; omega
  have hlt : Cert.FfnIdeal.Value.pt6Of (ix2 i j) < cfg0.N := by rw [hpt]; exact pt_lt ⟨i.val / 1024, by omega⟩ 10 (by omega)
  unfold Cert.FfnIdeal.Value.G6
  rw [dif_pos hlt, ← Cert.FfnIdeal.Value.outsAt0_sweep m c _ hlt, hloc, congr_out m c hpt hlt (pt_lt ⟨i.val / 1024, by omega⟩ 10 (by omega)), hl]
  rw [show (fun k => ∑ n ∈ Finset.range 5632, term m c i k n)
      = fun k => ∑ n : Fin 5632, unit (rms (aH m c i) (aP m c)) (fun k => aG m c k n) (fun k => aU m c k n) * aD m c n k from funext fun k => by
    rw [Finset.sum_range]
    refine Finset.sum_congr rfl fun n _ => ?_
    unfold term
    rw [dif_pos n.isLt]]

end Cert.FfnIdeal.Fold
end
-- ==== Proof.Ffn.Real.lean ====
module
public import proofs.«01_k».proof.Proof.Ffn.Block
public import Idealize.ShloMosaic.Lib.IdealHost

/-! Finite extended reals: sums, products and root mean squares of them are finite, and on a finite number the kernel's
    gate is the number over one plus the exponential of its negative. -/

@[expose] public section
noncomputable section
namespace Cert.Finite
open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, by rw [EReal.coe_mul]⟩

theorem IsReal.add {x y : EReal} (hx : IsReal x) (hy : IsReal y) : IsReal (x + y) := by
  obtain ⟨a, rfl⟩ := hx; obtain ⟨b, rfl⟩ := hy
  exact ⟨a + b, by rw [EReal.coe_add]⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

theorem IsReal.of_abs_lt {x : EReal} (h : max x (-x) < ⊤) : IsReal x := by
  induction x with
  | bot => simp at h
  | top => simp at h
  | coe r => exact ⟨r, rfl⟩

/-- A sum of squares of finite numbers is a real number that is not negative. -/
theorem sum_sq {n : ℕ} {f : Fin n → EReal} (h : ∀ i, IsReal (f i)) : ∃ r : ℝ, 0 ≤ r ∧ (∑ i, f i * f i) = (r : EReal) := by
  choose g hg using h
  refine ⟨∑ i, g i * g i, Finset.sum_nonneg fun i _ => mul_self_nonneg _, ?_⟩
  rw [show (∑ i, f i * f i) = ∑ i, ((g i * g i : ℝ) : EReal) from Finset.sum_congr rfl fun i _ => by rw [hg, EReal.coe_mul]]
  induction (Finset.univ : Finset (Fin n)) using Finset.induction_on with
  | empty => simp
  | insert a s ha ih => rw [Finset.sum_insert ha, Finset.sum_insert ha, ih, EReal.coe_add]

theorem c2048 : Ideal.ofBits .f32 0x45000000#32 = ((2048 : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem eps : ∃ e : ℝ, 0 < e ∧ Ideal.ofBits .f32 0x358637BD#32 = (e : EReal) := by
  refine ⟨_, ?_, by simp [Ideal.ofBits, Ideal.ieee, -EReal.coe_mul]; rfl⟩
  norm_num

open Cert.FfnIdeal.Block in
theorem IsReal.rms {h w : Fin 2048 → EReal} (hh : ∀ k, IsReal (h k)) (hw : ∀ k, IsReal (w k)) (k : Fin 2048) : IsReal (rms h w k) := by
  unfold Cert.FfnIdeal.Block.rms
  obtain ⟨s, hs, es⟩ := sum_sq hh
  obtain ⟨e, he, ee⟩ := eps
  refine ((hh k).mul ?_).mul (hw k)
  rw [es, c2048, ee, Ideal.div_coe (by norm_num), ← EReal.coe_mul, ← EReal.coe_add]
  have hp : 0 < s * (1 / 2048) + e := by positivity
  rw [Ideal.rsqrt_coe, if_neg (by linarith), if_neg (by linarith)]
  exact ⟨_, rfl⟩

/-- On a finite number the kernel's gate is the number times the logistic function of it. -/
theorem sg_eq {x : EReal} (hx : IsReal x) : Cert.FfnIdeal.Block.sg x = x * Ideal.logistic x := by
  obtain ⟨r, rfl⟩ := hx
  unfold Cert.FfnIdeal.Block.sg
  rw [half, ← EReal.coe_mul, Ideal.tanh_coe, ← EReal.coe_mul, ← EReal.coe_add, Ideal.logistic_coe, ← EReal.coe_mul, EReal.coe_eq_coe_iff]
  have hE : Real.exp (-r) = Real.exp (-(1 / 2 * r)) * Real.exp (-(1 / 2 * r)) := by rw [← Real.exp_add]; congr 1; ring
  have hI : Real.exp (1 / 2 * r) * Real.exp (-(1 / 2 * r)) = 1 := by rw [← Real.exp_add]; simp
  rw [hE, Real.tanh_eq_sinh_div_cosh, Real.sinh_eq, Real.cosh_eq]
  have ha := Real.exp_pos (1 / 2 * r)
  have hb := Real.exp_pos (-(1 / 2 * r))
  generalize Real.exp (1 / 2 * r) = a at *
  generalize Real.exp (-(1 / 2 * r)) = b at *
  have hs : a + b ≠ 0 := by positivity
  have hd : 1 + b * b ≠ 0 := by positivity
  field_simp
  have ea : a = 1 / b := by field_simp; linarith
  subst ea
  field_simp
  ring

end Cert.Finite
end
-- ==== Proof.Ffn.Reference.lean ====
module
public import proofs.«01_k».proof.Proof.Ffn.Block
public import proofs.«01_k».proof.Proof.Gen.FfnReferenceIdeal.Read

/-! The feed-forward reference read at an entry of its result. -/

@[expose] public section
set_option maxRecDepth 65536
noncomputable section
namespace Cert.FfnReferenceIdeal.At
open Cert.FfnReferenceIdeal Cert.FfnReferenceIdeal.Read Cert.FfnIdeal.Block Idealize.ShloMosaic

variable (x0 : Vec Ideal S32768x2048 .f32) (x1 : Vec Ideal S2048 .f32) (x2 x3 : Vec Ideal S2048x5632 .f32) (x4 : Vec Ideal S5632x2048 .f32) (x5 : Vec Ideal S2048 .f32)

theorem v12_at (i : Fin 32768) (k : Fin 2048) :
    val_main_v12 (F := Ideal) x0 x1 (ix2 i k) = rms (fun k => x0 (ix2 i k)) (fun k => x1 (ix1 k)) k := by
  have e8 : idx_main_v8 (ix2 i k) = ix2 i 0 := by funext a; match a with | ⟨0, _⟩ => rfl | ⟨1, _⟩ => rfl
  have e2 : idx_main_v2 (ix2 i 0) = ix1 i := by funext a; match a with | ⟨0, _⟩ => rfl
  have e1 : ∀ q, idx_main_v1 (ix1 i) q = ix2 i q := fun q => by funext a; match a with | ⟨0, _⟩ => rfl | ⟨1, _⟩ => rfl
  have e11 : idx_main_v11 (ix2 i k) = ix2 0 k := by funext a; match a with | ⟨0, _⟩ => rfl | ⟨1, _⟩ => rfl
  have e10 : idx_main_v10 (ix2 0 k) = ix1 k := by funext a; match a with | ⟨0, _⟩ => rfl
  rw [val_main_v12_apply, val_main_v9_apply, val_main_v8_apply, e8, val_main_v7_apply, val_main_v6_apply, val_main_v4_apply, val_main_v2_apply, e2,
    val_main_v1_apply, val_main_v11_apply, e11, val_main_v10_apply, e10, val_main_v3_apply, val_main_v5_apply, val_main_cst_apply, val_main_cst_0_apply, val_main_cst_1_apply]
  simp only [e1, val_main_v0_apply]
  unfold rms
  simp only [Ideal.ofBits_def, Ideal.ofBits_zero_f32, zero_add]
  rfl

/-- One hidden unit of a row as the reference spells it. -/
def unitR (v g u : Fin 2048 → EReal) : EReal :=
  ((∑ k, v k * g k) * Ideal.logistic (∑ k, v k * g k)) * ∑ k, v k * u k

theorem v13_at (i : Fin 32768) (n : Fin 5632) :
    val_main_v13 (F := Ideal) x0 x1 x2 (ix2 i n) = ∑ k, rms (fun k => x0 (ix2 i k)) (fun k => x1 (ix1 k)) k * x2 (ix2 k n) := by
  have el : ∀ k, lidx_main_v13 (ix2 i n) k = ix2 i k := fun q => by funext a; match a with | ⟨0, _⟩ => rfl | ⟨1, _⟩ => rfl
  have er : ∀ k, ridx_main_v13 (ix2 i n) k = ix2 k n := fun q => by funext a; match a with | ⟨0, _⟩ => rfl | ⟨1, _⟩ => rfl
  rw [val_main_v13_apply]
  simp only [el, er, v12_at]

theorem v15_at (i : Fin 32768) (n : Fin 5632) :
    val_main_v15 (F := Ideal) x0 x1 x3 (ix2 i n) = ∑ k, rms (fun k => x0 (ix2 i k)) (fun k => x1 (ix1 k)) k * x3 (ix2 k n) := by
  have el : ∀ k, lidx_main_v15 (ix2 i n) k = ix2 i k := fun q => by funext a; match a with | ⟨0, _⟩ => rfl | ⟨1, _⟩ => rfl
  have er : ∀ k, ridx_main_v15 (ix2 i n) k = ix2 k n := fun q => by funext a; match a with | ⟨0, _⟩ => rfl | ⟨1, _⟩ => rfl
  rw [val_main_v15_apply]
  simp only [el, er, v12_at]

theorem v16_at (i : Fin 32768) (n : Fin 5632) :
    val_main_v16 (F := Ideal) x0 x1 x2 x3 (ix2 i n)
      = unitR (rms (fun k => x0 (ix2 i k)) (fun k => x1 (ix1 k))) (fun k => x2 (ix2 k n)) (fun k => x3 (ix2 k n)) := by
  rw [val_main_v16_apply, val_main_v14_apply, val_main_call0_v5_apply, val_main_call0_v4_apply, val_main_call0_cst_0_apply, val_main_call0_v3_apply,
    val_main_call0_v2_apply, val_main_call0_cst_apply, val_main_call0_v1_apply, val_main_call0_v0_apply, v13_at, v15_at]
  simp only [Ideal.ofBits_def, Ideal.ofBits_one_f32]
  rfl

theorem v17_at (i : Fin 32768) (j : Fin 2048) :
    val_main_v17 (F := Ideal) x0 x1 x2 x3 x4 (ix2 i j)
      = ∑ n, unitR (rms (fun k => x0 (ix2 i k)) (fun k => x1 (ix1 k))) (fun k => x2 (ix2 k n)) (fun k => x3 (ix2 k n)) * x4 (ix2 n j) := by
  have el : ∀ k, lidx_main_v17 (ix2 i j) k = ix2 i k := fun q => by funext a; match a with | ⟨0, _⟩ => rfl | ⟨1, _⟩ => rfl
  have er : ∀ k, ridx_main_v17 (ix2 i j) k = ix2 k j := fun q => by funext a; match a with | ⟨0, _⟩ => rfl | ⟨1, _⟩ => rfl
  rw [val_main_v17_apply]
  simp only [el, er, v16_at]

/-- WHAT THE REFERENCE RETURNS at entry `(i, k)`. -/
theorem v31_at (i : Fin 32768) (k : Fin 2048) :
    val_main_v31 (F := Ideal) x0 x1 x2 x3 x4 x5 (ix2 i k)
      = x0 (ix2 i k) + rms (fun j => ∑ n, unitR (rms (fun k => x0 (ix2 i k)) (fun k => x1 (ix1 k))) (fun k => x2 (ix2 k n)) (fun k => x3 (ix2 k n)) * x4 (ix2 n j)) (fun k => x5 (ix1 k)) k := by
  have e26 : idx_main_v26 (ix2 i k) = ix2 i 0 := by funext a; match a with | ⟨0, _⟩ => rfl | ⟨1, _⟩ => rfl
  have e20 : idx_main_v20 (ix2 i 0) = ix1 i := by funext a; match a with | ⟨0, _⟩ => rfl
  have e19 : ∀ q, idx_main_v19 (ix1 i) q = ix2 i q := fun q => by funext a; match a with | ⟨0, _⟩ => rfl | ⟨1, _⟩ => rfl
  have e29 : idx_main_v29 (ix2 i k) = ix2 0 k := by funext a; match a with | ⟨0, _⟩ => rfl | ⟨1, _⟩ => rfl
  have e28 : idx_main_v28 (ix2 0 k) = ix1 k := by funext a; match a with | ⟨0, _⟩ => rfl
  rw [val_main_v31_apply, val_main_v30_apply, val_main_v27_apply, val_main_v26_apply, e26, val_main_v25_apply, val_main_v24_apply, val_main_v22_apply, val_main_v20_apply, e20,
    val_main_v19_apply, val_main_v29_apply, e29, val_main_v28_apply, e28, val_main_v21_apply, val_main_v23_apply, val_main_cst_2_apply, val_main_cst_3_apply, val_main_cst_4_apply]
  simp only [e19, val_main_v18_apply, v17_at]
  unfold rms
  simp only [Ideal.ofBits_def, Ideal.ofBits_zero_f32, zero_add]
  rfl

end Cert.FfnReferenceIdeal.At
end
-- ==== Proof.Ffn.Tie.lean ====
module
public import proofs.«01_k».proof.Defs
public import proofs.«01_k».proof.Proof.Ffn.Fold
public import proofs.«01_k».proof.Proof.Ffn.Real
public import proofs.«01_k».proof.Proof.Ffn.Reference
public import Idealize.ShloMosaic.Lib.ReduceAll

/-! The feed-forward kernel and its reference leave one array, where the input rows, the first weights and the gate's
    weights are finite. -/

@[expose] public section
set_option maxRecDepth 65536
noncomputable section
namespace Cert.FfnTie
open Idealize.ShloMosaic Idealize.ShloMosaic.TcCoe Idealize.SL.Sem Cert.Finite

theorem facts : Cert.Pre_finite_gate.Facts :=
  ⟨by decide, by decide, by decide, by decide, by decide, by decide, by decide⟩

attribute [local instance] facts

theorem fin_of_bit {x : EReal} (h : FloatOps.cmpf (F := Ideal) (φ := .f32) .olt (FloatOps.hostAbsf x) (FloatOps.ofBits .f32 0x7F800000#32) = 1#1) : IsReal x := by
  have e : Ideal.ofBits .f32 0x7F800000#32 = ⊤ := by simp [Ideal.ofBits, Ideal.ieee]
  have h' : BitVec.ofBool (decide (max x (-x) < Ideal.ofBits .f32 0x7F800000#32)) = 1#1 := h
  rw [e] at h'
  refine IsReal.of_abs_lt ?_
  by_contra hn
  rw [decide_eq_false hn] at h'
  exact absurd h' (by decide)

theorem pre_fin (x0 : Vec Ideal Cert.FfnIdeal.S32768x2048 .f32) (x1 : Vec Ideal Cert.FfnIdeal.S2048 .f32) (x2 x3 : Vec Ideal Cert.FfnIdeal.S2048x5632 .f32)
    (x4 : Vec Ideal Cert.FfnIdeal.S5632x2048 .f32) (x5 : Vec Ideal Cert.FfnIdeal.S2048 .f32)
    (h : Cert.Pre_finite_gate.fn (F := Ideal) x0 x1 x2 x3 x4 x5 = fun _ => 1#1) :
    (∀ i, IsReal (x0 i)) ∧ (∀ i, IsReal (x1 i)) ∧ ∀ i, IsReal (x2 i) := by
  have hj := congrFun h (fun a => a.elim0)
  dsimp only [Cert.Pre_finite_gate.fn] at hj
  have key : ∀ a b : BitVec 1, IntOp.andi a b = 1#1 → a = 1#1 ∧ b = 1#1 := by decide
  obtain ⟨h01, h2⟩ := key _ _ hj
  obtain ⟨h0, h1⟩ := key _ _ h01
  have one : ∀ i j : Cert.Pre_finite_gate.S_.Idx, i = j := fun i j => funext fun a => a.elim0
  refine ⟨fun i => ?_, fun i => ?_, fun i => ?_⟩
  · exact fin_of_bit (Host.reduce_andi_all _ _ _ _ _ h0 i)
  · exact fin_of_bit (Host.reduce_andi_all _ _ _ _ _ h1 i)
  · exact fin_of_bit (Host.reduce_andi_all _ _ _ _ _ h2 i)

open Cert.FfnIdeal.Fold in
/-- The kernel's result array is the reference's. -/
theorem tie (m : (ℓ : Loc Cert.FfnIdeal.nD Cert.FfnIdeal.τ Cert.FfnIdeal.sig) → Buf (Elt Ideal) ℓ)
    (m' : (ℓ : Loc Cert.FfnReferenceIdeal.nD Cert.FfnReferenceIdeal.τ Cert.FfnReferenceIdeal.sig) → Buf (Elt Ideal) ℓ) (c : Dev Cert.FfnIdeal.nD)
    (hpre : Cert.Pre_finite_gate.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) = fun _ => 1#1)
    (hagree : m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) :
    (Cert.FfnReferenceIdeal.Value.res_main_v31 (F := Ideal) m' c : Vec Ideal Cert.FfnIdeal.S32768x2048 .f32)
      = (Cert.FfnIdeal.Value.G6 (F := Ideal) m c : Vec Ideal Cert.FfnIdeal.S32768x2048 .f32) := by
  obtain ⟨a0, a1, a2, a3, a4, a5⟩ := hagree
  obtain ⟨f0, f1, f2⟩ := pre_fin _ _ _ _ _ _ hpre
  funext y
  obtain ⟨i, j, rfl⟩ : ∃ (i : Fin 32768) (j : Fin 2048), y = ix2 i j :=
    ⟨y 0, y 1, funext fun a => match a with | ⟨0, _⟩ => rfl | ⟨1, _⟩ => rfl⟩
  rw [result m c i j, Cert.FfnReferenceIdeal.Read.val_main_v31_eq, a0, a1, a2, a3, a4, a5]
  refine (Cert.FfnReferenceIdeal.At.v31_at _ _ _ _ _ _ i j).trans ?_
  have hv : ∀ k, IsReal (Cert.FfnIdeal.Block.rms (aH m c i) (aP m c) k) := fun k => IsReal.rms (fun k => f0 (ix2 i k)) (fun k => f1 (ix1 k)) k
  have hu : ∀ n : Fin 5632, Cert.FfnReferenceIdeal.At.unitR (Cert.FfnIdeal.Block.rms (aH m c i) (aP m c)) (fun k => aG m c k n) (fun k => aU m c k n)
      = Cert.FfnIdeal.Block.unit (Cert.FfnIdeal.Block.rms (aH m c i) (aP m c)) (fun k => aG m c k n) (fun k => aU m c k n) := fun n => by
    unfold Cert.FfnReferenceIdeal.At.unitR Cert.FfnIdeal.Block.unit
    rw [sg_eq (IsReal.sum _ fun k => (hv k).mul (f2 (ix2 k n)))]
  have hs : (fun j => ∑ n, Cert.FfnReferenceIdeal.At.unitR (Cert.FfnIdeal.Block.rms (aH m c i) (aP m c)) (fun k => aG m c k n) (fun k => aU m c k n) * aD m c n j)
      = fun j => ∑ n, Cert.FfnIdeal.Block.unit (Cert.FfnIdeal.Block.rms (aH m c i) (aP m c)) (fun k => aG m c k n) (fun k => aU m c k n) * aD m c n j :=
    funext fun j => Finset.sum_congr rfl fun n _ => by rw [hu n]
  exact congrArg (fun z => aH m c i j + Cert.FfnIdeal.Block.rms z (aQ m c) j) hs

end Cert.FfnTie
end
-- ==== Proof.lean ====
/- The claims of this certificate: the attention call against its reference, and the feed-forward call against its
   reference, each with its frames. -/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.ReferenceIdeal.Read
public import proofs.«01_k».proof.Proof.Attn.FrameP
public import proofs.«01_k».proof.Proof.Attn.Tie
public import proofs.«01_k».proof.Proof.Gen.Ffn.Frame
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.Ffn.Tie
public import Idealize.ShloMosaic.Adequacy
public import Idealize.ShloMosaic.Init
public import Idealize.ShloMosaic.Lib.Quiescent

@[expose] public section

noncomputable section

namespace Cert.Proof

open Idealize.ShloMosaic Idealize.SL.Sem

attribute [local instance] Cert.FfnTie.facts Cert.Attn.facts

theorem frame_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_Attn : algebraic_KernelIdeal_ReferenceIdeal_pre_finite := by
  intro m ρ m' ρ' hpre hagree
  refine ⟨_, Cert.Attn.run_blocks (F := Ideal) m ρ, ?_⟩
  refine (θ_run Cert.ReferenceIdeal.defs _ _).mono (fun _ h c => ⟨?_, (h c).2⟩) (Cert.ReferenceIdeal.Value.run (F := Ideal) m' ρ')
  rw [(h c).1]
  exact Cert.Attn.tie m c m' (hpre c) (hagree c)

theorem frame_FfnReferenceIdeal : quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

theorem algebraic_Ffn : algebraic_FfnIdeal_FfnReferenceIdeal_pre_finite_gate := by
  intro m ρ m' ρ' hpre hagree
  refine ⟨_, Cert.FfnIdeal.Value.run (F := Ideal) m ρ, ?_⟩
  refine (θ_run Cert.FfnReferenceIdeal.defs _ _).mono (fun _ h c => ⟨?_, (h c).2⟩) (Cert.FfnReferenceIdeal.Value.run (F := Ideal) m' ρ')
  rw [(h c).1]
  exact Cert.FfnTie.tie m m' c (hpre c) (hagree c)

theorem claim : Cert.Claim := ⟨Cert.Kernel.Gen.facts, Cert.KernelIdeal.Gen.facts, Cert.ReferenceIdeal.Gen.facts, Cert.Ffn.Gen.facts,
  Cert.FfnIdeal.Gen.facts, Cert.FfnReferenceIdeal.Gen.facts, Cert.Attn.facts, Cert.FfnTie.facts,
  Cert.AttnFrameP.frame, fun m ρ _ => Cert.Attn.frame (F := Ideal) m ρ, fun m ρ _ => Cert.Attn.frame (F := Ideal) m ρ,
  frame_ReferenceIdeal, fun m ρ _ => frame_ReferenceIdeal m ρ trivial,
  fun m ρ _ => Cert.Ffn.Gen.frame m ρ, fun m ρ _ => Cert.FfnIdeal.Gen.frame m ρ, fun m ρ _ => Cert.FfnIdeal.Gen.frame m ρ,
  frame_FfnReferenceIdeal, fun m ρ _ => frame_FfnReferenceIdeal m ρ trivial, trivial, algebraic_Attn, trivial, algebraic_Ffn⟩

end Cert.Proof

end
